-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcRefIdeal (m : (ℓ : Loc Cert.InXbcRefIdeal.nD Cert.InXbcRefIdeal.τ Cert.InXbcRefIdeal.sig) → Buf (Elt Ideal) ℓ) : Prop :=
  True

def Pre_InDt (m : (ℓ : Loc Cert.InDt.nD Cert.InDt.τ Cert.InDt.sig) → Buf (Elt Bits) ℓ) : Prop :=
  True

def Pre_InDtIdeal (m : (ℓ : Loc Cert.InDtIdeal.nD Cert.InDtIdeal.τ Cert.InDtIdeal.sig) → Buf (Elt Ideal) ℓ) : Prop :=
  True

def Pre_InDtRefIdeal (m : (ℓ : Loc Cert.InDtRefIdeal.nD Cert.InDtRefIdeal.τ Cert.InDtRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_GateNorm (m : (ℓ : Loc Cert.GateNorm.nD Cert.GateNorm.τ Cert.GateNorm.sig) → Buf (Elt Bits) ℓ) : Prop :=
  True

def Pre_GateNormIdeal (m : (ℓ : Loc Cert.GateNormIdeal.nD Cert.GateNormIdeal.τ Cert.GateNormIdeal.sig) → Buf (Elt Ideal) ℓ) : Prop :=
  True

def Pre_GateNormRefIdeal (m : (ℓ : Loc Cert.GateNormRefIdeal.nD Cert.GateNormRefIdeal.τ Cert.GateNormRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpRefIdeal (m : (ℓ : Loc Cert.GmlpRefIdeal.nD Cert.GmlpRefIdeal.τ Cert.GmlpRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombRefIdeal (m : (ℓ : Loc Cert.CombRefIdeal.nD Cert.CombRefIdeal.τ Cert.CombRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcRefIdeal [hInXbcRefIdeal : Cert.InXbcRefIdeal.Facts] : Prop :=
  ∀ (m : (ℓ : Loc Cert.InXbcRefIdeal.nD Cert.InXbcRefIdeal.τ Cert.InXbcRefIdeal.sig) → Buf (Elt Ideal) ℓ) (g : Dev Cert.InXbcRefIdeal.nD → PrngReg), Pre_InXbcRefIdeal m →
    θ_run (Cert.InXbcRefIdeal.defs (F := Ideal)) (onTc (τ := Cert.InXbcRefIdeal.τ) (Cert.InXbcRefIdeal.main (F := Ideal))) ⟨m, fun _ => 0, g⟩ (fun r => (∀ c : Dev Cert.InXbcRefIdeal.nD,
      r.2.mem ((c.tc : Thread Cert.InXbcRefIdeal.nD Cert.InXbcRefIdeal.τ).loc Cert.InXbcRefIdeal.main_arg0) = m ((c.tc : Thread Cert.InXbcRefIdeal.nD Cert.InXbcRefIdeal.τ).loc Cert.InXbcRefIdeal.main_arg0)
      ∧ r.2.mem ((c.tc : Thread Cert.InXbcRefIdeal.nD Cert.InXbcRefIdeal.τ).loc Cert.InXbcRefIdeal.main_arg1) = m ((c.tc : Thread Cert.InXbcRefIdeal.nD Cert.InXbcRefIdeal.τ).loc Cert.InXbcRefIdeal.main_arg1))
      ∧ r.2.sem = fun _ => 0)

def quiescent_InDt [hInDt : Cert.InDt.Facts] : Prop :=
  ∀ (m : (ℓ : Loc Cert.InDt.nD Cert.InDt.τ Cert.InDt.sig) → Buf (Elt Bits) ℓ) (g : Dev Cert.InDt.nD → PrngReg), Pre_InDt m →
    θ_run (Cert.InDt.defs (F := Bits)) (onTc (τ := Cert.InDt.τ) (Cert.InDt.main (F := Bits))) ⟨m, fun _ => 0, g⟩ (fun r => (∀ c : Dev Cert.InDt.nD,
      r.2.mem ((c.tc : Thread Cert.InDt.nD Cert.InDt.τ).loc Cert.InDt.main_arg0) = m ((c.tc : Thread Cert.InDt.nD Cert.InDt.τ).loc Cert.InDt.main_arg0)
      ∧ r.2.mem ((c.tc : Thread Cert.InDt.nD Cert.InDt.τ).loc Cert.InDt.main_arg1) = m ((c.tc : Thread Cert.InDt.nD Cert.InDt.τ).loc Cert.InDt.main_arg1))
      ∧ r.2.sem = fun _ => 0)

def quiescent_InDtIdeal [hInDtIdeal : Cert.InDtIdeal.Facts] : Prop :=
  ∀ (m : (ℓ : Loc Cert.InDtIdeal.nD Cert.InDtIdeal.τ Cert.InDtIdeal.sig) → Buf (Elt Ideal) ℓ) (g : Dev Cert.InDtIdeal.nD → PrngReg), Pre_InDtIdeal m →
    θ_run (Cert.InDtIdeal.defs (F := Ideal)) (onTc (τ := Cert.InDtIdeal.τ) (Cert.InDtIdeal.main (F := Ideal))) ⟨m, fun _ => 0, g⟩ (fun r => (∀ c : Dev Cert.InDtIdeal.nD,
      r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
      ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ r.2.sem = fun _ => 0)

def quiescent_InDtRefIdeal [hInDtRefIdeal : Cert.InDtRefIdeal.Facts] : Prop :=
  ∀ (m : (ℓ : Loc Cert.InDtRefIdeal.nD Cert.InDtRefIdeal.τ Cert.InDtRefIdeal.sig) → Buf (Elt Ideal) ℓ) (g : Dev Cert.InDtRefIdeal.nD → PrngReg), Pre_InDtRefIdeal m →
    θ_run (Cert.InDtRefIdeal.defs (F := Ideal)) (onTc (τ := Cert.InDtRefIdeal.τ) (Cert.InDtRefIdeal.main (F := Ideal))) ⟨m, fun _ => 0, g⟩ (fun r => (∀ c : Dev Cert.InDtRefIdeal.nD,
      r.2.mem ((c.tc : Thread Cert.InDtRefIdeal.nD Cert.InDtRefIdeal.τ).loc Cert.InDtRefIdeal.main_arg0) = m ((c.tc : Thread Cert.InDtRefIdeal.nD Cert.InDtRefIdeal.τ).loc Cert.InDtRefIdeal.main_arg0)
      ∧ r.2.mem ((c.tc : Thread Cert.InDtRefIdeal.nD Cert.InDtRefIdeal.τ).loc Cert.InDtRefIdeal.main_arg1) = m ((c.tc : Thread Cert.InDtRefIdeal.nD Cert.InDtRefIdeal.τ).loc Cert.InDtRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3)
      ∧ r.2.mem ((c.tc : Thread Cert.AbOut.nD Cert.AbOut.τ).loc Cert.AbOut.main_arg4) = m ((c.tc : Thread Cert.AbOut.nD Cert.AbOut.τ).loc Cert.AbOut.main_arg4))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
      ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3)
      ∧ r.2.mem ((c.tc : Thread Cert.AbOutRefIdeal.nD Cert.AbOutRefIdeal.τ).loc Cert.AbOutRefIdeal.main_arg4) = m ((c.tc : Thread Cert.AbOutRefIdeal.nD Cert.AbOutRefIdeal.τ).loc Cert.AbOutRefIdeal.main_arg4))
      ∧ r.2.sem = fun _ => 0)

def quiescent_GateNorm [hGateNorm : Cert.GateNorm.Facts] : Prop :=
  ∀ (m : (ℓ : Loc Cert.GateNorm.nD Cert.GateNorm.τ Cert.GateNorm.sig) → Buf (Elt Bits) ℓ) (g : Dev Cert.GateNorm.nD → PrngReg), Pre_GateNorm m →
    θ_run (Cert.GateNorm.defs (F := Bits)) (onTc (τ := Cert.GateNorm.τ) (Cert.GateNorm.main (F := Bits))) ⟨m, fun _ => 0, g⟩ (fun r => (∀ c : Dev Cert.GateNorm.nD,
      r.2.mem ((c.tc : Thread Cert.GateNorm.nD Cert.GateNorm.τ).loc Cert.GateNorm.main_arg0) = m ((c.tc : Thread Cert.GateNorm.nD Cert.GateNorm.τ).loc Cert.GateNorm.main_arg0)
      ∧ r.2.mem ((c.tc : Thread Cert.GateNorm.nD Cert.GateNorm.τ).loc Cert.GateNorm.main_arg1) = m ((c.tc : Thread Cert.GateNorm.nD Cert.GateNorm.τ).loc Cert.GateNorm.main_arg1)
      ∧ r.2.mem ((c.tc : Thread Cert.GateNorm.nD Cert.GateNorm.τ).loc Cert.GateNorm.main_arg2) = m ((c.tc : Thread Cert.GateNorm.nD Cert.GateNorm.τ).loc Cert.GateNorm.main_arg2))
      ∧ r.2.sem = fun _ => 0)

def quiescent_GateNormIdeal [hGateNormIdeal : Cert.GateNormIdeal.Facts] : Prop :=
  ∀ (m : (ℓ : Loc Cert.GateNormIdeal.nD Cert.GateNormIdeal.τ Cert.GateNormIdeal.sig) → Buf (Elt Ideal) ℓ) (g : Dev Cert.GateNormIdeal.nD → PrngReg), Pre_GateNormIdeal m →
    θ_run (Cert.GateNormIdeal.defs (F := Ideal)) (onTc (τ := Cert.GateNormIdeal.τ) (Cert.GateNormIdeal.main (F := Ideal))) ⟨m, fun _ => 0, g⟩ (fun r => (∀ c : Dev Cert.GateNormIdeal.nD,
      r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
      ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
      ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ r.2.sem = fun _ => 0)

def quiescent_GateNormRefIdeal [hGateNormRefIdeal : Cert.GateNormRefIdeal.Facts] : Prop :=
  ∀ (m : (ℓ : Loc Cert.GateNormRefIdeal.nD Cert.GateNormRefIdeal.τ Cert.GateNormRefIdeal.sig) → Buf (Elt Ideal) ℓ) (g : Dev Cert.GateNormRefIdeal.nD → PrngReg), Pre_GateNormRefIdeal m →
    θ_run (Cert.GateNormRefIdeal.defs (F := Ideal)) (onTc (τ := Cert.GateNormRefIdeal.τ) (Cert.GateNormRefIdeal.main (F := Ideal))) ⟨m, fun _ => 0, g⟩ (fun r => (∀ c : Dev Cert.GateNormRefIdeal.nD,
      r.2.mem ((c.tc : Thread Cert.GateNormRefIdeal.nD Cert.GateNormRefIdeal.τ).loc Cert.GateNormRefIdeal.main_arg0) = m ((c.tc : Thread Cert.GateNormRefIdeal.nD Cert.GateNormRefIdeal.τ).loc Cert.GateNormRefIdeal.main_arg0)
      ∧ r.2.mem ((c.tc : Thread Cert.GateNormRefIdeal.nD Cert.GateNormRefIdeal.τ).loc Cert.GateNormRefIdeal.main_arg1) = m ((c.tc : Thread Cert.GateNormRefIdeal.nD Cert.GateNormRefIdeal.τ).loc Cert.GateNormRefIdeal.main_arg1)
      ∧ r.2.mem ((c.tc : Thread Cert.GateNormRefIdeal.nD Cert.GateNormRefIdeal.τ).loc Cert.GateNormRefIdeal.main_arg2) = m ((c.tc : Thread Cert.GateNormRefIdeal.nD Cert.GateNormRefIdeal.τ).loc Cert.GateNormRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ r.2.sem = fun _ => 0)

def quiescent_GmlpRefIdeal [hGmlpRefIdeal : Cert.GmlpRefIdeal.Facts] : Prop :=
  ∀ (m : (ℓ : Loc Cert.GmlpRefIdeal.nD Cert.GmlpRefIdeal.τ Cert.GmlpRefIdeal.sig) → Buf (Elt Ideal) ℓ) (g : Dev Cert.GmlpRefIdeal.nD → PrngReg), Pre_GmlpRefIdeal m →
    θ_run (Cert.GmlpRefIdeal.defs (F := Ideal)) (onTc (τ := Cert.GmlpRefIdeal.τ) (Cert.GmlpRefIdeal.main (F := Ideal))) ⟨m, fun _ => 0, g⟩ (fun r => (∀ c : Dev Cert.GmlpRefIdeal.nD,
      r.2.mem ((c.tc : Thread Cert.GmlpRefIdeal.nD Cert.GmlpRefIdeal.τ).loc Cert.GmlpRefIdeal.main_arg0) = m ((c.tc : Thread Cert.GmlpRefIdeal.nD Cert.GmlpRefIdeal.τ).loc Cert.GmlpRefIdeal.main_arg0)
      ∧ r.2.mem ((c.tc : Thread Cert.GmlpRefIdeal.nD Cert.GmlpRefIdeal.τ).loc Cert.GmlpRefIdeal.main_arg1) = m ((c.tc : Thread Cert.GmlpRefIdeal.nD Cert.GmlpRefIdeal.τ).loc Cert.GmlpRefIdeal.main_arg1)
      ∧ r.2.mem ((c.tc : Thread Cert.GmlpRefIdeal.nD Cert.GmlpRefIdeal.τ).loc Cert.GmlpRefIdeal.main_arg2) = m ((c.tc : Thread Cert.GmlpRefIdeal.nD Cert.GmlpRefIdeal.τ).loc Cert.GmlpRefIdeal.main_arg2)
      ∧ r.2.mem ((c.tc : Thread Cert.GmlpRefIdeal.nD Cert.GmlpRefIdeal.τ).loc Cert.GmlpRefIdeal.main_arg3) = m ((c.tc : Thread Cert.GmlpRefIdeal.nD Cert.GmlpRefIdeal.τ).loc Cert.GmlpRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v12) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v1)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v1) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v5) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InXbc_InXbcIdeal : Prop :=
  True

def algebraic_InXbcIdeal_InXbcRefIdeal [hInXbcIdeal : Cert.InXbcIdeal.Facts] [hInXbcRefIdeal : Cert.InXbcRefIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcRefIdeal.nD Cert.InXbcRefIdeal.τ Cert.InXbcRefIdeal.sig) → Buf (Elt Ideal) ℓ) (g' : Dev Cert.InXbcRefIdeal.nD → PrngReg), Pre_InXbcIdeal m →
    (∀ c : Dev Cert.InXbcIdeal.nD,
      m' ((c.tc : Thread Cert.InXbcRefIdeal.nD Cert.InXbcRefIdeal.τ).loc Cert.InXbcRefIdeal.main_arg0) = m ((c.tc : Thread Cert.InXbcIdeal.nD Cert.InXbcIdeal.τ).loc Cert.InXbcIdeal.main_arg0)
      ∧ m' ((c.tc : Thread Cert.InXbcRefIdeal.nD Cert.InXbcRefIdeal.τ).loc Cert.InXbcRefIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v1)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v1) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcRefIdeal.defs (F := Ideal)) (onTc (τ := Cert.InXbcRefIdeal.τ) (Cert.InXbcRefIdeal.main (F := Ideal))) ⟨m', fun _ => 0, g'⟩ (fun r => ∀ c : Dev Cert.InXbcRefIdeal.nD,
          r.2.mem ((c.tc : Thread Cert.InXbcRefIdeal.nD Cert.InXbcRefIdeal.τ).loc Cert.InXbcRefIdeal.main_v5) = v0 c
          ∧ r.2.mem ((c.tc : Thread Cert.InXbcRefIdeal.nD Cert.InXbcRefIdeal.τ).loc Cert.InXbcRefIdeal.main_arg0) = m' ((c.tc : Thread Cert.InXbcRefIdeal.nD Cert.InXbcRefIdeal.τ).loc Cert.InXbcRefIdeal.main_arg0)
          ∧ r.2.mem ((c.tc : Thread Cert.InXbcRefIdeal.nD Cert.InXbcRefIdeal.τ).loc Cert.InXbcRefIdeal.main_arg1) = m' ((c.tc : Thread Cert.InXbcRefIdeal.nD Cert.InXbcRefIdeal.τ).loc Cert.InXbcRefIdeal.main_arg1))

def preserves_InDt_InDtIdeal : Prop :=
  True

def algebraic_InDtIdeal_InDtRefIdeal [hInDtIdeal : Cert.InDtIdeal.Facts] [hInDtRefIdeal : Cert.InDtRefIdeal.Facts] : Prop :=
  ∀ (m : (ℓ : Loc Cert.InDtIdeal.nD Cert.InDtIdeal.τ Cert.InDtIdeal.sig) → Buf (Elt Ideal) ℓ) (g : Dev Cert.InDtIdeal.nD → PrngReg)
    (m' : (ℓ : Loc Cert.InDtRefIdeal.nD Cert.InDtRefIdeal.τ Cert.InDtRefIdeal.sig) → Buf (Elt Ideal) ℓ) (g' : Dev Cert.InDtRefIdeal.nD → PrngReg), Pre_InDtIdeal m →
    (∀ c : Dev Cert.InDtIdeal.nD,
      m' ((c.tc : Thread Cert.InDtRefIdeal.nD Cert.InDtRefIdeal.τ).loc Cert.InDtRefIdeal.main_arg0) = m ((c.tc : Thread Cert.InDtIdeal.nD Cert.InDtIdeal.τ).loc Cert.InDtIdeal.main_arg0)
      ∧ m' ((c.tc : Thread Cert.InDtRefIdeal.nD Cert.InDtRefIdeal.τ).loc Cert.InDtRefIdeal.main_arg1) = m ((c.tc : Thread Cert.InDtIdeal.nD Cert.InDtIdeal.τ).loc Cert.InDtIdeal.main_arg1)) →
    ∃ (v0 : (c : Dev Cert.InDtIdeal.nD) → Buf (Elt Ideal) ((c.tc : Thread Cert.InDtIdeal.nD Cert.InDtIdeal.τ).loc Cert.InDtIdeal.main_v1)),
      θ_run (Cert.InDtIdeal.defs (F := Ideal)) (onTc (τ := Cert.InDtIdeal.τ) (Cert.InDtIdeal.main (F := Ideal))) ⟨m, fun _ => 0, g⟩ (fun r => ∀ c : Dev Cert.InDtIdeal.nD,
          r.2.mem ((c.tc : Thread Cert.InDtIdeal.nD Cert.InDtIdeal.τ).loc Cert.InDtIdeal.main_v1) = v0 c
          ∧ r.2.mem ((c.tc : Thread Cert.InDtIdeal.nD Cert.InDtIdeal.τ).loc Cert.InDtIdeal.main_arg0) = m ((c.tc : Thread Cert.InDtIdeal.nD Cert.InDtIdeal.τ).loc Cert.InDtIdeal.main_arg0)
          ∧ r.2.mem ((c.tc : Thread Cert.InDtIdeal.nD Cert.InDtIdeal.τ).loc Cert.InDtIdeal.main_arg1) = m ((c.tc : Thread Cert.InDtIdeal.nD Cert.InDtIdeal.τ).loc Cert.InDtIdeal.main_arg1))
      ∧ θ_run (Cert.InDtRefIdeal.defs (F := Ideal)) (onTc (τ := Cert.InDtRefIdeal.τ) (Cert.InDtRefIdeal.main (F := Ideal))) ⟨m', fun _ => 0, g'⟩ (fun r => ∀ c : Dev Cert.InDtRefIdeal.nD,
          r.2.mem ((c.tc : Thread Cert.InDtRefIdeal.nD Cert.InDtRefIdeal.τ).loc Cert.InDtRefIdeal.main_v4) = v0 c
          ∧ r.2.mem ((c.tc : Thread Cert.InDtRefIdeal.nD Cert.InDtRefIdeal.τ).loc Cert.InDtRefIdeal.main_arg0) = m' ((c.tc : Thread Cert.InDtRefIdeal.nD Cert.InDtRefIdeal.τ).loc Cert.InDtRefIdeal.main_arg0)
          ∧ r.2.mem ((c.tc : Thread Cert.InDtRefIdeal.nD Cert.InDtRefIdeal.τ).loc Cert.InDtRefIdeal.main_arg1) = m' ((c.tc : Thread Cert.InDtRefIdeal.nD Cert.InDtRefIdeal.τ).loc Cert.InDtRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v1)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v1) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v12) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)
      ∧ m' ((c.tc : Thread Cert.AbOutRefIdeal.nD Cert.AbOutRefIdeal.τ).loc Cert.AbOutRefIdeal.main_arg4) = m ((c.tc : Thread Cert.AbOutIdeal.nD Cert.AbOutIdeal.τ).loc Cert.AbOutIdeal.main_arg4)) →
    ∃ (v0 : (c : Dev Cert.AbOutIdeal.nD) → Buf (Elt Ideal) ((c.tc : Thread Cert.AbOutIdeal.nD Cert.AbOutIdeal.τ).loc Cert.AbOutIdeal.main_v3)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v3) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3)
          ∧ r.2.mem ((c.tc : Thread Cert.AbOutIdeal.nD Cert.AbOutIdeal.τ).loc Cert.AbOutIdeal.main_arg4) = m ((c.tc : Thread Cert.AbOutIdeal.nD Cert.AbOutIdeal.τ).loc Cert.AbOutIdeal.main_arg4))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v8) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3)
          ∧ r.2.mem ((c.tc : Thread Cert.AbOutRefIdeal.nD Cert.AbOutRefIdeal.τ).loc Cert.AbOutRefIdeal.main_arg4) = m' ((c.tc : Thread Cert.AbOutRefIdeal.nD Cert.AbOutRefIdeal.τ).loc Cert.AbOutRefIdeal.main_arg4))

def preserves_GateNorm_GateNormIdeal : Prop :=
  True

def algebraic_GateNormIdeal_GateNormRefIdeal [hGateNormIdeal : Cert.GateNormIdeal.Facts] [hGateNormRefIdeal : Cert.GateNormRefIdeal.Facts] : Prop :=
  ∀ (m : (ℓ : Loc Cert.GateNormIdeal.nD Cert.GateNormIdeal.τ Cert.GateNormIdeal.sig) → Buf (Elt Ideal) ℓ) (g : Dev Cert.GateNormIdeal.nD → PrngReg)
    (m' : (ℓ : Loc Cert.GateNormRefIdeal.nD Cert.GateNormRefIdeal.τ Cert.GateNormRefIdeal.sig) → Buf (Elt Ideal) ℓ) (g' : Dev Cert.GateNormRefIdeal.nD → PrngReg), Pre_GateNormIdeal m →
    (∀ c : Dev Cert.GateNormIdeal.nD,
      m' ((c.tc : Thread Cert.GateNormRefIdeal.nD Cert.GateNormRefIdeal.τ).loc Cert.GateNormRefIdeal.main_arg0) = m ((c.tc : Thread Cert.GateNormIdeal.nD Cert.GateNormIdeal.τ).loc Cert.GateNormIdeal.main_arg0)
      ∧ m' ((c.tc : Thread Cert.GateNormRefIdeal.nD Cert.GateNormRefIdeal.τ).loc Cert.GateNormRefIdeal.main_arg1) = m ((c.tc : Thread Cert.GateNormIdeal.nD Cert.GateNormIdeal.τ).loc Cert.GateNormIdeal.main_arg1)
      ∧ m' ((c.tc : Thread Cert.GateNormRefIdeal.nD Cert.GateNormRefIdeal.τ).loc Cert.GateNormRefIdeal.main_arg2) = m ((c.tc : Thread Cert.GateNormIdeal.nD Cert.GateNormIdeal.τ).loc Cert.GateNormIdeal.main_arg2)) →
    ∃ (v0 : (c : Dev Cert.GateNormIdeal.nD) → Buf (Elt Ideal) ((c.tc : Thread Cert.GateNormIdeal.nD Cert.GateNormIdeal.τ).loc Cert.GateNormIdeal.main_v2)),
      θ_run (Cert.GateNormIdeal.defs (F := Ideal)) (onTc (τ := Cert.GateNormIdeal.τ) (Cert.GateNormIdeal.main (F := Ideal))) ⟨m, fun _ => 0, g⟩ (fun r => ∀ c : Dev Cert.GateNormIdeal.nD,
          r.2.mem ((c.tc : Thread Cert.GateNormIdeal.nD Cert.GateNormIdeal.τ).loc Cert.GateNormIdeal.main_v2) = v0 c
          ∧ r.2.mem ((c.tc : Thread Cert.GateNormIdeal.nD Cert.GateNormIdeal.τ).loc Cert.GateNormIdeal.main_arg0) = m ((c.tc : Thread Cert.GateNormIdeal.nD Cert.GateNormIdeal.τ).loc Cert.GateNormIdeal.main_arg0)
          ∧ r.2.mem ((c.tc : Thread Cert.GateNormIdeal.nD Cert.GateNormIdeal.τ).loc Cert.GateNormIdeal.main_arg1) = m ((c.tc : Thread Cert.GateNormIdeal.nD Cert.GateNormIdeal.τ).loc Cert.GateNormIdeal.main_arg1)
          ∧ r.2.mem ((c.tc : Thread Cert.GateNormIdeal.nD Cert.GateNormIdeal.τ).loc Cert.GateNormIdeal.main_arg2) = m ((c.tc : Thread Cert.GateNormIdeal.nD Cert.GateNormIdeal.τ).loc Cert.GateNormIdeal.main_arg2))
      ∧ θ_run (Cert.GateNormRefIdeal.defs (F := Ideal)) (onTc (τ := Cert.GateNormRefIdeal.τ) (Cert.GateNormRefIdeal.main (F := Ideal))) ⟨m', fun _ => 0, g'⟩ (fun r => ∀ c : Dev Cert.GateNormRefIdeal.nD,
          r.2.mem ((c.tc : Thread Cert.GateNormRefIdeal.nD Cert.GateNormRefIdeal.τ).loc Cert.GateNormRefIdeal.main_v18) = v0 c
          ∧ r.2.mem ((c.tc : Thread Cert.GateNormRefIdeal.nD Cert.GateNormRefIdeal.τ).loc Cert.GateNormRefIdeal.main_arg0) = m' ((c.tc : Thread Cert.GateNormRefIdeal.nD Cert.GateNormRefIdeal.τ).loc Cert.GateNormRefIdeal.main_arg0)
          ∧ r.2.mem ((c.tc : Thread Cert.GateNormRefIdeal.nD Cert.GateNormRefIdeal.τ).loc Cert.GateNormRefIdeal.main_arg1) = m' ((c.tc : Thread Cert.GateNormRefIdeal.nD Cert.GateNormRefIdeal.τ).loc Cert.GateNormRefIdeal.main_arg1)
          ∧ r.2.mem ((c.tc : Thread Cert.GateNormRefIdeal.nD Cert.GateNormRefIdeal.τ).loc Cert.GateNormRefIdeal.main_arg2) = m' ((c.tc : Thread Cert.GateNormRefIdeal.nD Cert.GateNormRefIdeal.τ).loc Cert.GateNormRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v8) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Gmlp_GmlpIdeal : Prop :=
  True

def algebraic_GmlpIdeal_GmlpRefIdeal [hGmlpIdeal : Cert.GmlpIdeal.Facts] [hGmlpRefIdeal : Cert.GmlpRefIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpRefIdeal.nD Cert.GmlpRefIdeal.τ Cert.GmlpRefIdeal.sig) → Buf (Elt Ideal) ℓ) (g' : Dev Cert.GmlpRefIdeal.nD → PrngReg), Pre_GmlpIdeal m →
    (∀ c : Dev Cert.GmlpIdeal.nD,
      m' ((c.tc : Thread Cert.GmlpRefIdeal.nD Cert.GmlpRefIdeal.τ).loc Cert.GmlpRefIdeal.main_arg0) = m ((c.tc : Thread Cert.GmlpIdeal.nD Cert.GmlpIdeal.τ).loc Cert.GmlpIdeal.main_arg0)
      ∧ m' ((c.tc : Thread Cert.GmlpRefIdeal.nD Cert.GmlpRefIdeal.τ).loc Cert.GmlpRefIdeal.main_arg1) = m ((c.tc : Thread Cert.GmlpIdeal.nD Cert.GmlpIdeal.τ).loc Cert.GmlpIdeal.main_arg1)
      ∧ m' ((c.tc : Thread Cert.GmlpRefIdeal.nD Cert.GmlpRefIdeal.τ).loc Cert.GmlpRefIdeal.main_arg2) = m ((c.tc : Thread Cert.GmlpIdeal.nD Cert.GmlpIdeal.τ).loc Cert.GmlpIdeal.main_arg2)
      ∧ m' ((c.tc : Thread Cert.GmlpRefIdeal.nD Cert.GmlpRefIdeal.τ).loc Cert.GmlpRefIdeal.main_arg3) = m ((c.tc : Thread Cert.GmlpIdeal.nD Cert.GmlpIdeal.τ).loc Cert.GmlpIdeal.main_arg3)) →
    ∃ (v0 : (c : Dev Cert.GmlpIdeal.nD) → Buf (Elt Ideal) ((c.tc : Thread Cert.GmlpIdeal.nD Cert.GmlpIdeal.τ).loc Cert.GmlpIdeal.main_v2)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v2) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3))
      ∧ θ_run (Cert.GmlpRefIdeal.defs (F := Ideal)) (onTc (τ := Cert.GmlpRefIdeal.τ) (Cert.GmlpRefIdeal.main (F := Ideal))) ⟨m', fun _ => 0, g'⟩ (fun r => ∀ c : Dev Cert.GmlpRefIdeal.nD,
          r.2.mem ((c.tc : Thread Cert.GmlpRefIdeal.nD Cert.GmlpRefIdeal.τ).loc Cert.GmlpRefIdeal.main_v30) = v0 c
          ∧ r.2.mem ((c.tc : Thread Cert.GmlpRefIdeal.nD Cert.GmlpRefIdeal.τ).loc Cert.GmlpRefIdeal.main_arg0) = m' ((c.tc : Thread Cert.GmlpRefIdeal.nD Cert.GmlpRefIdeal.τ).loc Cert.GmlpRefIdeal.main_arg0)
          ∧ r.2.mem ((c.tc : Thread Cert.GmlpRefIdeal.nD Cert.GmlpRefIdeal.τ).loc Cert.GmlpRefIdeal.main_arg1) = m' ((c.tc : Thread Cert.GmlpRefIdeal.nD Cert.GmlpRefIdeal.τ).loc Cert.GmlpRefIdeal.main_arg1)
          ∧ r.2.mem ((c.tc : Thread Cert.GmlpRefIdeal.nD Cert.GmlpRefIdeal.τ).loc Cert.GmlpRefIdeal.main_arg2) = m' ((c.tc : Thread Cert.GmlpRefIdeal.nD Cert.GmlpRefIdeal.τ).loc Cert.GmlpRefIdeal.main_arg2)
          ∧ r.2.mem ((c.tc : Thread Cert.GmlpRefIdeal.nD Cert.GmlpRefIdeal.τ).loc Cert.GmlpRefIdeal.main_arg3) = m' ((c.tc : Thread Cert.GmlpRefIdeal.nD Cert.GmlpRefIdeal.τ).loc Cert.GmlpRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v41) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Comb_CombIdeal : Prop :=
  True

def algebraic_CombIdeal_CombRefIdeal [hCombIdeal : Cert.CombIdeal.Facts] [hCombRefIdeal : Cert.CombRefIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)) →
    ∃ (v0 : (c : Dev Cert.CombIdeal.nD) → Buf (Elt Ideal) ((c.tc : Thread Cert.CombIdeal.nD Cert.CombIdeal.τ).loc Cert.CombIdeal.main_v0)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v0) = v0 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v46) = v0 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4))

def Claim : Prop :=
  ∃ (hFfn : Cert.Ffn.Facts) (hFfnIdeal : Cert.FfnIdeal.Facts) (hFfnRefIdeal : Cert.FfnRefIdeal.Facts) (hInZ : Cert.InZ.Facts) (hInZIdeal : Cert.InZIdeal.Facts) (hInZRefIdeal : Cert.InZRefIdeal.Facts) (hInXbc : Cert.InXbc.Facts) (hInXbcIdeal : Cert.InXbcIdeal.Facts) (hInXbcRefIdeal : Cert.InXbcRefIdeal.Facts) (hInDt : Cert.InDt.Facts) (hInDtIdeal : Cert.InDtIdeal.Facts) (hInDtRefIdeal : Cert.InDtRefIdeal.Facts) (hOut : Cert.Out.Facts) (hOutIdeal : Cert.OutIdeal.Facts) (hOutRefIdeal : Cert.OutRefIdeal.Facts) (hAbIn : Cert.AbIn.Facts) (hAbInIdeal : Cert.AbInIdeal.Facts) (hAbInRefIdeal : Cert.AbInRefIdeal.Facts) (hAbOut : Cert.AbOut.Facts) (hAbOutIdeal : Cert.AbOutIdeal.Facts) (hAbOutRefIdeal : Cert.AbOutRefIdeal.Facts) (hGateNorm : Cert.GateNorm.Facts) (hGateNormIdeal : Cert.GateNormIdeal.Facts) (hGateNormRefIdeal : Cert.GateNormRefIdeal.Facts) (hFinal : Cert.Final.Facts) (hFinalIdeal : Cert.FinalIdeal.Facts) (hFinalRefIdeal : Cert.FinalRefIdeal.Facts) (hAda : Cert.Ada.Facts) (hAdaIdeal : Cert.AdaIdeal.Facts) (hAdaRefIdeal : Cert.AdaRefIdeal.Facts) (hMod : Cert.Mod.Facts) (hModIdeal : Cert.ModIdeal.Facts) (hModRefIdeal : Cert.ModRefIdeal.Facts) (hGmlp : Cert.Gmlp.Facts) (hGmlpIdeal : Cert.GmlpIdeal.Facts) (hGmlpRefIdeal : Cert.GmlpRefIdeal.Facts) (hConv : Cert.Conv.Facts) (hConvIdeal : Cert.ConvIdeal.Facts) (hConvRefIdeal : Cert.ConvRefIdeal.Facts) (hComb : Cert.Comb.Facts) (hCombIdeal : Cert.CombIdeal.Facts) (hCombRefIdeal : Cert.CombRefIdeal.Facts),
    quiescent_Ffn (hFfn := hFfn)
    ∧ quiescent_FfnIdeal (hFfnIdeal := hFfnIdeal)
    ∧ quiescent_FfnRefIdeal (hFfnRefIdeal := hFfnRefIdeal)
    ∧ quiescent_InZ (hInZ := hInZ)
    ∧ quiescent_InZIdeal (hInZIdeal := hInZIdeal)
    ∧ quiescent_InZRefIdeal (hInZRefIdeal := hInZRefIdeal)
    ∧ quiescent_InXbc (hInXbc := hInXbc)
    ∧ quiescent_InXbcIdeal (hInXbcIdeal := hInXbcIdeal)
    ∧ quiescent_InXbcRefIdeal (hInXbcRefIdeal := hInXbcRefIdeal)
    ∧ quiescent_InDt (hInDt := hInDt)
    ∧ quiescent_InDtIdeal (hInDtIdeal := hInDtIdeal)
    ∧ quiescent_InDtRefIdeal (hInDtRefIdeal := hInDtRefIdeal)
    ∧ quiescent_Out (hOut := hOut)
    ∧ quiescent_OutIdeal (hOutIdeal := hOutIdeal)
    ∧ quiescent_OutRefIdeal (hOutRefIdeal := hOutRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_GateNorm (hGateNorm := hGateNorm)
    ∧ quiescent_GateNormIdeal (hGateNormIdeal := hGateNormIdeal)
    ∧ quiescent_GateNormRefIdeal (hGateNormRefIdeal := hGateNormRefIdeal)
    ∧ quiescent_Final (hFinal := hFinal)
    ∧ quiescent_FinalIdeal (hFinalIdeal := hFinalIdeal)
    ∧ quiescent_FinalRefIdeal (hFinalRefIdeal := hFinalRefIdeal)
    ∧ quiescent_Ada (hAda := hAda)
    ∧ quiescent_AdaIdeal (hAdaIdeal := hAdaIdeal)
    ∧ quiescent_AdaRefIdeal (hAdaRefIdeal := hAdaRefIdeal)
    ∧ quiescent_Mod (hMod := hMod)
    ∧ quiescent_ModIdeal (hModIdeal := hModIdeal)
    ∧ quiescent_ModRefIdeal (hModRefIdeal := hModRefIdeal)
    ∧ quiescent_Gmlp (hGmlp := hGmlp)
    ∧ quiescent_GmlpIdeal (hGmlpIdeal := hGmlpIdeal)
    ∧ quiescent_GmlpRefIdeal (hGmlpRefIdeal := hGmlpRefIdeal)
    ∧ quiescent_Conv (hConv := hConv)
    ∧ quiescent_ConvIdeal (hConvIdeal := hConvIdeal)
    ∧ quiescent_ConvRefIdeal (hConvRefIdeal := hConvRefIdeal)
    ∧ quiescent_Comb (hComb := hComb)
    ∧ quiescent_CombIdeal (hCombIdeal := hCombIdeal)
    ∧ quiescent_CombRefIdeal (hCombRefIdeal := hCombRefIdeal)
    ∧ preserves_Ffn_FfnIdeal
    ∧ algebraic_FfnIdeal_FfnRefIdeal (hFfnIdeal := hFfnIdeal) (hFfnRefIdeal := hFfnRefIdeal)
    ∧ preserves_InZ_InZIdeal
    ∧ algebraic_InZIdeal_InZRefIdeal (hInZIdeal := hInZIdeal) (hInZRefIdeal := hInZRefIdeal)
    ∧ preserves_InXbc_InXbcIdeal
    ∧ algebraic_InXbcIdeal_InXbcRefIdeal (hInXbcIdeal := hInXbcIdeal) (hInXbcRefIdeal := hInXbcRefIdeal)
    ∧ preserves_InDt_InDtIdeal
    ∧ algebraic_InDtIdeal_InDtRefIdeal (hInDtIdeal := hInDtIdeal) (hInDtRefIdeal := hInDtRefIdeal)
    ∧ preserves_Out_OutIdeal
    ∧ algebraic_OutIdeal_OutRefIdeal (hOutIdeal := hOutIdeal) (hOutRefIdeal := hOutRefIdeal)
    ∧ preserves_AbIn_AbInIdeal
    ∧ algebraic_AbInIdeal_AbInRefIdeal (hAbInIdeal := hAbInIdeal) (hAbInRefIdeal := hAbInRefIdeal)
    ∧ preserves_AbOut_AbOutIdeal
    ∧ algebraic_AbOutIdeal_AbOutRefIdeal (hAbOutIdeal := hAbOutIdeal) (hAbOutRefIdeal := hAbOutRefIdeal)
    ∧ preserves_GateNorm_GateNormIdeal
    ∧ algebraic_GateNormIdeal_GateNormRefIdeal (hGateNormIdeal := hGateNormIdeal) (hGateNormRefIdeal := hGateNormRefIdeal)
    ∧ preserves_Final_FinalIdeal
    ∧ algebraic_FinalIdeal_FinalRefIdeal (hFinalIdeal := hFinalIdeal) (hFinalRefIdeal := hFinalRefIdeal)
    ∧ preserves_Ada_AdaIdeal
    ∧ algebraic_AdaIdeal_AdaRefIdeal (hAdaIdeal := hAdaIdeal) (hAdaRefIdeal := hAdaRefIdeal)
    ∧ preserves_Mod_ModIdeal
    ∧ algebraic_ModIdeal_ModRefIdeal (hModIdeal := hModIdeal) (hModRefIdeal := hModRefIdeal)
    ∧ preserves_Gmlp_GmlpIdeal
    ∧ algebraic_GmlpIdeal_GmlpRefIdeal (hGmlpIdeal := hGmlpIdeal) (hGmlpRefIdeal := hGmlpRefIdeal)
    ∧ preserves_Conv_ConvIdeal
    ∧ algebraic_ConvIdeal_ConvRefIdeal (hConvIdeal := hConvIdeal) (hConvRefIdeal := hConvRefIdeal)
    ∧ preserves_Comb_CombIdeal
    ∧ algebraic_CombIdeal_CombRefIdeal (hCombIdeal := hCombIdeal) (hCombRefIdeal := hCombRefIdeal)
-- ==== Ffn.lean ====
abbrev S16x2048x2048 : Shape := ⟨3, ![16, 2048, 2048]⟩
abbrev S2x16x2048x2048 : Shape := ⟨4, ![2, 16, 2048, 2048]⟩
abbrev S1x1024x2048 : Shape := ⟨3, ![1, 1024, 2048]⟩
abbrev S1x1x2048x256 : Shape := ⟨4, ![1, 1, 2048, 256]⟩
abbrev S1x1x256x2048 : Shape := ⟨4, ![1, 1, 256, 2048]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 5
  | .vmem => 11
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S2x16x2048x2048, .f32⟩
  | .hbm, ⟨3, _⟩ => ⟨S2x16x2048x2048, .f32⟩
  | .hbm, ⟨4, _⟩ => ⟨S16x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1024x2048, .bf16⟩
  | .local _ .vmem, ⟨9, _⟩ => ⟨S1x1024x2048, .bf16⟩
  | .local _ .vmem, ⟨10, _⟩ => ⟨S1024x2048, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 2, 8], ![false, false, false]⟩

def k0_cond3 (i : grid0.Coords) : BitVec 1 :=
  let arg2 : BitVec 32 := BitVec.ofNat 32 (i 2).val
  let c7_i32 : BitVec 32 := 7#32
  let v28 : BitVec 1 := Scalar.cmpi .eq arg2 c7_i32
  let v29 : BitVec 32 := Scalar.extui v28
  let c0_i32_21 : BitVec 32 := 0#32
  let v30 : BitVec 1 := Scalar.cmpi .ne v29 c0_i32_21
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FfnRefIdeal.lean ====
abbrev S16x2048x2048 : Shape := ⟨3, ![16, 2048, 2048]⟩
abbrev S2x16x2048x2048 : Shape := ⟨4, ![2, 16, 2048, 2048]⟩
abbrev S1x16x2048x2048 : Shape := ⟨4, ![1, 16, 2048, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2x16x2048x2048, .f32⟩
  | .hbm, ⟨2, _⟩ => ⟨S2x16x2048x2048, .f32⟩
  | .hbm, ⟨3, _⟩ => ⟨S2x16x2048x2048, .f32⟩
  | .hbm, ⟨4, _⟩ => ⟨S16x2048x2048, .f32⟩
  | .hbm, ⟨5, _⟩ => ⟨S1x16x2048x2048, .f32⟩
  | .hbm, ⟨6, _⟩ => ⟨S16x2048x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x2048, .f32⟩
  | .hbm, ⟨17, _⟩ => ⟨S1x16x2048x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S1x16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== InZ.lean ====
abbrev S8x2048x2048 : Shape := ⟨3, ![8, 2048, 2048]⟩
abbrev S1x2048x10368 : Shape := ⟨3, ![1, 2048, 10368]⟩
abbrev S16384x2048 : Shape := ⟨2, ![16384, 2048]⟩
abbrev S16384x4096 : Shape := ⟨2, ![16384, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10368, .f32⟩
  | .hbm, ⟨2, _⟩ => ⟨S16384x2048, .bf16⟩
  | .hbm, ⟨3, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InZRefIdeal.lean ====
abbrev S8x2048x2048 : Shape := ⟨3, ![8, 2048, 2048]⟩
abbrev S1x2048x10368 : Shape := ⟨3, ![1, 2048, 10368]⟩
abbrev S2048x10368 : Shape := ⟨2, ![2048, 10368]⟩
abbrev S8x2048x10368 : Shape := ⟨3, ![8, 2048, 10368]⟩
abbrev S8x2048x4096 : Shape := ⟨3, ![8, 2048, 4096]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10368, .f32⟩
  | .hbm, ⟨2, _⟩ => ⟨S8x2048x2048, .f32⟩
  | .hbm, ⟨3, _⟩ => ⟨S2048x10368, .f32⟩
  | .hbm, ⟨4, _⟩ => ⟨S8x2048x10368, .f32⟩
  | .hbm, ⟨5, _⟩ => ⟨S8x2048x4096, .f32⟩
  | .hbm, ⟨6, _⟩ => ⟨S8x2048x4096, .bf16⟩
  | .hbm, ⟨7, _⟩ => ⟨S16384x4096, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InXbc.lean ====
abbrev S8x2048x2048 : Shape := ⟨3, ![8, 2048, 2048]⟩
abbrev S1x2048x10368 : Shape := ⟨3, ![1, 2048, 10368]⟩
abbrev S16384x2048 : Shape := ⟨2, ![16384, 2048]⟩
abbrev S16384x6144 : Shape := ⟨2, ![16384, 6144]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10368, .f32⟩
  | .hbm, ⟨2, _⟩ => ⟨S16384x2048, .bf16⟩
  | .hbm, ⟨3, _⟩ => ⟨S16384x6144, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InXbcRefIdeal.lean ====
abbrev S8x2048x2048 : Shape := ⟨3, ![8, 2048, 2048]⟩
abbrev S1x2048x10368 : Shape := ⟨3, ![1, 2048, 10368]⟩
abbrev S2048x10368 : Shape := ⟨2, ![2048, 10368]⟩
abbrev S8x2048x10368 : Shape := ⟨3, ![8, 2048, 10368]⟩
abbrev S8x2048x6144 : Shape := ⟨3, ![8, 2048, 6144]⟩
abbrev S16384x6144 : Shape := ⟨2, ![16384, 6144]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10368, .f32⟩
  | .hbm, ⟨2, _⟩ => ⟨S8x2048x2048, .f32⟩
  | .hbm, ⟨3, _⟩ => ⟨S2048x10368, .f32⟩
  | .hbm, ⟨4, _⟩ => ⟨S8x2048x10368, .f32⟩
  | .hbm, ⟨5, _⟩ => ⟨S8x2048x6144, .f32⟩
  | .hbm, ⟨6, _⟩ => ⟨S8x2048x6144, .bf16⟩
  | .hbm, ⟨7, _⟩ => ⟨S16384x6144, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== InDt.lean ====
abbrev S8x2048x2048 : Shape := ⟨3, ![8, 2048, 2048]⟩
abbrev S1x2048x10368 : Shape := ⟨3, ![1, 2048, 10368]⟩
abbrev S16384x2048 : Shape := ⟨2, ![16384, 2048]⟩
abbrev S16384x128 : Shape := ⟨2, ![16384, 128]⟩
abbrev S512x2048 : Shape := ⟨2, ![512, 2048]⟩
abbrev S1x2048x128 : Shape := ⟨3, ![1, 2048, 128]⟩
abbrev S512x128 : Shape := ⟨2, ![512, 128]⟩
abbrev S2048x128 : Shape := ⟨2, ![2048, 128]⟩

abbrev nBuf : Space → Nat
  | .hbm => 4
  | .vmem => 6
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10368, .f32⟩
  | .hbm, ⟨2, _⟩ => ⟨S16384x2048, .bf16⟩
  | .hbm, ⟨3, _⟩ => ⟨S16384x128, .f32⟩
  | .local _ .vmem, ⟨0, _⟩ => ⟨S512x2048, .bf16⟩
  | .local _ .vmem, ⟨1, _⟩ => ⟨S512x2048, .bf16⟩
  | .local _ .vmem, ⟨2, _⟩ => ⟨S1x2048x128, .f32⟩
  | .local _ .vmem, ⟨3, _⟩ => ⟨S512x128, .f32⟩
  | .local _ .vmem, ⟨4, _⟩ => ⟨S512x128, .f32⟩
  | .local _ .vmem, ⟨5, _⟩ => ⟨S2048x128, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InDtRefIdeal.lean ====
abbrev S8x2048x2048 : Shape := ⟨3, ![8, 2048, 2048]⟩
abbrev S1x2048x10368 : Shape := ⟨3, ![1, 2048, 10368]⟩
abbrev S2048x10368 : Shape := ⟨2, ![2048, 10368]⟩
abbrev S8x2048x10368 : Shape := ⟨3, ![8, 2048, 10368]⟩
abbrev S8x2048x128 : Shape := ⟨3, ![8, 2048, 128]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x10368, .f32⟩
  | .hbm, ⟨2, _⟩ => ⟨S8x2048x2048, .f32⟩
  | .hbm, ⟨3, _⟩ => ⟨S2048x10368, .f32⟩
  | .hbm, ⟨4, _⟩ => ⟨S8x2048x10368, .f32⟩
  | .hbm, ⟨5, _⟩ => ⟨S8x2048x128, .f32⟩
  | .hbm, ⟨6, _⟩ => ⟨S16384x128, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out.lean ====
abbrev S16384x4096 : Shape := ⟨2, ![16384, 4096]⟩
abbrev S8x2048x2048 : Shape := ⟨3, ![8, 2048, 2048]⟩
abbrev S8x1x2048 : Shape := ⟨3, ![8, 1, 2048]⟩
abbrev S1x4096x2048 : Shape := ⟨3, ![1, 4096, 2048]⟩
abbrev S16384x2048 : Shape := ⟨2, ![16384, 2048]⟩
abbrev S512x4096 : Shape := ⟨2, ![512, 4096]⟩
abbrev S1x4096x512 : Shape := ⟨3, ![1, 4096, 512]⟩
abbrev S512x512 : Shape := ⟨2, ![512, 512]⟩
abbrev S1x1x512 : Shape := ⟨3, ![1, 1, 512]⟩
abbrev S4096x512 : Shape := ⟨2, ![4096, 512]⟩
abbrev S1x512 : Shape := ⟨2, ![1, 512]⟩

abbrev nBuf : Space → Nat
  | .hbm => 6
  | .vmem => 11
  | .smem => 0
  | _ => 0

abbrev bufTy : (tb : Table) → Fin (tcTables nBuf tb) → BufTy
  | .hbm, ⟨0, _⟩ => ⟨S16384x4096, .bf16⟩
  | .hbm, ⟨1, _⟩ => ⟨S8x2048x2048, .f32⟩
  | .hbm, ⟨2, _⟩ => ⟨S8x1x2048, .f32⟩
  | .hbm, ⟨3, _⟩ => ⟨S1x4096x2048, .f32⟩
  | .hbm, ⟨4, _⟩ => ⟨S16384x2048, .f32⟩
  | .hbm, ⟨5, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S16384x4096 : Shape := ⟨2, ![16384, 4096]⟩
abbrev S8x2048x2048 : Shape := ⟨3, ![8, 2048, 2048]⟩
abbrev S8x1x2048 : Shape := ⟨3, ![8, 1, 2048]⟩
abbrev S1x4096x2048 : Shape := ⟨3, ![1, 4096, 2048]⟩
abbrev S8x2048x4096 : Shape := ⟨3, ![8, 2048, 4096]⟩
abbrev S4096x2048 : Shape := ⟨2, ![4096, 2048]⟩
abbrev S16384x2048 : Shape := ⟨2, ![16384, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S8x2048x2048, .f32⟩
  | .hbm, ⟨2, _⟩ => ⟨S8x1x2048, .f32⟩
  | .hbm, ⟨3, _⟩ => ⟨S1x4096x2048, .f32⟩
  | .hbm, ⟨4, _⟩ => ⟨S16384x4096, .f32⟩
  | .hbm, ⟨5, _⟩ => ⟨S8x2048x4096, .f32⟩
  | .hbm, ⟨6, _⟩ => ⟨S4096x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AbIn.lean ====
abbrev S8x2048x2048 : Shape := ⟨3, ![8, 2048, 2048]⟩
abbrev S1x2048x3072 : Shape := ⟨3, ![1, 2048, 3072]⟩
abbrev S16384x2048 : Shape := ⟨2, ![16384, 2048]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x3072, .f32⟩
  | .hbm, ⟨2, _⟩ => ⟨S16384x2048, .bf16⟩
  | .hbm, ⟨3, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AbInRefIdeal.lean ====
abbrev S8x2048x2048 : Shape := ⟨3, ![8, 2048, 2048]⟩
abbrev S1x2048x3072 : Shape := ⟨3, ![1, 2048, 3072]⟩
abbrev S2048x3072 : Shape := ⟨2, ![2048, 3072]⟩
abbrev S8x2048x3072 : Shape := ⟨3, ![8, 2048, 3072]⟩
abbrev S_ : Shape := ⟨0, ![]⟩
abbrev S16384x2048 : Shape := ⟨2, ![16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x2048x3072, .f32⟩
  | .hbm, ⟨2, _⟩ => ⟨S8x2048x2048, .f32⟩
  | .hbm, ⟨3, _⟩ => ⟨S2048x3072, .f32⟩
  | .hbm, ⟨4, _⟩ => ⟨S8x2048x3072, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .bf16⟩
  | .hbm, ⟨16, _⟩ => ⟨S16384x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== AbOut.lean ====
abbrev S8x2048x1024 : Shape := ⟨3, ![8, 2048, 1024]⟩
abbrev S8x2048x2048 : Shape := ⟨3, ![8, 2048, 2048]⟩
abbrev S8x1x2048 : Shape := ⟨3, ![8, 1, 2048]⟩
abbrev S1x2048x2048 : Shape := ⟨3, ![1, 2048, 2048]⟩
abbrev S16384x2048 : Shape := ⟨2, ![16384, 2048]⟩
abbrev S16384x1024 : Shape := ⟨2, ![16384, 1024]⟩
abbrev S512x1024 : Shape := ⟨2, ![512, 1024]⟩
abbrev S1x2048x1024 : Shape := ⟨3, ![1, 2048, 1024]⟩
abbrev S1x1x1024 : Shape := ⟨3, ![1, 1, 1024]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S8x1x2048, .f32⟩
  | .hbm, ⟨4, _⟩ => ⟨S1x2048x2048, .f32⟩
  | .hbm, ⟨5, _⟩ => ⟨S16384x2048, .f32⟩
  | .hbm, ⟨6, _⟩ => ⟨S16384x1024, .bf16⟩
  | .hbm, ⟨7, _⟩ => ⟨S16384x1024, .bf16⟩
  | .hbm, ⟨8, _⟩ => ⟨S16384x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .f32⟩
  | .local _ .vmem, ⟨5, _⟩ => ⟨S1x2048x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S2048x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AbOutRefIdeal.lean ====
abbrev S8x2048x1024 : Shape := ⟨3, ![8, 2048, 1024]⟩
abbrev S8x2048x2048 : Shape := ⟨3, ![8, 2048, 2048]⟩
abbrev S8x1x2048 : Shape := ⟨3, ![8, 1, 2048]⟩
abbrev S1x2048x2048 : Shape := ⟨3, ![1, 2048, 2048]⟩
abbrev S2048x2048 : Shape := ⟨2, ![2048, 2048]⟩
abbrev S16384x2048 : Shape := ⟨2, ![16384, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S8x2048x1024, .bf16⟩
  | .hbm, ⟨2, _⟩ => ⟨S8x2048x2048, .f32⟩
  | .hbm, ⟨3, _⟩ => ⟨S8x1x2048, .f32⟩
  | .hbm, ⟨4, _⟩ => ⟨S1x2048x2048, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S16384x2048, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== GateNorm.lean ====
abbrev S8x2048x4096 : Shape := ⟨3, ![8, 2048, 4096]⟩
abbrev S16384x4096 : Shape := ⟨2, ![16384, 4096]⟩
abbrev S1x4096 : Shape := ⟨2, ![1, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S16384x4096, .bf16⟩
  | .hbm, ⟨2, _⟩ => ⟨S1x4096, .f32⟩
  | .hbm, ⟨3, _⟩ => ⟨S16384x4096, .f32⟩
  | .hbm, ⟨4, _⟩ => ⟨S1x1x4096, .f32⟩
  | .hbm, ⟨5, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x1x4096, .f32⟩
  | .local _ .vmem, ⟨5, _⟩ => ⟨S256x4096, .bf16⟩
  | .local _ .vmem, ⟨6, _⟩ => ⟨S256x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateNormRefIdeal.lean ====
abbrev S8x2048x4096 : Shape := ⟨3, ![8, 2048, 4096]⟩
abbrev S16384x4096 : Shape := ⟨2, ![16384, 4096]⟩
abbrev S1x4096 : Shape := ⟨2, ![1, 4096]⟩
abbrev S_ : Shape := ⟨0, ![]⟩
abbrev S16384 : Shape := ⟨1, ![16384]⟩
abbrev S16384x1 : Shape := ⟨2, ![16384, 1]⟩
abbrev S4096 : Shape := ⟨1, ![4096]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16384x4096, .bf16⟩
  | .hbm, ⟨2, _⟩ => ⟨S1x4096, .f32⟩
  | .hbm, ⟨3, _⟩ => ⟨S16384x4096, .f32⟩
  | .hbm, ⟨4, _⟩ => ⟨S16384x4096, .f32⟩
  | .hbm, ⟨5, _⟩ => ⟨S16384x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x4096, .f32⟩
  | .hbm, ⟨27, _⟩ => ⟨S16384x4096, .f32⟩
  | .hbm, ⟨28, _⟩ => ⟨S4096, .f32⟩
  | .hbm, ⟨29, _⟩ => ⟨S1x4096, .f32⟩
  | .hbm, ⟨30, _⟩ => ⟨S16384x4096, .f32⟩
  | .hbm, ⟨31, _⟩ => ⟨S16384x4096, .f32⟩
  | .hbm, ⟨32, _⟩ => ⟨S16384x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== Final.lean ====
abbrev S8x2048x2048 : Shape := ⟨3, ![8, 2048, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S8x2048x2048 : Shape := ⟨3, ![8, 2048, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S16384x2048 : Shape := ⟨2, ![16384, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048x2048, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x2048, .f32⟩
  | .hbm, ⟨14, _⟩ => ⟨S8x2048x2048, .f32⟩
  | .hbm, ⟨15, _⟩ => ⟨S1x1x2048, .f32⟩
  | .hbm, ⟨16, _⟩ => ⟨S8x2048x2048, .f32⟩
  | .hbm, ⟨17, _⟩ => ⟨S8x2048x2048, .f32⟩
  | .hbm, ⟨18, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Ada.lean ====
abbrev S16x2048 : Shape := ⟨2, ![16, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S16x12288 : Shape := ⟨2, ![16, 12288]⟩
abbrev S1x2048x1024 : Shape := ⟨3, ![1, 2048, 1024]⟩
abbrev S1x1x1024 : Shape := ⟨3, ![1, 1, 1024]⟩
abbrev S16x1024 : Shape := ⟨2, ![16, 1024]⟩
abbrev S2048x1024 : Shape := ⟨2, ![2048, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S16x12288, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S16x1024, .f32⟩
  | .local _ .vmem, ⟨6, _⟩ => ⟨S16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S16x2048 : Shape := ⟨2, ![16, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S16x12288 : Shape := ⟨2, ![16, 12288]⟩
abbrev S1x12288 : Shape := ⟨2, ![1, 12288]⟩
abbrev S12288 : Shape := ⟨1, ![12288]⟩

abbrev nBuf : Space → Nat
  | .hbm => 20
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x12288, .f32⟩
  | .hbm, ⟨2, _⟩ => ⟨S2x12288, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x12288, .f32⟩
  | .hbm, ⟨13, _⟩ => ⟨S2048x12288, .f32⟩
  | .hbm, ⟨14, _⟩ => ⟨S16x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S16x12288, .f32⟩
  | .hbm, ⟨19, _⟩ => ⟨S16x12288, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Mod.lean ====
abbrev S8x2048x2048 : Shape := ⟨3, ![8, 2048, 2048]⟩
abbrev S2048 : Shape := ⟨1, ![2048]⟩
abbrev S8x1x2048 : Shape := ⟨3, ![8, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S1x2048, .f32⟩
  | .hbm, ⟨5, _⟩ => ⟨S8x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModRefIdeal.lean ====
abbrev S8x2048x2048 : Shape := ⟨3, ![8, 2048, 2048]⟩
abbrev S2048 : Shape := ⟨1, ![2048]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x1x2048, .f32⟩
  | .hbm, ⟨22, _⟩ => ⟨S8x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Gmlp.lean ====
abbrev S8x2048x2048 : Shape := ⟨3, ![8, 2048, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x128x8 : Shape := ⟨3, ![1, 128, 8]⟩
abbrev S1x1x1024 : Shape := ⟨3, ![1, 1, 1024]⟩
abbrev S8x2048x1024 : Shape := ⟨3, ![8, 2048, 1024]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1x1x128x128 : Shape := ⟨4, ![1, 1, 128, 128]⟩
abbrev S128x128 : Shape := ⟨2, ![128, 128]⟩
abbrev S1x128x1 : Shape := ⟨3, ![1, 128, 1]⟩
abbrev S1x128x128 : Shape := ⟨3, ![1, 128, 128]⟩

abbrev nBuf : Space → Nat
  | .hbm => 7
  | .vmem => 9
  | .smem => 0
  | _ => 0

abbrev bufTy : (tb : Table) → Fin (tcTables nBuf tb) → BufTy
  | .hbm, ⟨0, _⟩ => ⟨S8x2048x2048, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S1x128x8, .f32⟩
  | .hbm, ⟨5, _⟩ => ⟨S1x1x1024, .f32⟩
  | .hbm, ⟨6, _⟩ => ⟨S8x2048x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x1x1024, .f32⟩
  | .local _ .vmem, ⟨5, _⟩ => ⟨S1x8x128x128, .f32⟩
  | .local _ .vmem, ⟨6, _⟩ => ⟨S1x128x8, .f32⟩
  | .local _ .vmem, ⟨7, _⟩ => ⟨S1x128x1024, .bf16⟩
  | .local _ .vmem, ⟨8, _⟩ => ⟨S1x128x1024, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GmlpRefIdeal.lean ====
abbrev S8x2048x2048 : Shape := ⟨3, ![8, 2048, 2048]⟩
abbrev S1x1024 : Shape := ⟨2, ![1, 1024]⟩
abbrev S1x8x128x128 : Shape := ⟨4, ![1, 8, 128, 128]⟩
abbrev S1x8x128 : Shape := ⟨3, ![1, 8, 128]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1024 : Shape := ⟨1, ![1024]⟩
abbrev S1x1x1024 : Shape := ⟨3, ![1, 1, 1024]⟩
abbrev S8x16x128x8x128 : Shape := ⟨5, ![8, 16, 128, 8, 128]⟩
abbrev S8x128x128 : Shape := ⟨3, ![8, 128, 128]⟩
abbrev S8x8x16x128x128 : Shape := ⟨5, ![8, 8, 16, 128, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8x2048x1024, .bf16⟩
  | .hbm, ⟨5, _⟩ => ⟨S8x2048x1024, .f32⟩
  | .hbm, ⟨6, _⟩ => ⟨S8x2048x1024, .bf16⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1024, .f32⟩
  | .hbm, ⟨22, _⟩ => ⟨S1x1x1024, .f32⟩
  | .hbm, ⟨23, _⟩ => ⟨S8x2048x1024, .f32⟩
  | .hbm, ⟨24, _⟩ => ⟨S8x2048x1024, .f32⟩
  | .hbm, ⟨25, _⟩ => ⟨S8x16x128x8x128, .f32⟩
  | .hbm, ⟨26, _⟩ => ⟨S8x128x128, .f32⟩
  | .hbm, ⟨27, _⟩ => ⟨S8x8x16x128x128, .f32⟩
  | .hbm, ⟨28, _⟩ => ⟨S8x16x128x8x128, .f32⟩
  | .hbm, ⟨29, _⟩ => ⟨S8x128, .f32⟩
  | .hbm, ⟨30, _⟩ => ⟨S128x8, .f32⟩
  | .hbm, ⟨31, _⟩ => ⟨S128x8x1, .f32⟩
  | .hbm, ⟨32, _⟩ => ⟨S1x1x128x8x1, .f32⟩
  | .hbm, ⟨33, _⟩ => ⟨S8x16x128x8x128, .f32⟩
  | .hbm, ⟨34, _⟩ => ⟨S8x16x128x8x128, .f32⟩
  | .hbm, ⟨35, _⟩ => ⟨S8x2048x1024, .f32⟩
  | .hbm, ⟨36, _⟩ => ⟨S8x2048x1024, .f32⟩
  | .hbm, ⟨37, _⟩ => ⟨S8x2048x1024, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Conv.lean ====
abbrev S8x2048x6144 : Shape := ⟨3, ![8, 2048, 6144]⟩
abbrev S1x5x6144 : Shape := ⟨3, ![1, 5, 6144]⟩
abbrev S1x6144 : Shape := ⟨2, ![1, 6144]⟩
abbrev S1x1x6144 : Shape := ⟨3, ![1, 1, 6144]⟩
abbrev S1x16x1024 : Shape := ⟨3, ![1, 16, 1024]⟩
abbrev S1x512x1024 : Shape := ⟨3, ![1, 512, 1024]⟩
abbrev S1x5x1024 : Shape := ⟨3, ![1, 5, 1024]⟩
abbrev S1x1x1024 : Shape := ⟨3, ![1, 1, 1024]⟩
abbrev S16x1024 : Shape := ⟨2, ![16, 1024]⟩
abbrev S512x1024 : Shape := ⟨2, ![512, 1024]⟩
abbrev S544x1024 : Shape := ⟨2, ![544, 1024]⟩
abbrev S5x1024 : Shape := ⟨2, ![5, 1024]⟩
abbrev S1x1024 : Shape := ⟨2, ![1, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8x2048x6144, .bf16⟩
  | .hbm, ⟨1, _⟩ => ⟨S1x5x6144, .f32⟩
  | .hbm, ⟨2, _⟩ => ⟨S1x6144, .f32⟩
  | .hbm, ⟨3, _⟩ => ⟨S1x1x6144, .f32⟩
  | .hbm, ⟨4, _⟩ => ⟨S8x2048x6144, .bf16⟩
  | .local _ .vmem, ⟨0, _⟩ => ⟨S1x16x1024, .bf16⟩
  | .local _ .vmem, ⟨1, _⟩ => ⟨S1x16x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x5x1024, .f32⟩
  | .local _ .vmem, ⟨7, _⟩ => ⟨S1x5x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x512x1024, .bf16⟩
  | .local _ .vmem, ⟨11, _⟩ => ⟨S1x512x1024, .bf16⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 6], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c32_i32 : BitVec 32 := 32#32
  let v1 : BitVec 32 := Scalar.muli v0 c32_i32
  let c127_i32 : BitVec 32 := 127#32
  let v2 : BitVec 32 := Scalar.minsi v1 c127_i32
  let c0_i32 : BitVec 32 := 0#32
  ![arg0.toNat, v2.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x5x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ConvRefIdeal.lean ====
abbrev S8x2048x6144 : Shape := ⟨3, ![8, 2048, 6144]⟩
abbrev S1x5x6144 : Shape := ⟨3, ![1, 5, 6144]⟩
abbrev S1x6144 : Shape := ⟨2, ![1, 6144]⟩
abbrev S_ : Shape := ⟨0, ![]⟩
abbrev S8x2052x6144 : Shape := ⟨3, ![8, 2052, 6144]⟩
abbrev S6144 : Shape := ⟨1, ![6144]⟩
abbrev S1x1x6144 : Shape := ⟨3, ![1, 1, 6144]⟩

abbrev nBuf : Space → Nat
  | .hbm => 55
  | .vmem => 0
  | .smem => 0
  | _ => 0

abbrev bufTy : (tb : Table) → Fin (tcTables nBuf tb) → BufTy
  | .hbm, ⟨0, _⟩ => ⟨S8x2048x6144, .bf16⟩
  | .hbm, ⟨1, _⟩ => ⟨S1x5x6144, .f32⟩
  | .hbm, ⟨2, _⟩ => ⟨S1x6144, .f32⟩
  | .hbm, ⟨3, _⟩ => ⟨S8x2048x6144, .f32⟩
  | .hbm, ⟨4, _⟩ => ⟨S_, .i32⟩
  | .hbm, ⟨5, _⟩ => ⟨S_, .f32⟩
  | .hbm, ⟨6, _⟩ => ⟨S8x2052x6144, .f32⟩
  | .hbm, ⟨7, _⟩ => ⟨S6144, .f32⟩
  | .hbm, ⟨8, _⟩ => ⟨S8x2048x6144, .f32⟩
  | .hbm, ⟨9, _⟩ => ⟨S1x1x6144, .f32⟩
  | .hbm, ⟨10, _⟩ => ⟨S6144, .f32⟩
  | .hbm, ⟨11, _⟩ => ⟨S1x1x6144, .f32⟩
  | .hbm, ⟨12, _⟩ => ⟨S8x2048x6144, .f32⟩
  | .hbm, ⟨13, _⟩ => ⟨S8x2048x6144, .f32⟩
  | .hbm, ⟨14, _⟩ => ⟨S1x1x6144, .f32⟩
  | .hbm, ⟨15, _⟩ => ⟨S8x2048x6144, .f32⟩
  | .hbm, ⟨16, _⟩ => ⟨S8x2048x6144, .f32⟩
  | .hbm, ⟨17, _⟩ => ⟨S8x2048x6144, .f32⟩
  | .hbm, ⟨18, _⟩ => ⟨S1x1x6144, .f32⟩
  | .hbm, ⟨19, _⟩ => ⟨S6144, .f32⟩
  | .hbm, ⟨20, _⟩ => ⟨S1x1x6144, .f32⟩
  | .hbm, ⟨21, _⟩ => ⟨S8x2048x6144, .f32⟩
  | .hbm, ⟨22, _⟩ => ⟨S8x2048x6144, .f32⟩
  | .hbm, ⟨23, _⟩ => ⟨S8x2048x6144, .f32⟩
  | .hbm, ⟨24, _⟩ => ⟨S8x2048x6144, .f32⟩
  | .hbm, ⟨25, _⟩ => ⟨S1x1x6144, .f32⟩
  | .hbm, ⟨26, _⟩ => ⟨S6144, .f32⟩
  | .hbm, ⟨27, _⟩ => ⟨S1x1x6144, .f32⟩
  | .hbm, ⟨28, _⟩ => ⟨S8x2048x6144, .f32⟩
  | .hbm, ⟨29, _⟩ => ⟨S8x2048x6144, .f32⟩
  | .hbm, ⟨30, _⟩ => ⟨S8x2048x6144, .f32⟩
  | .hbm, ⟨31, _⟩ => ⟨S8x2048x6144, .f32⟩
  | .hbm, ⟨32, _⟩ => ⟨S1x1x6144, .f32⟩
  | .hbm, ⟨33, _⟩ => ⟨S6144, .f32⟩
  | .hbm, ⟨34, _⟩ => ⟨S1x1x6144, .f32⟩
  | .hbm, ⟨35, _⟩ => ⟨S8x2048x6144, .f32⟩
  | .hbm, ⟨36, _⟩ => ⟨S8x2048x6144, .f32⟩
  | .hbm, ⟨37, _⟩ => ⟨S8x2048x6144, .f32⟩
  | .hbm, ⟨38, _⟩ => ⟨S8x2048x6144, .f32⟩
  | .hbm, ⟨39, _⟩ => ⟨S1x1x6144, .f32⟩
  | .hbm, ⟨40, _⟩ => ⟨S6144, .f32⟩
  | .hbm, ⟨41, _⟩ => ⟨S1x1x6144, .f32⟩
  | .hbm, ⟨42, _⟩ => ⟨S8x2048x6144, .f32⟩
  | .hbm, ⟨43, _⟩ => ⟨S8x2048x6144, .f32⟩
  | .hbm, ⟨44, _⟩ => ⟨S8x2048x6144, .f32⟩
  | .hbm, ⟨45, _⟩ => ⟨S8x2048x6144, .f32⟩
  | .hbm, ⟨46, _⟩ => ⟨S8x2048x6144, .f32⟩
  | .hbm, ⟨47, _⟩ => ⟨S_, .f32⟩
  | .hbm, ⟨48, _⟩ => ⟨S8x2048x6144, .f32⟩
  | .hbm, ⟨49, _⟩ => ⟨S8x2048x6144, .f32⟩
  | .hbm, ⟨50, _⟩ => ⟨S_, .f32⟩
  | .hbm, ⟨51, _⟩ => ⟨S8x2048x6144, .f32⟩
  | .hbm, ⟨52, _⟩ => ⟨S8x2048x6144, .f32⟩
  | .hbm, ⟨53, _⟩ => ⟨S8x2048x6144, .f32⟩
  | .hbm, ⟨54, _⟩ => ⟨S8x2048x6144, .bf16⟩
  | _, _ => ⟨S8x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Comb.lean ====
abbrev S8x2048x128 : Shape := ⟨3, ![8, 2048, 128]⟩
abbrev S16x2048x2048 : Shape := ⟨3, ![16, 2048, 2048]⟩
abbrev S8x2048x2048 : Shape := ⟨3, ![8, 2048, 2048]⟩
abbrev S8x1x2048 : Shape := ⟨3, ![8, 1, 2048]⟩
abbrev S1x512x128 : Shape := ⟨3, ![1, 512, 128]⟩
abbrev S1x256x2048 : Shape := ⟨3, ![1, 256, 2048]⟩
abbrev S1x512x2048 : Shape := ⟨3, ![1, 512, 2048]⟩
abbrev S1x1x2048 : Shape := ⟨3, ![1, 1, 2048]⟩
abbrev S512x2048 : Shape := ⟨2, ![512, 2048]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S256x2048 : Shape := ⟨2, ![256, 2048]⟩
abbrev S1x2048 : Shape := ⟨2, ![1, 2048]⟩

abbrev nBuf : Space → Nat
  | .hbm => 6
  | .vmem => 13
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S16x2048x2048, .bf16⟩
  | .hbm, ⟨3, _⟩ => ⟨S8x2048x2048, .f32⟩
  | .hbm, ⟨4, _⟩ => ⟨S8x1x2048, .f32⟩
  | .hbm, ⟨5, _⟩ => ⟨S8x2048x2048, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x256x2048, .bf16⟩
  | .local _ .vmem, ⟨5, _⟩ => ⟨S1x256x2048, .bf16⟩
  | .local _ .vmem, ⟨6, _⟩ => ⟨S1x512x2048, .f32⟩
  | .local _ .vmem, ⟨7, _⟩ => ⟨S1x512x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x512x2048, .f32⟩
  | .local _ .vmem, ⟨11, _⟩ => ⟨S1x512x2048, .f32⟩
  | .local _ .vmem, ⟨12, _⟩ => ⟨S512x2048, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 16], ![false, false, false]⟩

def k0_cond3 (i : grid0.Coords) : BitVec 1 :=
  let arg2 : BitVec 32 := BitVec.ofNat 32 (i 2).val
  let c15_i32 : BitVec 32 := 15#32
  let v33 : BitVec 1 := Scalar.cmpi .eq arg2 c15_i32
  let v34 : BitVec 32 := Scalar.extui v33
  let c0_i32_15 : BitVec 32 := 0#32
  let v35 : BitVec 1 := Scalar.cmpi .ne v34 c0_i32_15
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== CombRefIdeal.lean ====
abbrev S8x2048x128 : Shape := ⟨3, ![8, 2048, 128]⟩
abbrev S16x2048x2048 : Shape := ⟨3, ![16, 2048, 2048]⟩
abbrev S8x2048x2048 : Shape := ⟨3, ![8, 2048, 2048]⟩
abbrev S8x1x2048 : Shape := ⟨3, ![8, 1, 2048]⟩
abbrev S8x2048x16 : Shape := ⟨3, ![8, 2048, 16]⟩
abbrev S_ : Shape := ⟨0, ![]⟩
abbrev S16x8x256x2048 : Shape := ⟨4, ![16, 8, 256, 2048]⟩
abbrev S16 : Shape := ⟨1, ![16]⟩
abbrev S1x1x16 : Shape := ⟨3, ![1, 1, 16]⟩
abbrev S8 : Shape := ⟨1, ![8]⟩
abbrev S8x1x1 : Shape := ⟨3, ![8, 1, 1]⟩
abbrev S8x2048x16x1 : Shape := ⟨4, ![8, 2048, 16, 1]⟩
abbrev S8x2048x16x3 : Shape := ⟨4, ![8, 2048, 16, 3]⟩
abbrev S8x2048x16x2048 : Shape := ⟨4, ![8, 2048, 16, 2048]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x128, .f32⟩
  | .hbm, ⟨2, _⟩ => ⟨S16x2048x2048, .bf16⟩
  | .hbm, ⟨3, _⟩ => ⟨S8x2048x2048, .f32⟩
  | .hbm, ⟨4, _⟩ => ⟨S8x1x2048, .f32⟩
  | .hbm, ⟨5, _⟩ => ⟨S8x2048x16, .f32⟩
  | .hbm, ⟨6, _⟩ => ⟨S8x2048x16, .f32⟩
  | .hbm, ⟨7, _⟩ => ⟨S8x2048x16, .i32⟩
  | .hbm, ⟨8, _⟩ => ⟨S_, .i32⟩
  | .hbm, ⟨9, _⟩ => ⟨S8x2048x16, .i32⟩
  | .hbm, ⟨10, _⟩ => ⟨S8x2048x16, .i1⟩
  | .hbm, ⟨11, _⟩ => ⟨S_, .i32⟩
  | .hbm, ⟨12, _⟩ => ⟨S8x2048x16, .i32⟩
  | .hbm, ⟨13, _⟩ => ⟨S8x2048x16, .i1⟩
  | .hbm, ⟨14, _⟩ => ⟨S8x2048x16, .i1⟩
  | .hbm, ⟨15, _⟩ => ⟨S8x2048x16, .f32⟩
  | .hbm, ⟨16, _⟩ => ⟨S8x2048x16, .i1⟩
  | .hbm, ⟨17, _⟩ => ⟨S8x2048x16, .i1⟩
  | .hbm, ⟨18, _⟩ => ⟨S16x2048x2048, .f32⟩
  | .hbm, ⟨19, _⟩ => ⟨S16x8x256x2048, .f32⟩
  | .hbm, ⟨20, _⟩ => ⟨S16, .i32⟩
  | .hbm, ⟨21, _⟩ => ⟨S1x1x16, .i32⟩
  | .hbm, ⟨22, _⟩ => ⟨S8, .i32⟩
  | .hbm, ⟨23, _⟩ => ⟨S8x1x1, .i32⟩
  | .hbm, ⟨24, _⟩ => ⟨S_, .i32⟩
  | .hbm, ⟨25, _⟩ => ⟨S1x1x16, .i32⟩
  | .hbm, ⟨26, _⟩ => ⟨S1x1x16, .i1⟩
  | .hbm, ⟨27, _⟩ => ⟨S_, .i32⟩
  | .hbm, ⟨28, _⟩ => ⟨S1x1x16, .i32⟩
  | .hbm, ⟨29, _⟩ => ⟨S1x1x16, .i32⟩
  | .hbm, ⟨30, _⟩ => ⟨S1x1x16, .i32⟩
  | .hbm, ⟨31, _⟩ => ⟨S_, .i32⟩
  | .hbm, ⟨32, _⟩ => ⟨S8x1x1, .i32⟩
  | .hbm, ⟨33, _⟩ => ⟨S8x1x1, .i1⟩
  | .hbm, ⟨34, _⟩ => ⟨S_, .i32⟩
  | .hbm, ⟨35, _⟩ => ⟨S8x1x1, .i32⟩
  | .hbm, ⟨36, _⟩ => ⟨S8x1x1, .i32⟩
  | .hbm, ⟨37, _⟩ => ⟨S8x1x1, .i32⟩
  | .hbm, ⟨38, _⟩ => ⟨S_, .i32⟩
  | .hbm, ⟨39, _⟩ => ⟨S8x2048x16, .i32⟩
  | .hbm, ⟨40, _⟩ => ⟨S8x2048x16, .i1⟩
  | .hbm, ⟨41, _⟩ => ⟨S_, .i32⟩
  | .hbm, ⟨42, _⟩ => ⟨S8x2048x16, .i32⟩
  | .hbm, ⟨43, _⟩ => ⟨S8x2048x16, .i32⟩
  | .hbm, ⟨44, _⟩ => ⟨S8x2048x16, .i32⟩
  | .hbm, ⟨45, _⟩ => ⟨S8x2048x16, .i32⟩
  | .hbm, ⟨46, _⟩ => ⟨S8x2048x16, .i32⟩
  | .hbm, ⟨47, _⟩ => ⟨S8x2048x16x1, .i32⟩
  | .hbm, ⟨48, _⟩ => ⟨S8x2048x16x1, .i32⟩
  | .hbm, ⟨49, _⟩ => ⟨S8x2048x16x1, .i32⟩
  | .hbm, ⟨50, _⟩ => ⟨S8x2048x16x3, .i32⟩
  | .hbm, ⟨51, _⟩ => ⟨S8x2048x16x2048, .f32⟩
  | .hbm, ⟨52, _⟩ => ⟨S_, .f32⟩
  | .hbm, ⟨53, _⟩ => ⟨S_, .f32⟩
  | .hbm, ⟨54, _⟩ => ⟨S8x2048x16, .f32⟩
  | .hbm, ⟨55, _⟩ => ⟨S8x2048x16, .f32⟩
  | .hbm, ⟨56, _⟩ => ⟨S8x2048x16x1, .f32⟩
  | .hbm, ⟨57, _⟩ => ⟨S8x2048x16x2048, .f32⟩
  | .hbm, ⟨58, _⟩ => ⟨S8x2048x16x2048, .f32⟩
  | .hbm, ⟨59, _⟩ => ⟨S_, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S8x2048x2048, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_call0_v0 : Ref sig .tc := ⟨.hbm, 53, rfl⟩
abbrev main_call0_v1 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Proof.FfnBlock.lean ====
/-
  The expert feed-forward kernel, ONE GRID POINT: what a point adds to the accumulator at an index.

  A point holds a [1024, 2048] block `x` of an expert's rows, a [2048, 256] block of each of the expert's gate and up
  matrices, and a [256, 2048] block of its down matrix. `addend` is the sum over the 256 hidden units of the block of
  `silu (x·gate) * (x·up) * down`; the first point of a run of eight stores it (`scratch_first`), a later one adds it
  (`scratch_mid`, `scratch_last`), and the last one also writes the accumulator out (`out_last`).
-/
module

public import proofs.«01_k».proof.Proof.Gen.FfnIdeal.Value
public import Idealize.ShloMosaic.Lib.Pointwise
public import Idealize.ShloMosaic.Lib.Tactic

@[expose] public section

set_option maxRecDepth 16384

noncomputable section

namespace Cert.FfnValue

open Cert.FfnIdeal Cert.FfnIdeal.Gen Idealize.ShloMosaic Idealize.ShloMosaic.TcCoe Idealize.SL.Sem

/-- The gate's activation as the kernel computes it: `x / (1 + exp (0 - x))`. -/
def silu (x : EReal) : EReal := Ideal.div x (1 + Ideal.exp (0 - x))

/-- What one point contributes at row `r`, column `c` of its block. -/
def addend (x : Vec Ideal S1x1024x2048 .bf16) (g u : Vec Ideal S1x1x2048x256 .f32) (d : Vec Ideal S1x1x256x2048 .f32)
    (r : Fin 1024) (c : Fin 2048) : EReal :=
  ∑ f : Fin 256, silu (∑ k : Fin 2048, x (ix3 0 r k) * g (ix4 0 0 k f))
    * (∑ k : Fin 2048, x (ix3 0 r k) * u (ix4 0 0 k f)) * d (ix4 0 0 f c)

theorem pay2_apply (x : Vec Ideal S1x1024x2048 .bf16) (g u : Vec Ideal S1x1x2048x256 .f32)
    (d : Vec Ideal S1x1x256x2048 .f32) (r : Fin 1024) (c : Fin 2048) :
    k0_pay2 (F := Ideal) x g u d (ix2 r c) = addend x g u d r c := by
  unfold addend silu
  pointwise [k0_pay2]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first point of a run stores its product. -/
theorem scratch_first (c : Dev nD) (i : grid0.Coords) (a3 : Memref sig .tc .vmem S1x1024x2048 .bf16) (h3 : a3.IsWhole)
    (a4 : Memref sig .tc .vmem S1x1x2048x256 .f32) (h4 : a4.IsWhole) (a5 : Memref sig .tc .vmem S1x1x2048x256 .f32)
    (h5 : a5.IsWhole) (a6 : Memref sig .tc .vmem S1x1x256x2048 .f32) (h6 : a6.IsWhole)
    (a7 : Memref sig .tc .vmem S1x1024x2048 .bf16) (h7 : a7.IsWhole) (a8 : Memref sig .tc .vmem S1024x2048 .f32)
    (h8 : a8.IsWhole) (hc0 : cond0_0 i) (hc1 : ¬cond0_1 i) (hc2 : ¬cond0_2 i)
    (x : Vec Ideal S1x1024x2048 .bf16) (g u : Vec Ideal S1x1x2048x256 .f32) (d : Vec Ideal S1x1x256x2048 .f32) :
    sout0_A_0 (F := Ideal) c i a3 h3 a4 h4 a5 h5 a6 h6 a7 h7 a8 h8 hc0 hc1 hc2 x g u d = k0_pay2 x g u d := by
  unfold sout0_A_0
  rw [View.read_writes_eq_canon _ _ _ (scover0_A_0 c i a3 h3 a4 h4 a5 h5 a6 h6 a7 h7 a8 h8 hc0 hc1 hc2 x g u d)]
  unfold kernelRun0_A
  dsimp only
  sl_unfold_words
  rw [View.canon_unit_zero hz2]
  unfold k0_pay3
  simp only [View.readAt_eq_ld, h3.read_unread, h4.read_unread, h5.read_unread, h6.read_unread,
    View.ld_unit_zero (S := S1x1024x2048) hz3, View.ld_unit_zero (S := S1x1x2048x256) hz4,
    View.ld_unit_zero (S := S1x1x256x2048) hz4, shapeCast_self]

/-- A middle point adds its product to what the point before left. -/
theorem scratch_mid (c : Dev nD) (i : grid0.Coords) (a3 : Memref sig .tc .vmem S1x1024x2048 .bf16) (h3 : a3.IsWhole)
    (a4 : Memref sig .tc .vmem S1x1x2048x256 .f32) (h4 : a4.IsWhole) (a5 : Memref sig .tc .vmem S1x1x2048x256 .f32)
    (h5 : a5.IsWhole) (a6 : Memref sig .tc .vmem S1x1x256x2048 .f32) (h6 : a6.IsWhole)
    (a7 : Memref sig .tc .vmem S1x1024x2048 .bf16) (h7 : a7.IsWhole) (a8 : Memref sig .tc .vmem S1024x2048 .f32)
    (h8 : a8.IsWhole) (hc0 : ¬cond0_0 i) (hc1 : cond0_1 i) (hc2 : ¬cond0_2 i)
    (x : Vec Ideal S1x1024x2048 .bf16) (g u : Vec Ideal S1x1x2048x256 .f32) (d : Vec Ideal S1x1x256x2048 .f32)
    (s : Vec Ideal S1024x2048 .f32) :
    sout0_B_0 (F := Ideal) c i a3 h3 a4 h4 a5 h5 a6 h6 a7 h7 a8 h8 hc0 hc1 hc2 x g u d s
      = addf s (k0_pay2 x g u d) := by
  unfold sout0_B_0
  rw [View.read_writes_eq_canon _ _ _ (scover0_B_0 c i a3 h3 a4 h4 a5 h5 a6 h6 a7 h7 a8 h8 hc0 hc1 hc2 x g u d s)]
  unfold kernelRun0_B
  dsimp only
  sl_unfold_words
  rw [View.canon_unit_zero hz2]
  unfold k0_pay4
  simp only [View.readAt_eq_ld, h3.read_unread, h4.read_unread, h5.read_unread, h6.read_unread, h8.read_unread,
    View.ld_unit_zero (S := S1x1024x2048) hz3, View.ld_unit_zero (S := S1x1x2048x256) hz4,
    View.ld_unit_zero (S := S1x1x256x2048) hz4, View.ld_unit_zero (S := S1024x2048) hz2, shapeCast_self]

/-- So does the last point of a run. -/
theorem scratch_last (c : Dev nD) (i : grid0.Coords) (a3 : Memref sig .tc .vmem S1x1024x2048 .bf16) (h3 : a3.IsWhole)
    (a4 : Memref sig .tc .vmem S1x1x2048x256 .f32) (h4 : a4.IsWhole) (a5 : Memref sig .tc .vmem S1x1x2048x256 .f32)
    (h5 : a5.IsWhole) (a6 : Memref sig .tc .vmem S1x1x256x2048 .f32) (h6 : a6.IsWhole)
    (a7 : Memref sig .tc .vmem S1x1024x2048 .bf16) (h7 : a7.IsWhole) (a8 : Memref sig .tc .vmem S1024x2048 .f32)
    (h8 : a8.IsWhole) (hc0 : ¬cond0_0 i) (hc1 : cond0_1 i) (hc2 : cond0_2 i)
    (x : Vec Ideal S1x1024x2048 .bf16) (g u : Vec Ideal S1x1x2048x256 .f32) (d : Vec Ideal S1x1x256x2048 .f32)
    (s : Vec Ideal S1024x2048 .f32) :
    sout0_C_0 (F := Ideal) c i a3 h3 a4 h4 a5 h5 a6 h6 a7 h7 a8 h8 hc0 hc1 hc2 x g u d s
      = addf s (k0_pay2 x g u d) := by
  unfold sout0_C_0
  rw [View.read_writes_eq_canon _ _ _ (scover0_C_0 c i a3 h3 a4 h4 a5 h5 a6 h6 a7 h7 a8 h8 hc0 hc1 hc2 x g u d s)]
  unfold kernelRun0_C
  dsimp only
  sl_unfold_words
  rw [View.canon_unit_zero hz2]
  unfold k0_pay4
  simp only [View.readAt_eq_ld, h3.read_unread, h4.read_unread, h5.read_unread, h6.read_unread, h8.read_unread,
    View.ld_unit_zero (S := S1x1024x2048) hz3, View.ld_unit_zero (S := S1x1x2048x256) hz4,
    View.ld_unit_zero (S := S1x1x256x2048) hz4, View.ld_unit_zero (S := S1024x2048) hz2, shapeCast_self]

/-- … which writes the accumulator out, narrowed. -/
theorem out_last (c : Dev nD) (i : grid0.Coords) (a3 : Memref sig .tc .vmem S1x1024x2048 .bf16) (h3 : a3.IsWhole)
    (a4 : Memref sig .tc .vmem S1x1x2048x256 .f32) (h4 : a4.IsWhole) (a5 : Memref sig .tc .vmem S1x1x2048x256 .f32)
    (h5 : a5.IsWhole) (a6 : Memref sig .tc .vmem S1x1x256x2048 .f32) (h6 : a6.IsWhole)
    (a7 : Memref sig .tc .vmem S1x1024x2048 .bf16) (h7 : a7.IsWhole) (a8 : Memref sig .tc .vmem S1024x2048 .f32)
    (h8 : a8.IsWhole) (hc0 : ¬cond0_0 i) (hc1 : cond0_1 i) (hc2 : cond0_2 i)
    (x : Vec Ideal S1x1024x2048 .bf16) (g u : Vec Ideal S1x1x2048x256 .f32) (d : Vec Ideal S1x1x256x2048 .f32)
    (s : Vec Ideal S1024x2048 .f32) :
    out0_C_4 (F := Ideal) c i a3 h3 a4 h4 a5 h5 a6 h6 a7 h7 a8 h8 hc0 hc1 hc2 x g u d s
      = k0_pay1 (addf s (k0_pay2 x g u d)) := by
  unfold out0_C_4
  rw [View.read_writes_eq_canon _ _ _ (cover0_C_4 c i a3 h3 a4 h4 a5 h5 a6 h6 a7 h7 a8 h8 hc0 hc1 hc2 x g u d s)]
  unfold kernelRun0_C
  dsimp only
  sl_unfold_words
  rw [View.canon_unit_zero hz3, View.readCov_unit_zero (S := S1024x2048) _ hz2]
  unfold k0_pay4
  simp only [View.readAt_eq_ld, h3.read_unread, h4.read_unread, h5.read_unread, h6.read_unread, h8.read_unread,
    View.ld_unit_zero (S := S1x1024x2048) hz3, View.ld_unit_zero (S := S1x1x2048x256) hz4,
    View.ld_unit_zero (S := S1x1x256x2048) hz4, View.ld_unit_zero (S := S1024x2048) hz2, shapeCast_self]

theorem pay1_apply (s : Vec Ideal S1024x2048 .f32) (r : Fin 1024) (c : Fin 2048) :
    k0_pay1 (F := Ideal) s (ix3 0 r c) = s (ix2 r c) := by
  pointwise [k0_pay1]

end Cert.FfnValue

end
-- ==== Proof.FfnFold.lean ====
/-
  The expert feed-forward kernel, THE WHOLE GRID: what its result array holds at an index.

  Grid point `t` works for expert `t / 16`, half `(t / 8) % 2` of its rows and slice `t % 8` of its hidden units. The eight
  points of a run add the eight slices' contributions in the accumulator, so the array's element is the sum over the
  slices of the sum over a slice's 256 hidden units (`result_apply`).
-/
module

public import proofs.«01_k».proof.Proof.FfnBlock

@[expose] public section

set_option maxRecDepth 16384

noncomputable section

namespace Cert.FfnValue

open Cert.FfnIdeal Cert.FfnIdeal.Gen Cert.FfnIdeal.Value Idealize.ShloMosaic Idealize.ShloMosaic.TcCoe Idealize.SL.Sem

variable (m : (ℓ : Loc nD τ sig) → Buf (Elt Ideal) ℓ)

/-- The rows, and the gate, up and down matrices, as launched. -/
abbrev rows (c : Dev nD) : Vec Ideal S16x2048x2048 .bf16 := m ((c : Thread nD τ).loc main_arg0)
abbrev gate (c : Dev nD) : Vec Ideal S2x16x2048x2048 .f32 := m ((c : Thread nD τ).loc main_arg1)
abbrev up (c : Dev nD) : Vec Ideal S2x16x2048x2048 .f32 := m ((c : Thread nD τ).loc main_arg2)
abbrev down (c : Dev nD) : Vec Ideal S2x16x2048x2048 .f32 := m ((c : Thread nD τ).loc main_arg3)

/-! ## The blocks a point sees -/

theorem idx0 : ∀ t : Fin cfg0.N, win0_0.index t 0 = t.val / 16 ∧ win0_0.index t 1 = t.val / 8 % 2 ∧ win0_0.index t 2 = 0 :=
  (by decide +kernel : ∀ t : Fin grid0.N, _)
theorem idx1 : ∀ t : Fin cfg0.N, win0_1.index t 0 = 0 ∧ win0_1.index t 1 = t.val / 16 ∧ win0_1.index t 2 = 0
    ∧ win0_1.index t 3 = t.val % 8 :=
  (by decide +kernel : ∀ t : Fin grid0.N, _)
theorem idx2 : ∀ t : Fin cfg0.N, win0_2.index t 0 = 0 ∧ win0_2.index t 1 = t.val / 16 ∧ win0_2.index t 2 = 0
    ∧ win0_2.index t 3 = t.val % 8 :=
  (by decide +kernel : ∀ t : Fin grid0.N, _)
theorem idx3 : ∀ t : Fin cfg0.N, win0_3.index t 0 = 0 ∧ win0_3.index t 1 = t.val / 16 ∧ win0_3.index t 2 = t.val % 8
    ∧ win0_3.index t 3 = 0 :=
  (by decide +kernel : ∀ t : Fin grid0.N, _)

theorem N_le (t : Fin cfg0.N) : t.val < 256 := lt_of_lt_of_eq t.isLt (show cfg0.N = 256 from N_0)

/-- The expert, the row and the hidden unit that point `t` handles at a place of its block. -/
def expertOf (t : ℕ) : Fin 16 := ⟨t / 16 % 16, Nat.mod_lt _ (by decide)⟩
def rowOf (t : ℕ) (r : Fin 1024) : Fin 2048 := ⟨t / 8 % 2 * 1024 + r.val, by have := r.isLt; omega⟩
def unitOf (s : ℕ) (f : Fin 256) : Fin 2048 := ⟨s % 8 * 256 + f.val, by have := f.isLt; omega⟩

theorem blk_rows (c : Dev nD) (t : Fin cfg0.N) (r : Fin 1024) (k : Fin 2048) :
    (iblk m c 0 t : Vec Ideal S1x1024x2048 .bf16) (ix3 0 r k) = rows m c (ix3 (expertOf t.val) (rowOf t.val r) k) := by
  have ht := N_le t
  obtain ⟨h0, h1, h2⟩ := idx0 t
  unfold iblk
  rw [View.read_apply]
  show V m c main_arg0 _ = _
  unfold V rows
  congr 1
  funext a
  apply Fin.ext
  match a with
  | ⟨0, _⟩ => show win0_0.index t 0 * 1 + 1 * 0 = t.val / 16 % 16; rw [h0]; omega
  | ⟨1, _⟩ => show win0_0.index t 1 * 1024 + 1 * r.val = t.val / 8 % 2 * 1024 + r.val; rw [h1]; omega
  | ⟨2, _⟩ => show win0_0.index t 2 * 2048 + 1 * k.val = k.val; rw [h2]; omega

theorem blk_gate (c : Dev nD) (t : Fin cfg0.N) (k : Fin 2048) (f : Fin 256) :
    (iblk m c 1 t : Vec Ideal S1x1x2048x256 .f32) (ix4 0 0 k f) = gate m c (ix4 0 (expertOf t.val) k (unitOf t.val f)) := by
  have ht := N_le t
  obtain ⟨h0, h1, h2, h3⟩ := idx1 t
  unfold iblk
  rw [View.read_apply]
  show V m c main_arg1 _ = _
  unfold V gate
  congr 1
  funext a
  apply Fin.ext
  match a with
  | ⟨0, _⟩ => show win0_1.index t 0 * 1 + 1 * 0 = 0; rw [h0]
  | ⟨1, _⟩ => show win0_1.index t 1 * 1 + 1 * 0 = t.val / 16 % 16; rw [h1]; omega
  | ⟨2, _⟩ => show win0_1.index t 2 * 2048 + 1 * k.val = k.val; rw [h2]; omega
  | ⟨3, _⟩ => show win0_1.index t 3 * 256 + 1 * f.val = t.val % 8 * 256 + f.val; rw [h3]; omega

theorem blk_up (c : Dev nD) (t : Fin cfg0.N) (k : Fin 2048) (f : Fin 256) :
    (iblk m c 2 t : Vec Ideal S1x1x2048x256 .f32) (ix4 0 0 k f) = up m c (ix4 0 (expertOf t.val) k (unitOf t.val f)) := by
  have ht := N_le t
  obtain ⟨h0, h1, h2, h3⟩ := idx2 t
  unfold iblk
  rw [View.read_apply]
  show V m c main_arg2 _ = _
  unfold V up
  congr 1
  funext a
  apply Fin.ext
  match a with
  | ⟨0, _⟩ => show win0_2.index t 0 * 1 + 1 * 0 = 0; rw [h0]
  | ⟨1, _⟩ => show win0_2.index t 1 * 1 + 1 * 0 = t.val / 16 % 16; rw [h1]; omega
  | ⟨2, _⟩ => show win0_2.index t 2 * 2048 + 1 * k.val = k.val; rw [h2]; omega
  | ⟨3, _⟩ => show win0_2.index t 3 * 256 + 1 * f.val = t.val % 8 * 256 + f.val; rw [h3]; omega

theorem blk_down (c : Dev nD) (t : Fin cfg0.N) (f : Fin 256) (k : Fin 2048) :
    (iblk m c 3 t : Vec Ideal S1x1x256x2048 .f32) (ix4 0 0 f k) = down m c (ix4 0 (expertOf t.val) (unitOf t.val f) k) := by
  have ht := N_le t
  obtain ⟨h0, h1, h2, h3⟩ := idx3 t
  unfold iblk
  rw [View.read_apply]
  show V m c main_arg3 _ = _
  unfold V down
  congr 1
  funext a
  apply Fin.ext
  match a with
  | ⟨0, _⟩ => show win0_3.index t 0 * 1 + 1 * 0 = 0; rw [h0]
  | ⟨1, _⟩ => show win0_3.index t 1 * 1 + 1 * 0 = t.val / 16 % 16; rw [h1]; omega
  | ⟨2, _⟩ => show win0_3.index t 2 * 256 + 1 * f.val = t.val % 8 * 256 + f.val; rw [h2]; omega
  | ⟨3, _⟩ => show win0_3.index t 3 * 2048 + 1 * k.val = k.val; rw [h3]; omega

/-! ## The contribution of a point, from the arrays -/

/-- Hidden unit `f`'s contribution to the result's element `(e, r, d)`. -/
def term (c : Dev nD) (e : Fin 16) (r d f : Fin 2048) : EReal :=
  silu (∑ k : Fin 2048, rows m c (ix3 e r k) * gate m c (ix4 0 e k f))
    * (∑ k : Fin 2048, rows m c (ix3 e r k) * up m c (ix4 0 e k f)) * down m c (ix4 0 e f d)

/-- What point `t` adds at place `(r, d)` of its block. -/
def part (c : Dev nD) (t : ℕ) (j : S1024x2048.Idx) : EReal :=
  ∑ f : Fin 256, term m c (expertOf t) (rowOf t (j 0)) (j 1) (unitOf t f)

theorem pay2_part (c : Dev nD) (t : Fin cfg0.N) (j : S1024x2048.Idx) :
    k0_pay2 (F := Ideal) (iblk m c 0 t) (iblk m c 1 t) (iblk m c 2 t) (iblk m c 3 t) j = part m c t.val j := by
  obtain ⟨r, d, rfl⟩ : ∃ (r : Fin 1024) (d : Fin 2048), j = ix2 r d := ⟨j 0, j 1, eq_ix2 j⟩
  rw [pay2_apply]
  unfold addend part term
  simp only [blk_rows m, blk_gate m, blk_up m, blk_down m]
  rfl

/-- The accumulator after point `t`: the sum of the contributions of its run's points so far. -/
theorem scratch_eq (c : Dev nD) (t : Fin cfg0.N) (j : S1024x2048.Idx) :
    (outsAt0 m c t.val t.isLt).2 j = ∑ s ∈ Finset.range (t.val % 8 + 1), part m c (8 * (t.val / 8) + s) j := by
  have ht := N_le t
  rw [soutsAt0_0_eq]
  refine (Pipeline.accAt_add_apply _ _ (fun _ => (0 : EReal)) (fun n i => part m c n i) (8 * (t.val / 8)) 7
    ?_ ?_ (t.val % 8) (by omega) _ j).trans (zero_add _)
  · intro h i
    unfold scAt0_0
    rw [dif_pos (by omega), dif_neg (by omega), dif_neg (by omega), scratch_first, zero_add]
    exact pay2_part m c ⟨_, h⟩ i
  · intro n h acc i h1 h2
    unfold scAt0_0
    rw [dif_neg (by omega), dif_pos (by omega)]
    by_cases h7 : n % 8 = 7
    · rw [dif_pos h7, scratch_last]
      exact congrArg (acc i + ·) (pay2_part m c ⟨_, h⟩ i)
    · rw [dif_neg h7, scratch_mid]
      exact congrArg (acc i + ·) (pay2_part m c ⟨_, h⟩ i)

/-- What the last point of a run writes out is the accumulator. -/
theorem out_eq (c : Dev nD) (t : Fin cfg0.N) (h7 : t.val % 8 = 7) (r : Fin 1024) (d : Fin 2048) :
    (outsAt0 m c t.val t.isLt).1 (ix3 0 r d) = (outsAt0 m c t.val t.isLt).2 (ix2 r d) := by
  rw [outsAt0_C m c t (by omega) (by omega) h7]
  dsimp only
  rw [out_last, scratch_last, pay1_apply]

/-- The result array, element by element. -/
theorem result_apply (c : Dev nD) (e : Fin 16) (r d : Fin 2048) :
    (G4 m c : Vec Ideal S16x2048x2048 .bf16) (ix3 e r d)
      = (∑ s ∈ Finset.range 8, ∑ f : Fin 256, term m c e r d (unitOf s f) : EReal) := by
  have he := e.isLt
  have hr := r.isLt
  have hd := d.isLt
  have hp : pt4Of (ix3 e r d) = 8 * (2 * e.val + r.val / 1024) + 7 := by
    show 8 * (2 * (e.val / 1 - 0) + 1 * (r.val / 1024 - 0) + 1 * (d.val / 2048 - 0)) + 7 = _
    omega
  have hN : cfg0.N = 256 := N_0
  have hlt : 8 * (2 * e.val + r.val / 1024) + 7 < cfg0.N := by omega
  have hl : loc4Of (ix3 e r d) = ix3 0 (⟨r.val % 1024, Nat.mod_lt _ (by decide)⟩ : Fin 1024) d := by
    funext a; apply Fin.ext
    match a with
    | ⟨0, _⟩ => show e.val % 1 = 0; omega
    | ⟨1, _⟩ => rfl
    | ⟨2, _⟩ => show d.val % 2048 = d.val; omega
  unfold G4
  rw [dif_pos (by rw [hp]; exact hlt), hl, fold0_congr m c _ _ _ (by omega) hp, ← outsAt0_sweep m c _ hlt]
  have h7 : (⟨_, hlt⟩ : Fin cfg0.N).val % 8 = 7 := by dsimp only; omega
  rw [out_eq m c ⟨_, hlt⟩ h7, scratch_eq m c ⟨_, hlt⟩, h7]
  show (∑ s ∈ Finset.range 8, part m c (8 * ((8 * (2 * e.val + r.val / 1024) + 7) / 8) + s) (ix2 _ d) : EReal) = _
  refine Finset.sum_congr rfl fun s hs => ?_
  have hs8 : s < 8 := Finset.mem_range.mp hs
  unfold part
  refine Finset.sum_congr rfl fun f _ => ?_
  have e1 : expertOf (8 * ((8 * (2 * e.val + r.val / 1024) + 7) / 8) + s) = e := by
    unfold expertOf; apply Fin.ext; dsimp only; omega
  have e2 : rowOf (8 * ((8 * (2 * e.val + r.val / 1024) + 7) / 8) + s) (⟨r.val % 1024, Nat.mod_lt _ (by decide)⟩ : Fin 1024) = r := by
    unfold rowOf; apply Fin.ext; dsimp only; omega
  have e3 : unitOf (8 * ((8 * (2 * e.val + r.val / 1024) + 7) / 8) + s) f = unitOf s f := by
    unfold unitOf; apply Fin.ext; dsimp only; omega
  show term m c (expertOf _) (rowOf _ _) d (unitOf _ f) = _
  rw [e1, e3]
  exact congrArg (fun q => term m c e q d (unitOf s f)) e2

end Cert.FfnValue

end
-- ==== Proof.FfnJoin.lean ====
/-
  The expert feed-forward: the kernel's array IS the reference's.

  The reference contracts the 2048 hidden units at once and writes its activation `x * (1 / (1 + exp (-x)))`; the kernel
  adds eight slices of 256 and writes `x / (1 + exp (0 - x))`. The two activations are one function of an extended real
  (`silu_eq`: the denominator is at least 1, so both are `x` times its inverse), and the sums are re-indexed.
-/
module

public import proofs.«01_k».proof.Proof.FfnFold
public import proofs.«01_k».proof.Proof.Gen.FfnRefIdeal.Read

@[expose] public section

set_option maxRecDepth 16384

noncomputable section

namespace Cert.FfnValue

open Idealize.ShloMosaic Idealize.ShloMosaic.TcCoe Idealize.SL.Sem

theorem exp_nonneg (x : EReal) : 0 ≤ Ideal.exp x := by
  induction x with
  | bot => simp
  | top => simp
  | coe r => rw [Ideal.exp_coe]; exact_mod_cast (Real.exp_pos r).le

theorem one_add_exp_ne_zero (x : EReal) : (1 : EReal) + Ideal.exp x ≠ 0 := by
  have h : (1 : EReal) ≤ 1 + Ideal.exp x := le_add_of_nonneg_right (exp_nonneg x)
  exact (lt_of_lt_of_le zero_lt_one h).ne'

/-- The two spellings of the activation. -/
theorem silu_eq (x : EReal) : silu x = x * Ideal.div 1 (1 + Ideal.exp (-x)) := by
  unfold silu Ideal.div
  rw [zero_sub, if_neg (one_add_exp_ne_zero _), if_neg (one_add_exp_ne_zero _), one_mul]

/-- Eight slices of 256 are the 2048 hidden units. -/
theorem sum_units (g : Fin 2048 → EReal) :
    (∑ s ∈ Finset.range 8, ∑ f : Fin 256, g (unitOf s f)) = ∑ u : Fin 2048, g u := by
  rw [Finset.sum_range (n := 8) (fun s => ∑ f : Fin 256, g (unitOf s f)),
    ← Fintype.sum_prod_type' (fun (s : Fin 8) (f : Fin 256) => g (unitOf s.val f)),
    ← Equiv.sum_comp (finProdFinEquiv (m := 8) (n := 256)) g]
  refine Finset.sum_congr rfl fun p _ => congrArg g (Fin.ext ?_)
  have h1 := p.1.isLt
  show p.1.val % 8 * 256 + p.2.val = p.2.val + 256 * p.1.val
  omega

section Reference
open Cert.FfnRefIdeal Cert.FfnRefIdeal.Read

variable (x : Vec Ideal S16x2048x2048 .bf16) (g u d : Vec Ideal S2x16x2048x2048 .f32)

/-- The reference read at an index. -/
theorem ref_apply (e : Fin 16) (r c : Fin 2048) :
    (val_main_v12 (F := Ideal) x g u d : Vec Ideal S16x2048x2048 .bf16) (ix3 e r c)
      = (∑ f : Fin 2048, silu (∑ k : Fin 2048, x (ix3 e r k) * g (ix4 0 e k f))
          * (∑ k : Fin 2048, x (ix3 e r k) * u (ix4 0 e k f)) * d (ix4 0 e f c) : EReal) := by
  simp only [silu_eq]
  unfold val_main_v12 val_main_v11 val_main_v10 val_main_v9 val_main_v8 val_main_v7 val_main_v6 val_main_v5 val_main_v4
    val_main_call0_v5 val_main_call0_v4 val_main_call0_cst_0 val_main_call0_v3 val_main_call0_v2 val_main_call0_cst
    val_main_call0_v1 val_main_call0_v0 val_main_v3 val_main_v2 val_main_v1 val_main_v0
  pointwise []

end Reference

variable (m : (ℓ : Loc Cert.FfnIdeal.nD Cert.FfnIdeal.τ Cert.FfnIdeal.sig) → Buf (Elt Ideal) ℓ)

/-- The kernel's array is the reference's value of the same arguments. -/
theorem result_eq (c : Dev Cert.FfnIdeal.nD) :
    (Cert.FfnIdeal.Value.G4 m c : Vec Ideal Cert.FfnIdeal.S16x2048x2048 .bf16)
      = Cert.FfnRefIdeal.Read.val_main_v12 (F := Ideal) (rows m c) (gate m c) (up m c) (down m c) := by
  funext i
  obtain ⟨e, r, k, rfl⟩ : ∃ (e : Fin 16) (r k : Fin 2048), i = ix3 e r k := ⟨i 0, i 1, i 2, eq_ix3 i⟩
  rw [result_apply m c e r k, ref_apply, sum_units (fun f => term m c e r k f)]
  rfl

end Cert.FfnValue

end
-- ==== Proof.InZValue.lean ====
/-
  The state-space layer's projection into `z`: the kernel's array is the reference's.

  Grid point `t` works for rows `512·(t % 32) …` and columns `1024·(t / 32) …`. The weight block is narrowed into a scratch
  at the first point of each run of 32 and reused at the other 31, so after any point the scratch holds the run's weight
  block (`scratch_eq`), and every point writes the product of its rows with it.
-/
module

public import proofs.«01_k».proof.Proof.Gen.InZIdeal.Value
public import proofs.«01_k».proof.Proof.Gen.InZRefIdeal.Read
public import Idealize.ShloMosaic.Lib.Pointwise
public import Idealize.ShloMosaic.Lib.Tactic

@[expose] public section

set_option maxRecDepth 16384

noncomputable section

namespace Cert.InZValue

open Cert.InZIdeal Cert.InZIdeal.Gen Cert.InZIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay1_apply (w : Vec Ideal S1x2048x1024 .f32) (k : Fin 2048) (n : Fin 1024) :
    k0_pay1 (F := Ideal) w (ix2 k n) = w (ix3 0 k n) := by
  pointwise [k0_pay1]

theorem pay2_apply (x : Vec Ideal S512x2048 .bf16) (w : Vec Ideal S2048x1024 .bf16) (r : Fin 512) (n : Fin 1024) :
    k0_pay2 (F := Ideal) x w (ix2 r n) = ∑ k : Fin 2048, x (ix2 r k) * w (ix2 k n) := by
  pointwise [k0_pay2]

/-- The first point of a run stores the narrowed weight block. -/
theorem scratch_first (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : cond0_0 i)
    (x : Vec Ideal S512x2048 .bf16) (w : Vec Ideal S1x2048x1024 .f32) :
    sout0_A_0 (F := Ideal) c i a2 h2 a3 h3 a4 h4 a5 h5 hc0 x w = k0_pay1 w := by
  unfold sout0_A_0
  rw [View.read_writes_eq_canon _ _ _ (scover0_A_0 c i a2 h2 a3 h3 a4 h4 a5 h5 hc0 x w)]
  unfold kernelRun0_A
  dsimp only
  sl_unfold_words
  rw [View.canon_unit_zero hz2]
  simp only [View.readAt_eq_ld, h2.read_unread, h3.read_unread,
    View.ld_unit_zero (S := S512x2048) hz2, View.ld_unit_zero (S := S1x2048x1024) hz3, shapeCast_self]

theorem out_first (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : cond0_0 i)
    (x : Vec Ideal S512x2048 .bf16) (w : Vec Ideal S1x2048x1024 .f32) :
    out0_A_2 (F := Ideal) c i a2 h2 a3 h3 a4 h4 a5 h5 hc0 x w = k0_pay2 x (k0_pay1 w) := by
  unfold out0_A_2
  rw [View.read_writes_eq_canon _ _ _ (cover0_A_2 c i a2 h2 a3 h3 a4 h4 a5 h5 hc0 x w)]
  unfold kernelRun0_A
  dsimp only
  sl_unfold_words
  rw [View.canon_unit_zero hz2, View.readCov_unit_zero (S := S2048x1024) _ hz2]
  simp only [View.readAt_eq_ld, h2.read_unread, h3.read_unread,
    View.ld_unit_zero (S := S512x2048) hz2, View.ld_unit_zero (S := S1x2048x1024) hz3, shapeCast_self]

/-- A later point leaves the scratch as it was. -/
theorem scratch_later (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : ¬cond0_0 i)
    (x : Vec Ideal S512x2048 .bf16) (w : Vec Ideal S1x2048x1024 .f32) (s : Vec Ideal S2048x1024 .bf16) :
    sout0_B_0 (F := Ideal) c i a2 h2 a3 h3 a4 h4 a5 h5 hc0 x w s = s := rfl

theorem out_later (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : ¬cond0_0 i)
    (x : Vec Ideal S512x2048 .bf16) (w : Vec Ideal S1x2048x1024 .f32) (s : Vec Ideal S2048x1024 .bf16) :
    out0_B_2 (F := Ideal) c i a2 h2 a3 h3 a4 h4 a5 h5 hc0 x w s = k0_pay2 x s := by
  unfold out0_B_2
  rw [View.read_writes_eq_canon _ _ _ (cover0_B_2 c i a2 h2 a3 h3 a4 h4 a5 h5 hc0 x w s)]
  unfold kernelRun0_B
  dsimp only
  sl_unfold_words
  rw [View.canon_unit_zero hz2]
  simp only [View.readAt_eq_ld, h2.read_unread, h5.read_unread,
    View.ld_unit_zero (S := S512x2048) hz2, View.ld_unit_zero (S := S2048x1024) hz2]

/-! ## The whole grid -/

variable (m : (ℓ : Loc nD τ sig) → Buf (Elt Ideal) ℓ)

/-- The rows and the weights, as launched. -/
abbrev rows (c : Dev nD) : Vec Ideal S8x2048x2048 .bf16 := m ((c : Thread nD τ).loc main_arg0)
abbrev weights (c : Dev nD) : Vec Ideal S1x2048x10368 .f32 := m ((c : Thread nD τ).loc main_arg1)

/-- The rows as the kernel gets them, the batches one below the other. -/
theorem V_rows (c : Dev nD) : V m c main_v0 = shapeCast S16384x2048 (rows m c) shapeCasts_S8x2048x2048_S16384x2048 := by
  show StableHlo.after hostOps0 _ (Proc.devRef .tc main_v0) = _
  after_results
  rfl

theorem idx0 : ∀ t : Fin cfg0.N, win0_0.index t 0 = t.val % 32 ∧ win0_0.index t 1 = 0 :=
  (by decide +kernel : ∀ t : Fin grid0.N, _)
theorem idx1 : ∀ t : Fin cfg0.N, win0_1.index t 0 = 0 ∧ win0_1.index t 1 = 0 ∧ win0_1.index t 2 = t.val / 32 :=
  (by decide +kernel : ∀ t : Fin grid0.N, _)

theorem N_le (t : Fin cfg0.N) : t.val < 128 := lt_of_lt_of_eq t.isLt (show cfg0.N = 128 from N_0)

/-- The row and the column of the arrays that a point handles at a place of its blocks. -/
def rowOf (t : ℕ) (r : Fin 512) : Fin 16384 := ⟨t % 32 * 512 + r.val, by have := r.isLt; omega⟩
def colOf (t : ℕ) (n : Fin 1024) : Fin 10368 := ⟨t / 32 % 4 * 1024 + n.val + 0, by have := n.isLt; omega⟩

theorem blk_rows (c : Dev nD) (t : Fin cfg0.N) (r : Fin 512) (k : Fin 2048) :
    (iblk m c 0 t : Vec Ideal S512x2048 .bf16) (ix2 r k)
      = shapeCast S16384x2048 (rows m c) shapeCasts_S8x2048x2048_S16384x2048 (ix2 (rowOf t.val r) k) := by
  obtain ⟨h0, h1⟩ := idx0 t
  unfold iblk
  rw [View.read_apply]
  show V m c main_v0 _ = _
  rw [V_rows]
  congr 1
  funext a
  apply Fin.ext
  match a with
  | ⟨0, _⟩ => show win0_0.index t 0 * 512 + 1 * r.val = t.val % 32 * 512 + r.val; rw [h0]; omega
  | ⟨1, _⟩ => show win0_0.index t 1 * 2048 + 1 * k.val = k.val; rw [h1]; omega

theorem blk_weights (c : Dev nD) (t : Fin cfg0.N) (k : Fin 2048) (n : Fin 1024) :
    (X0_1 m c t : Vec Ideal S1x2048x1024 .f32) (ix3 0 k n) = weights m c (ix3 0 k (colOf t.val n)) := by
  have ht := N_le t
  obtain ⟨h0, h1, h2⟩ := idx1 t
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 1024 + 1 * n.val = t.val / 32 % 4 * 1024 + n.val + 0; rw [h2]; omega

/-- After every point the scratch holds its run's weight block. -/
theorem scratch_eq (c : Dev nD) : ∀ (t : ℕ) (ht : t < cfg0.N) (k : Fin 2048) (n : Fin 1024),
    (outsAt0 m c t ht).2 (ix2 k n) = weights m c (ix3 0 k (colOf t n)) := by
  intro t
  induction t with
  | zero =>
    intro ht k n
    rw [outsAt0_A m c ⟨0, ht⟩ (Nat.zero_mod _)]
    dsimp only
    rw [scratch_first, pay1_apply, blk_weights]
  | succ t ih =>
    intro ht k n
    by_cases h0 : (t + 1) % 32 = 0
    · rw [outsAt0_A m c ⟨t + 1, ht⟩ h0]
      dsimp only
      rw [scratch_first, pay1_apply, blk_weights]
    · rw [outsAt0_B m c ⟨t + 1, ht⟩ h0]
      dsimp only
      rw [scratch_later]
      show (outsAt0 m c t _).2 (ix2 k n) = _
      rw [ih]
      have e : colOf t n = colOf (t + 1) n := by unfold colOf; apply Fin.ext; dsimp only; omega
      rw [e]

/-- What every point writes: its rows times the weights of its columns. -/
theorem out_eq (c : Dev nD) (t : Fin cfg0.N) (r : Fin 512) (n : Fin 1024) :
    (outsAt0 m c t.val t.isLt).1 (ix2 r n)
      = (∑ k : Fin 2048, shapeCast S16384x2048 (rows m c) shapeCasts_S8x2048x2048_S16384x2048 (ix2 (rowOf t.val r) k)
          * weights m c (ix3 0 k (colOf t.val n)) : EReal) := by
  have h : (outsAt0 m c t.val t.isLt).1 = k0_pay2 (F := Ideal) (iblk m c 0 t) (outsAt0 m c t.val t.isLt).2 := by
    by_cases h0 : t.val % 32 = 0
    · rw [outsAt0_A m c t h0]
      dsimp only
      rw [out_first, scratch_first]
    · rw [outsAt0_B m c t h0]
      dsimp only
      rw [out_later, scratch_later]
  rw [h, pay2_apply]
  simp only [scratch_eq m, blk_rows m]

/-- The result array, element by element. -/
theorem result_apply (c : Dev nD) (r : Fin 16384) (n : Fin 4096) :
    (G2 m c : Vec Ideal S16384x4096 .bf16) (ix2 r n)
      = (∑ k : Fin 2048, shapeCast S16384x2048 (rows m c) shapeCasts_S8x2048x2048_S16384x2048 (ix2 r k)
          * weights m c (ix3 0 k ⟨n.val + 0, by have := n.isLt; omega⟩) : EReal) := by
  have hr := r.isLt
  have hn := n.isLt
  have hp : pt2Of (ix2 r n) = 32 * (n.val / 1024) + r.val / 512 := by
    show 1 * (r.val / 512 - 0) + 32 * (n.val / 1024 - 0) = _
    omega
  have hN : cfg0.N = 128 := N_0
  have hlt : 32 * (n.val / 1024) + r.val / 512 < cfg0.N := by omega
  have hl : loc2Of (ix2 r n) = ix2 (⟨r.val % 512, Nat.mod_lt _ (by decide)⟩ : Fin 512) (⟨n.val % 1024, Nat.mod_lt _ (by decide)⟩ : Fin 1024) := by
    funext a; apply Fin.ext
    match a with
    | ⟨0, _⟩ => rfl
    | ⟨1, _⟩ => rfl
  unfold G2
  rw [dif_pos (by rw [hp]; exact hlt), hl, fold0_congr m c _ _ _ (by omega) hp, ← outsAt0_sweep m c _ hlt]
  rw [out_eq m c ⟨_, hlt⟩]
  have e1 : rowOf (32 * (n.val / 1024) + r.val / 512) (⟨r.val % 512, Nat.mod_lt _ (by decide)⟩ : Fin 512) = r := by
    unfold rowOf; apply Fin.ext; dsimp only; omega
  have e2 : colOf (32 * (n.val / 1024) + r.val / 512) (⟨n.val % 1024, Nat.mod_lt _ (by decide)⟩ : Fin 1024)
      = ⟨n.val + 0, by omega⟩ := by
    unfold colOf; apply Fin.ext; dsimp only; omega
  dsimp only
  rw [e1, e2]

/-! ## The reference -/

/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem stacked (x : Vec Ideal S8x2048x2048 .bf16) (r : Fin 16384) (k : Fin 2048) :
    shapeCast S16384x2048 x shapeCasts_S8x2048x2048_S16384x2048 (ix2 r k) = x (ix3 (batchOf r) (placeOf r) k) := by
  unfold batchOf placeOf
  pointwise []

open Cert.InZRefIdeal.Read in
/-- The reference read at an index. -/
theorem ref_apply (x : Vec Ideal Cert.InZRefIdeal.S8x2048x2048 .bf16) (w : Vec Ideal Cert.InZRefIdeal.S1x2048x10368 .f32)
    (r : Fin 16384) (n : Fin 4096) :
    (val_main_v5 (F := Ideal) x w : Vec Ideal Cert.InZRefIdeal.S16384x4096 .bf16) (ix2 r n)
      = (∑ k : Fin 2048, x (ix3 (batchOf r) (placeOf r) k) * w (ix3 0 k ⟨n.val + 0, by have := n.isLt; omega⟩) : EReal) := by
  unfold val_main_v5 val_main_v4 val_main_v3 val_main_v2 val_main_v1 val_main_v0 batchOf placeOf
  pointwise []

/-- The kernel's array is the reference's value of the same arguments. -/
theorem result_eq (c : Dev Cert.InZIdeal.nD) :
    (Cert.InZIdeal.Value.G2 m c : Vec Ideal Cert.InZIdeal.S16384x4096 .bf16)
      = Cert.InZRefIdeal.Read.val_main_v5 (F := Ideal) (rows m c) (weights m c) := by
  funext i
  obtain ⟨r, n, rfl⟩ : ∃ (r : Fin 16384) (n : Fin 4096), i = ix2 r n := ⟨i 0, i 1, eq_ix2 i⟩
  rw [result_apply m c r n, ref_apply]
  show (∑ k : Fin 2048, _ : EReal) = _
  exact Finset.sum_congr rfl fun k _ => congrArg (· * weights m c _) (stacked (rows m c) r k)

end Cert.InZValue

end
-- ==== Proof.InXbcValue.lean ====
/-
  The state-space layer's projection into `xbc`, the columns from 4096 on: the kernel's array is the reference's.

  Grid point `t` works for rows `512·(t % 32) …` and columns `1024·(t / 32) …` of the result. The weight block is narrowed into a scratch
  at the first point of each run of 32 and reused at the other 31, so after any point the scratch holds the run's weight
  block (`scratch_eq`), and every point writes the product of its rows with it.
-/
module

public import proofs.«01_k».proof.Proof.Gen.InXbcIdeal.Value
public import proofs.«01_k».proof.Proof.Gen.InXbcRefIdeal.Read
public import Idealize.ShloMosaic.Lib.Pointwise
public import Idealize.ShloMosaic.Lib.Tactic

@[expose] public section

set_option maxRecDepth 16384

noncomputable section

namespace Cert.InXbcValue

open Cert.InXbcIdeal Cert.InXbcIdeal.Gen Cert.InXbcIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay1_apply (w : Vec Ideal S1x2048x1024 .f32) (k : Fin 2048) (n : Fin 1024) :
    k0_pay1 (F := Ideal) w (ix2 k n) = w (ix3 0 k n) := by
  pointwise [k0_pay1]

theorem pay2_apply (x : Vec Ideal S512x2048 .bf16) (w : Vec Ideal S2048x1024 .bf16) (r : Fin 512) (n : Fin 1024) :
    k0_pay2 (F := Ideal) x w (ix2 r n) = ∑ k : Fin 2048, x (ix2 r k) * w (ix2 k n) := by
  pointwise [k0_pay2]

/-- The first point of a run stores the narrowed weight block. -/
theorem scratch_first (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : cond0_0 i)
    (x : Vec Ideal S512x2048 .bf16) (w : Vec Ideal S1x2048x1024 .f32) :
    sout0_A_0 (F := Ideal) c i a2 h2 a3 h3 a4 h4 a5 h5 hc0 x w = k0_pay1 w := by
  unfold sout0_A_0
  rw [View.read_writes_eq_canon _ _ _ (scover0_A_0 c i a2 h2 a3 h3 a4 h4 a5 h5 hc0 x w)]
  unfold kernelRun0_A
  dsimp only
  sl_unfold_words
  rw [View.canon_unit_zero hz2]
  simp only [View.readAt_eq_ld, h2.read_unread, h3.read_unread,
    View.ld_unit_zero (S := S512x2048) hz2, View.ld_unit_zero (S := S1x2048x1024) hz3, shapeCast_self]

theorem out_first (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : cond0_0 i)
    (x : Vec Ideal S512x2048 .bf16) (w : Vec Ideal S1x2048x1024 .f32) :
    out0_A_2 (F := Ideal) c i a2 h2 a3 h3 a4 h4 a5 h5 hc0 x w = k0_pay2 x (k0_pay1 w) := by
  unfold out0_A_2
  rw [View.read_writes_eq_canon _ _ _ (cover0_A_2 c i a2 h2 a3 h3 a4 h4 a5 h5 hc0 x w)]
  unfold kernelRun0_A
  dsimp only
  sl_unfold_words
  rw [View.canon_unit_zero hz2, View.readCov_unit_zero (S := S2048x1024) _ hz2]
  simp only [View.readAt_eq_ld, h2.read_unread, h3.read_unread,
    View.ld_unit_zero (S := S512x2048) hz2, View.ld_unit_zero (S := S1x2048x1024) hz3, shapeCast_self]

/-- A later point leaves the scratch as it was. -/
theorem scratch_later (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : ¬cond0_0 i)
    (x : Vec Ideal S512x2048 .bf16) (w : Vec Ideal S1x2048x1024 .f32) (s : Vec Ideal S2048x1024 .bf16) :
    sout0_B_0 (F := Ideal) c i a2 h2 a3 h3 a4 h4 a5 h5 hc0 x w s = s := rfl

theorem out_later (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : ¬cond0_0 i)
    (x : Vec Ideal S512x2048 .bf16) (w : Vec Ideal S1x2048x1024 .f32) (s : Vec Ideal S2048x1024 .bf16) :
    out0_B_2 (F := Ideal) c i a2 h2 a3 h3 a4 h4 a5 h5 hc0 x w s = k0_pay2 x s := by
  unfold out0_B_2
  rw [View.read_writes_eq_canon _ _ _ (cover0_B_2 c i a2 h2 a3 h3 a4 h4 a5 h5 hc0 x w s)]
  unfold kernelRun0_B
  dsimp only
  sl_unfold_words
  rw [View.canon_unit_zero hz2]
  simp only [View.readAt_eq_ld, h2.read_unread, h5.read_unread,
    View.ld_unit_zero (S := S512x2048) hz2, View.ld_unit_zero (S := S2048x1024) hz2]

/-! ## The whole grid -/

variable (m : (ℓ : Loc nD τ sig) → Buf (Elt Ideal) ℓ)

/-- The rows and the weights, as launched. -/
abbrev rows (c : Dev nD) : Vec Ideal S8x2048x2048 .bf16 := m ((c : Thread nD τ).loc main_arg0)
abbrev weights (c : Dev nD) : Vec Ideal S1x2048x10368 .f32 := m ((c : Thread nD τ).loc main_arg1)

/-- The rows as the kernel gets them, the batches one below the other. -/
theorem V_rows (c : Dev nD) : V m c main_v0 = shapeCast S16384x2048 (rows m c) shapeCasts_S8x2048x2048_S16384x2048 := by
  show StableHlo.after hostOps0 _ (Proc.devRef .tc main_v0) = _
  after_results
  rfl

theorem idx0 : ∀ t : Fin cfg0.N, win0_0.index t 0 = t.val % 32 ∧ win0_0.index t 1 = 0 :=
  (by decide +kernel : ∀ t : Fin grid0.N, _)
theorem idx1 : ∀ t : Fin cfg0.N, win0_1.index t 0 = 0 ∧ win0_1.index t 1 = 0 ∧ win0_1.index t 2 = t.val / 32 + 4 :=
  (by decide +kernel : ∀ t : Fin grid0.N, _)

theorem N_le (t : Fin cfg0.N) : t.val < 192 := lt_of_lt_of_eq t.isLt (show cfg0.N = 192 from N_0)

/-- The row and the column of the arrays that a point handles at a place of its blocks. -/
def rowOf (t : ℕ) (r : Fin 512) : Fin 16384 := ⟨t % 32 * 512 + r.val, by have := r.isLt; omega⟩
def colOf (t : ℕ) (n : Fin 1024) : Fin 10368 := ⟨t / 32 % 6 * 1024 + n.val + 4096, by have := n.isLt; omega⟩

theorem blk_rows (c : Dev nD) (t : Fin cfg0.N) (r : Fin 512) (k : Fin 2048) :
    (iblk m c 0 t : Vec Ideal S512x2048 .bf16) (ix2 r k)
      = shapeCast S16384x2048 (rows m c) shapeCasts_S8x2048x2048_S16384x2048 (ix2 (rowOf t.val r) k) := by
  obtain ⟨h0, h1⟩ := idx0 t
  unfold iblk
  rw [View.read_apply]
  show V m c main_v0 _ = _
  rw [V_rows]
  congr 1
  funext a
  apply Fin.ext
  match a with
  | ⟨0, _⟩ => show win0_0.index t 0 * 512 + 1 * r.val = t.val % 32 * 512 + r.val; rw [h0]; omega
  | ⟨1, _⟩ => show win0_0.index t 1 * 2048 + 1 * k.val = k.val; rw [h1]; omega

theorem blk_weights (c : Dev nD) (t : Fin cfg0.N) (k : Fin 2048) (n : Fin 1024) :
    (X0_1 m c t : Vec Ideal S1x2048x1024 .f32) (ix3 0 k n) = weights m c (ix3 0 k (colOf t.val n)) := by
  have ht := N_le t
  obtain ⟨h0, h1, h2⟩ := idx1 t
  unfold X0_1 Pipeline.Window.fill
  rw [dif_pos (moved0_1 t _)]
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 1024 + 1 * n.val = t.val / 32 % 6 * 1024 + n.val + 4096; rw [h2]; omega

/-- After every point the scratch holds its run's weight block. -/
theorem scratch_eq (c : Dev nD) : ∀ (t : ℕ) (ht : t < cfg0.N) (k : Fin 2048) (n : Fin 1024),
    (outsAt0 m c t ht).2 (ix2 k n) = weights m c (ix3 0 k (colOf t n)) := by
  intro t
  induction t with
  | zero =>
    intro ht k n
    rw [outsAt0_A m c ⟨0, ht⟩ (Nat.zero_mod _)]
    dsimp only
    rw [scratch_first, pay1_apply, blk_weights]
  | succ t ih =>
    intro ht k n
    by_cases h0 : (t + 1) % 32 = 0
    · rw [outsAt0_A m c ⟨t + 1, ht⟩ h0]
      dsimp only
      rw [scratch_first, pay1_apply, blk_weights]
    · rw [outsAt0_B m c ⟨t + 1, ht⟩ h0]
      dsimp only
      rw [scratch_later]
      show (outsAt0 m c t _).2 (ix2 k n) = _
      rw [ih]
      have e : colOf t n = colOf (t + 1) n := by unfold colOf; apply Fin.ext; dsimp only; omega
      rw [e]

/-- What every point writes: its rows times the weights of its columns. -/
theorem out_eq (c : Dev nD) (t : Fin cfg0.N) (r : Fin 512) (n : Fin 1024) :
    (outsAt0 m c t.val t.isLt).1 (ix2 r n)
      = (∑ k : Fin 2048, shapeCast S16384x2048 (rows m c) shapeCasts_S8x2048x2048_S16384x2048 (ix2 (rowOf t.val r) k)
          * weights m c (ix3 0 k (colOf t.val n)) : EReal) := by
  have h : (outsAt0 m c t.val t.isLt).1 = k0_pay2 (F := Ideal) (iblk m c 0 t) (outsAt0 m c t.val t.isLt).2 := by
    by_cases h0 : t.val % 32 = 0
    · rw [outsAt0_A m c t h0]
      dsimp only
      rw [out_first, scratch_first]
    · rw [outsAt0_B m c t h0]
      dsimp only
      rw [out_later, scratch_later]
  rw [h, pay2_apply]
  simp only [scratch_eq m, blk_rows m]

/-- The result array, element by element. -/
theorem result_apply (c : Dev nD) (r : Fin 16384) (n : Fin 6144) :
    (G2 m c : Vec Ideal S16384x6144 .bf16) (ix2 r n)
      = (∑ k : Fin 2048, shapeCast S16384x2048 (rows m c) shapeCasts_S8x2048x2048_S16384x2048 (ix2 r k)
          * weights m c (ix3 0 k ⟨4096 + n.val, by have := n.isLt; omega⟩) : EReal) := by
  have hr := r.isLt
  have hn := n.isLt
  have hp : pt2Of (ix2 r n) = 32 * (n.val / 1024) + r.val / 512 := by
    show 1 * (r.val / 512 - 0) + 32 * (n.val / 1024 - 0) = _
    omega
  have hN : cfg0.N = 192 := N_0
  have hlt : 32 * (n.val / 1024) + r.val / 512 < cfg0.N := by omega
  have hl : loc2Of (ix2 r n) = ix2 (⟨r.val % 512, Nat.mod_lt _ (by decide)⟩ : Fin 512) (⟨n.val % 1024, Nat.mod_lt _ (by decide)⟩ : Fin 1024) := by
    funext a; apply Fin.ext
    match a with
    | ⟨0, _⟩ => rfl
    | ⟨1, _⟩ => rfl
  unfold G2
  rw [dif_pos (by rw [hp]; exact hlt), hl, fold0_congr m c _ _ _ (by omega) hp, ← outsAt0_sweep m c _ hlt]
  rw [out_eq m c ⟨_, hlt⟩]
  have e1 : rowOf (32 * (n.val / 1024) + r.val / 512) (⟨r.val % 512, Nat.mod_lt _ (by decide)⟩ : Fin 512) = r := by
    unfold rowOf; apply Fin.ext; dsimp only; omega
  have e2 : colOf (32 * (n.val / 1024) + r.val / 512) (⟨n.val % 1024, Nat.mod_lt _ (by decide)⟩ : Fin 1024)
      = ⟨4096 + n.val, by omega⟩ := by
    unfold colOf; apply Fin.ext; dsimp only; omega
  dsimp only
  rw [e1, e2]

/-! ## The reference -/

/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem stacked (x : Vec Ideal S8x2048x2048 .bf16) (r : Fin 16384) (k : Fin 2048) :
    shapeCast S16384x2048 x shapeCasts_S8x2048x2048_S16384x2048 (ix2 r k) = x (ix3 (batchOf r) (placeOf r) k) := by
  unfold batchOf placeOf
  pointwise []

open Cert.InXbcRefIdeal.Read in
/-- The reference read at an index. -/
theorem ref_apply (x : Vec Ideal Cert.InXbcRefIdeal.S8x2048x2048 .bf16) (w : Vec Ideal Cert.InXbcRefIdeal.S1x2048x10368 .f32)
    (r : Fin 16384) (n : Fin 6144) :
    (val_main_v5 (F := Ideal) x w : Vec Ideal Cert.InXbcRefIdeal.S16384x6144 .bf16) (ix2 r n)
      = (∑ k : Fin 2048, x (ix3 (batchOf r) (placeOf r) k) * w (ix3 0 k ⟨4096 + n.val, by have := n.isLt; omega⟩) : EReal) := by
  unfold val_main_v5 val_main_v4 val_main_v3 val_main_v2 val_main_v1 val_main_v0 batchOf placeOf
  pointwise []

/-- The kernel's array is the reference's value of the same arguments. -/
theorem result_eq (c : Dev Cert.InXbcIdeal.nD) :
    (Cert.InXbcIdeal.Value.G2 m c : Vec Ideal Cert.InXbcIdeal.S16384x6144 .bf16)
      = Cert.InXbcRefIdeal.Read.val_main_v5 (F := Ideal) (rows m c) (weights m c) := by
  funext i
  obtain ⟨r, n, rfl⟩ : ∃ (r : Fin 16384) (n : Fin 6144), i = ix2 r n := ⟨i 0, i 1, eq_ix2 i⟩
  rw [result_apply m c r n, ref_apply]
  show (∑ k : Fin 2048, _ : EReal) = _
  exact Finset.sum_congr rfl fun k _ => congrArg (· * weights m c _) (stacked (rows m c) r k)

end Cert.InXbcValue

end
-- ==== Proof.InDtValue.lean ====
/-
  The state-space layer's projection into the raw time steps, the columns from 1280 on: the kernel's array is the reference's.

  Grid point `t` works for rows `512·t …` and all 128 columns. The weight block is narrowed into a scratch at the first
  point and reused at the other 31, so after any point the scratch holds the weight block (`scratch_eq`), and every point
  writes the product of its rows with it.
-/
module

public import proofs.«01_k».proof.Proof.Gen.InDtIdeal.Value
public import proofs.«01_k».proof.Proof.Gen.InDtRefIdeal.Read
public import Idealize.ShloMosaic.Lib.Pointwise
public import Idealize.ShloMosaic.Lib.Tactic

@[expose] public section

set_option maxRecDepth 16384

noncomputable section

namespace Cert.InDtValue

open Cert.InDtIdeal Cert.InDtIdeal.Gen Cert.InDtIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay1_apply (w : Vec Ideal S1x2048x128 .f32) (k : Fin 2048) (n : Fin 128) :
    k0_pay1 (F := Ideal) w (ix2 k n) = w (ix3 0 k n) := by
  pointwise [k0_pay1]

theorem pay2_apply (x : Vec Ideal S512x2048 .bf16) (w : Vec Ideal S2048x128 .bf16) (r : Fin 512) (n : Fin 128) :
    k0_pay2 (F := Ideal) x w (ix2 r n) = ∑ k : Fin 2048, x (ix2 r k) * w (ix2 k n) := by
  pointwise [k0_pay2]

/-- The first point of a run stores the narrowed weight block. -/
theorem scratch_first (c : Dev nD) (i : grid0.Coords) (a2 : Memref sig .tc .vmem S512x2048 .bf16) (h2 : a2.IsWhole)
    (a3 : Memref sig .tc .vmem S1x2048x128 .f32) (h3 : a3.IsWhole) (a4 : Memref sig .tc .vmem S512x128 .f32)
    (h4 : a4.IsWhole) (a5 : Memref sig .tc .vmem S2048x128 .bf16) (h5 : a5.IsWhole) (hc0 : cond0_0 i)
    (x : Vec Ideal S512x2048 .bf16) (w : Vec Ideal S1x2048x128 .f32) :
    sout0_A_0 (F := Ideal) c i a2 h2 a3 h3 a4 h4 a5 h5 hc0 x w = k0_pay1 w := by
  unfold sout0_A_0
  rw [View.read_writes_eq_canon _ _ _ (scover0_A_0 c i a2 h2 a3 h3 a4 h4 a5 h5 hc0 x w)]
  unfold kernelRun0_A
  dsimp only
  sl_unfold_words
  rw [View.canon_unit_zero hz2]
  simp only [View.readAt_eq_ld, h2.read_unread, h3.read_unread,
    View.ld_unit_zero (S := S512x2048) hz2, View.ld_unit_zero (S := S1x2048x128) hz3, shapeCast_self]

theorem out_first (c : Dev nD) (i : grid0.Coords) (a2 : Memref sig .tc .vmem S512x2048 .bf16) (h2 : a2.IsWhole)
    (a3 : Memref sig .tc .vmem S1x2048x128 .f32) (h3 : a3.IsWhole) (a4 : Memref sig .tc .vmem S512x128 .f32)
    (h4 : a4.IsWhole) (a5 : Memref sig .tc .vmem S2048x128 .bf16) (h5 : a5.IsWhole) (hc0 : cond0_0 i)
    (x : Vec Ideal S512x2048 .bf16) (w : Vec Ideal S1x2048x128 .f32) :
    out0_A_2 (F := Ideal) c i a2 h2 a3 h3 a4 h4 a5 h5 hc0 x w = k0_pay2 x (k0_pay1 w) := by
  unfold out0_A_2
  rw [View.read_writes_eq_canon _ _ _ (cover0_A_2 c i a2 h2 a3 h3 a4 h4 a5 h5 hc0 x w)]
  unfold kernelRun0_A
  dsimp only
  sl_unfold_words
  rw [View.canon_unit_zero hz2, View.readCov_unit_zero (S := S2048x128) _ hz2]
  simp only [View.readAt_eq_ld, h2.read_unread, h3.read_unread,
    View.ld_unit_zero (S := S512x2048) hz2, View.ld_unit_zero (S := S1x2048x128) hz3, shapeCast_self]

/-- A later point leaves the scratch as it was. -/
theorem scratch_later (c : Dev nD) (i : grid0.Coords) (a2 : Memref sig .tc .vmem S512x2048 .bf16) (h2 : a2.IsWhole)
    (a3 : Memref sig .tc .vmem S1x2048x128 .f32) (h3 : a3.IsWhole) (a4 : Memref sig .tc .vmem S512x128 .f32)
    (h4 : a4.IsWhole) (a5 : Memref sig .tc .vmem S2048x128 .bf16) (h5 : a5.IsWhole) (hc0 : ¬cond0_0 i)
    (x : Vec Ideal S512x2048 .bf16) (w : Vec Ideal S1x2048x128 .f32) (s : Vec Ideal S2048x128 .bf16) :
    sout0_B_0 (F := Ideal) c i a2 h2 a3 h3 a4 h4 a5 h5 hc0 x w s = s := rfl

theorem out_later (c : Dev nD) (i : grid0.Coords) (a2 : Memref sig .tc .vmem S512x2048 .bf16) (h2 : a2.IsWhole)
    (a3 : Memref sig .tc .vmem S1x2048x128 .f32) (h3 : a3.IsWhole) (a4 : Memref sig .tc .vmem S512x128 .f32)
    (h4 : a4.IsWhole) (a5 : Memref sig .tc .vmem S2048x128 .bf16) (h5 : a5.IsWhole) (hc0 : ¬cond0_0 i)
    (x : Vec Ideal S512x2048 .bf16) (w : Vec Ideal S1x2048x128 .f32) (s : Vec Ideal S2048x128 .bf16) :
    out0_B_2 (F := Ideal) c i a2 h2 a3 h3 a4 h4 a5 h5 hc0 x w s = k0_pay2 x s := by
  unfold out0_B_2
  rw [View.read_writes_eq_canon _ _ _ (cover0_B_2 c i a2 h2 a3 h3 a4 h4 a5 h5 hc0 x w s)]
  unfold kernelRun0_B
  dsimp only
  sl_unfold_words
  rw [View.canon_unit_zero hz2]
  simp only [View.readAt_eq_ld, h2.read_unread, h5.read_unread,
    View.ld_unit_zero (S := S512x2048) hz2, View.ld_unit_zero (S := S2048x128) hz2]

/-! ## The whole grid -/

variable (m : (ℓ : Loc nD τ sig) → Buf (Elt Ideal) ℓ)

/-- The rows and the weights, as launched. -/
abbrev rows (c : Dev nD) : Vec Ideal S8x2048x2048 .bf16 := m ((c : Thread nD τ).loc main_arg0)
abbrev weights (c : Dev nD) : Vec Ideal S1x2048x10368 .f32 := m ((c : Thread nD τ).loc main_arg1)

/-- The rows as the kernel gets them, the batches one below the other. -/
theorem V_rows (c : Dev nD) : V m c main_v0 = shapeCast S16384x2048 (rows m c) shapeCasts_S8x2048x2048_S16384x2048 := by
  show StableHlo.after hostOps0 _ (Proc.devRef .tc main_v0) = _
  after_results
  rfl

theorem idx0 : ∀ t : Fin cfg0.N, win0_0.index t 0 = t.val % 32 ∧ win0_0.index t 1 = 0 :=
  (by decide +kernel : ∀ t : Fin grid0.N, _)
theorem idx1 : ∀ t : Fin cfg0.N, win0_1.index t 0 = 0 ∧ win0_1.index t 1 = 0 ∧ win0_1.index t 2 = t.val / 32 + 80 :=
  (by decide +kernel : ∀ t : Fin grid0.N, _)

theorem N_le (t : Fin cfg0.N) : t.val < 32 := lt_of_lt_of_eq t.isLt (show cfg0.N = 32 from N_0)

/-- The row and the column of the arrays that a point handles at a place of its blocks. -/
def rowOf (t : ℕ) (r : Fin 512) : Fin 16384 := ⟨t % 32 * 512 + r.val, by have := r.isLt; omega⟩
def colOf (t : ℕ) (n : Fin 128) : Fin 10368 := ⟨n.val + 10240, by have := n.isLt; omega⟩

theorem blk_rows (c : Dev nD) (t : Fin cfg0.N) (r : Fin 512) (k : Fin 2048) :
    (iblk m c 0 t : Vec Ideal S512x2048 .bf16) (ix2 r k)
      = shapeCast S16384x2048 (rows m c) shapeCasts_S8x2048x2048_S16384x2048 (ix2 (rowOf t.val r) k) := by
  obtain ⟨h0, h1⟩ := idx0 t
  unfold iblk
  rw [View.read_apply]
  show V m c main_v0 _ = _
  rw [V_rows]
  congr 1
  funext a
  apply Fin.ext
  match a with
  | ⟨0, _⟩ => show win0_0.index t 0 * 512 + 1 * r.val = t.val % 32 * 512 + r.val; rw [h0]; omega
  | ⟨1, _⟩ => show win0_0.index t 1 * 2048 + 1 * k.val = k.val; rw [h1]; omega

theorem blk_weights (c : Dev nD) (t : Fin cfg0.N) (k : Fin 2048) (n : Fin 128) :
    (iblk m c 1 t : Vec Ideal S1x2048x128 .f32) (ix3 0 k n) = weights m c (ix3 0 k (colOf t.val n)) := by
  have ht := N_le t
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 128 + 1 * n.val = n.val + 10240; rw [h2]; omega

/-- After every point the scratch holds its run's weight block. -/
theorem scratch_eq (c : Dev nD) : ∀ (t : ℕ) (ht : t < cfg0.N) (k : Fin 2048) (n : Fin 128),
    (outsAt0 m c t ht).2 (ix2 k n) = weights m c (ix3 0 k (colOf t n)) := by
  intro t
  induction t with
  | zero =>
    intro ht k n
    rw [outsAt0_A m c ⟨0, ht⟩ (Nat.zero_mod _)]
    dsimp only
    rw [scratch_first, pay1_apply, blk_weights]
  | succ t ih =>
    intro ht k n
    by_cases h0 : (t + 1) % 32 = 0
    · rw [outsAt0_A m c ⟨t + 1, ht⟩ h0]
      dsimp only
      rw [scratch_first, pay1_apply, blk_weights]
    · rw [outsAt0_B m c ⟨t + 1, ht⟩ h0]
      dsimp only
      rw [scratch_later]
      show (outsAt0 m c t _).2 (ix2 k n) = _
      rw [ih]
      rfl

/-- What every point writes: its rows times the weights of its columns. -/
theorem out_eq (c : Dev nD) (t : Fin cfg0.N) (r : Fin 512) (n : Fin 128) :
    (outsAt0 m c t.val t.isLt).1 (ix2 r n)
      = (∑ k : Fin 2048, shapeCast S16384x2048 (rows m c) shapeCasts_S8x2048x2048_S16384x2048 (ix2 (rowOf t.val r) k)
          * weights m c (ix3 0 k (colOf t.val n)) : EReal) := by
  have h : (outsAt0 m c t.val t.isLt).1 = k0_pay2 (F := Ideal) (iblk m c 0 t) (outsAt0 m c t.val t.isLt).2 := by
    by_cases h0 : t.val % 32 = 0
    · rw [outsAt0_A m c t h0]
      dsimp only
      rw [out_first, scratch_first]
    · rw [outsAt0_B m c t h0]
      dsimp only
      rw [out_later, scratch_later]
  rw [h, pay2_apply]
  simp only [scratch_eq m, blk_rows m]

/-- The result array, element by element. -/
theorem result_apply (c : Dev nD) (r : Fin 16384) (n : Fin 128) :
    (G2 m c : Vec Ideal S16384x128 .f32) (ix2 r n)
      = (∑ k : Fin 2048, shapeCast S16384x2048 (rows m c) shapeCasts_S8x2048x2048_S16384x2048 (ix2 r k)
          * weights m c (ix3 0 k ⟨10240 + n.val, by have := n.isLt; omega⟩) : EReal) := by
  have hr := r.isLt
  have hn := n.isLt
  have hp : pt2Of (ix2 r n) = 32 * (n.val / 128) + r.val / 512 := by
    show 1 * (r.val / 512 - 0) + 1 * (n.val / 128 - 0) = _
    omega
  have hN : cfg0.N = 32 := N_0
  have hlt : 32 * (n.val / 128) + r.val / 512 < cfg0.N := by omega
  have hl : loc2Of (ix2 r n) = ix2 (⟨r.val % 512, Nat.mod_lt _ (by decide)⟩ : Fin 512) (⟨n.val % 128, Nat.mod_lt _ (by decide)⟩ : Fin 128) := by
    funext a; apply Fin.ext
    match a with
    | ⟨0, _⟩ => rfl
    | ⟨1, _⟩ => rfl
  unfold G2
  rw [dif_pos (by rw [hp]; exact hlt), hl, fold0_congr m c _ _ _ (by omega) hp, ← outsAt0_sweep m c _ hlt]
  rw [out_eq m c ⟨_, hlt⟩]
  have e1 : rowOf (32 * (n.val / 128) + r.val / 512) (⟨r.val % 512, Nat.mod_lt _ (by decide)⟩ : Fin 512) = r := by
    unfold rowOf; apply Fin.ext; dsimp only; omega
  have e2 : colOf (32 * (n.val / 128) + r.val / 512) (⟨n.val % 128, Nat.mod_lt _ (by decide)⟩ : Fin 128)
      = ⟨10240 + n.val, by omega⟩ := by
    unfold colOf; apply Fin.ext; dsimp only; omega
  dsimp only
  rw [e1, e2]

/-! ## The reference -/

/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem stacked (x : Vec Ideal S8x2048x2048 .bf16) (r : Fin 16384) (k : Fin 2048) :
    shapeCast S16384x2048 x shapeCasts_S8x2048x2048_S16384x2048 (ix2 r k) = x (ix3 (batchOf r) (placeOf r) k) := by
  unfold batchOf placeOf
  pointwise []

open Cert.InDtRefIdeal.Read in
/-- The reference read at an index. -/
theorem ref_apply (x : Vec Ideal Cert.InDtRefIdeal.S8x2048x2048 .bf16) (w : Vec Ideal Cert.InDtRefIdeal.S1x2048x10368 .f32)
    (r : Fin 16384) (n : Fin 128) :
    (val_main_v4 (F := Ideal) x w : Vec Ideal Cert.InDtRefIdeal.S16384x128 .f32) (ix2 r n)
      = (∑ k : Fin 2048, x (ix3 (batchOf r) (placeOf r) k) * w (ix3 0 k ⟨10240 + n.val, by have := n.isLt; omega⟩) : EReal) := by
  unfold val_main_v4 val_main_v3 val_main_v2 val_main_v1 val_main_v0 batchOf placeOf
  pointwise []

/-- The kernel's array is the reference's value of the same arguments. -/
theorem result_eq (c : Dev Cert.InDtIdeal.nD) :
    (Cert.InDtIdeal.Value.G2 m c : Vec Ideal Cert.InDtIdeal.S16384x128 .f32)
      = Cert.InDtRefIdeal.Read.val_main_v4 (F := Ideal) (rows m c) (weights m c) := by
  funext i
  obtain ⟨r, n, rfl⟩ : ∃ (r : Fin 16384) (n : Fin 128), i = ix2 r n := ⟨i 0, i 1, eq_ix2 i⟩
  rw [result_apply m c r n, ref_apply]
  show (∑ k : Fin 2048, _ : EReal) = _
  exact Finset.sum_congr rfl fun k _ => congrArg (· * weights m c _) (stacked (rows m c) r k)

end Cert.InDtValue

end
-- ==== Proof.OutValue.lean ====
/-
  The state-space layer's output projection and residual: the kernel's array is the reference's.

  Grid point `t` works for rows `512·(t % 32) …` and columns `512·(t / 32) …`. The weight block is narrowed into a scratch
  at the first point of each run of 32 and reused at the other 31, so after any point the scratch holds the run's weight
  block (`scratch_eq`), and every point writes its residual block plus the batch's gate times the product of its rows with
  the scratch.
-/
module

public import proofs.«01_k».proof.Proof.Gen.OutIdeal.Value
public import proofs.«01_k».proof.Proof.Gen.OutRefIdeal.Read
public import Idealize.ShloMosaic.Lib.Pointwise
public import Idealize.ShloMosaic.Lib.Tactic

@[expose] public section

set_option maxRecDepth 16384

noncomputable section

namespace Cert.OutValue

open Cert.OutIdeal Cert.OutIdeal.Gen Cert.OutIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay1_apply (w : Vec Ideal S1x4096x512 .f32) (k : Fin 4096) (n : Fin 512) :
    k0_pay1 (F := Ideal) w (ix2 k n) = w (ix3 0 k n) := by
  pointwise [k0_pay1]

theorem pay2_apply (x : Vec Ideal S512x4096 .bf16) (w : Vec Ideal S4096x512 .bf16) (h : Vec Ideal S512x512 .f32)
    (g : Vec Ideal S1x1x512 .f32) (r : Fin 512) (n : Fin 512) :
    k0_pay2 (F := Ideal) x w h g (ix2 r n) = h (ix2 r n) + g (ix3 0 0 n) * ∑ k : Fin 4096, x (ix2 r k) * w (ix2 k n) := by
  pointwise [k0_pay2]

/-- The first point of a run stores the narrowed weight block. -/
theorem scratch_first (c : Dev nD) (i : grid0.Coords) (a2 : Memref sig .tc .vmem S512x4096 .bf16) (h2 : a2.IsWhole) (a3 : Memref sig .tc .vmem S1x4096x512 .f32) (h3 : a3.IsWhole) (a4 : Memref sig .tc .vmem S512x512 .f32) (h4 : a4.IsWhole) (a5 : Memref sig .tc .vmem S1x1x512 .f32) (h5 : a5.IsWhole) (a6 : Memref sig .tc .vmem S512x512 .f32) (h6 : a6.IsWhole) (a7 : Memref sig .tc .vmem S4096x512 .bf16) (h7 : a7.IsWhole) (hc0 : cond0_0 i)
    (x : Vec Ideal S512x4096 .bf16) (w : Vec Ideal S1x4096x512 .f32) (h : Vec Ideal S512x512 .f32) (g : Vec Ideal S1x1x512 .f32) :
    sout0_A_0 (F := Ideal) c i a2 h2 a3 h3 a4 h4 a5 h5 a6 h6 a7 h7 hc0 x w h g = k0_pay1 w := by
  unfold sout0_A_0
  rw [View.read_writes_eq_canon _ _ _ (scover0_A_0 c i a2 h2 a3 h3 a4 h4 a5 h5 a6 h6 a7 h7 hc0 x w h g)]
  unfold kernelRun0_A
  dsimp only
  sl_unfold_words
  rw [View.canon_unit_zero hz2]
  simp only [View.readAt_eq_ld, h2.read_unread, h3.read_unread, h4.read_unread, h5.read_unread,
    View.ld_unit_zero (S := S512x4096) hz2, View.ld_unit_zero (S := S1x4096x512) hz3, View.ld_unit_zero (S := S512x512) hz2, View.ld_unit_zero (S := S1x1x512) hz3, shapeCast_self]

theorem out_first (c : Dev nD) (i : grid0.Coords) (a2 : Memref sig .tc .vmem S512x4096 .bf16) (h2 : a2.IsWhole) (a3 : Memref sig .tc .vmem S1x4096x512 .f32) (h3 : a3.IsWhole) (a4 : Memref sig .tc .vmem S512x512 .f32) (h4 : a4.IsWhole) (a5 : Memref sig .tc .vmem S1x1x512 .f32) (h5 : a5.IsWhole) (a6 : Memref sig .tc .vmem S512x512 .f32) (h6 : a6.IsWhole) (a7 : Memref sig .tc .vmem S4096x512 .bf16) (h7 : a7.IsWhole) (hc0 : cond0_0 i)
    (x : Vec Ideal S512x4096 .bf16) (w : Vec Ideal S1x4096x512 .f32) (h : Vec Ideal S512x512 .f32) (g : Vec Ideal S1x1x512 .f32) :
    out0_A_4 (F := Ideal) c i a2 h2 a3 h3 a4 h4 a5 h5 a6 h6 a7 h7 hc0 x w h g = k0_pay2 x (k0_pay1 w) h g := by
  unfold out0_A_4
  rw [View.read_writes_eq_canon _ _ _ (cover0_A_4 c i a2 h2 a3 h3 a4 h4 a5 h5 a6 h6 a7 h7 hc0 x w h g)]
  unfold kernelRun0_A
  dsimp only
  sl_unfold_words
  rw [View.canon_unit_zero hz2, View.readCov_unit_zero (S := S4096x512) _ hz2]
  simp only [View.readAt_eq_ld, h2.read_unread, h3.read_unread, h4.read_unread, h5.read_unread,
    View.ld_unit_zero (S := S512x4096) hz2, View.ld_unit_zero (S := S1x4096x512) hz3, View.ld_unit_zero (S := S512x512) hz2, View.ld_unit_zero (S := S1x1x512) hz3, shapeCast_self]

/-- A later point leaves the scratch as it was. -/
theorem scratch_later (c : Dev nD) (i : grid0.Coords) (a2 : Memref sig .tc .vmem S512x4096 .bf16) (h2 : a2.IsWhole) (a3 : Memref sig .tc .vmem S1x4096x512 .f32) (h3 : a3.IsWhole) (a4 : Memref sig .tc .vmem S512x512 .f32) (h4 : a4.IsWhole) (a5 : Memref sig .tc .vmem S1x1x512 .f32) (h5 : a5.IsWhole) (a6 : Memref sig .tc .vmem S512x512 .f32) (h6 : a6.IsWhole) (a7 : Memref sig .tc .vmem S4096x512 .bf16) (h7 : a7.IsWhole) (hc0 : ¬cond0_0 i)
    (x : Vec Ideal S512x4096 .bf16) (w : Vec Ideal S1x4096x512 .f32) (h : Vec Ideal S512x512 .f32) (g : Vec Ideal S1x1x512 .f32) (s : Vec Ideal S4096x512 .bf16) :
    sout0_B_0 (F := Ideal) c i a2 h2 a3 h3 a4 h4 a5 h5 a6 h6 a7 h7 hc0 x w h g s = s := rfl

theorem out_later (c : Dev nD) (i : grid0.Coords) (a2 : Memref sig .tc .vmem S512x4096 .bf16) (h2 : a2.IsWhole) (a3 : Memref sig .tc .vmem S1x4096x512 .f32) (h3 : a3.IsWhole) (a4 : Memref sig .tc .vmem S512x512 .f32) (h4 : a4.IsWhole) (a5 : Memref sig .tc .vmem S1x1x512 .f32) (h5 : a5.IsWhole) (a6 : Memref sig .tc .vmem S512x512 .f32) (h6 : a6.IsWhole) (a7 : Memref sig .tc .vmem S4096x512 .bf16) (h7 : a7.IsWhole) (hc0 : ¬cond0_0 i)
    (x : Vec Ideal S512x4096 .bf16) (w : Vec Ideal S1x4096x512 .f32) (h : Vec Ideal S512x512 .f32) (g : Vec Ideal S1x1x512 .f32) (s : Vec Ideal S4096x512 .bf16) :
    out0_B_4 (F := Ideal) c i a2 h2 a3 h3 a4 h4 a5 h5 a6 h6 a7 h7 hc0 x w h g s = k0_pay2 x s h g := by
  unfold out0_B_4
  rw [View.read_writes_eq_canon _ _ _ (cover0_B_4 c i a2 h2 a3 h3 a4 h4 a5 h5 a6 h6 a7 h7 hc0 x w h g s)]
  unfold kernelRun0_B
  dsimp only
  sl_unfold_words
  rw [View.canon_unit_zero hz2]
  simp only [View.readAt_eq_ld, h2.read_unread, h3.read_unread, h4.read_unread, h5.read_unread, h7.read_unread,
    View.ld_unit_zero (S := S512x4096) hz2, View.ld_unit_zero (S := S4096x512) hz2, View.ld_unit_zero (S := S512x512) hz2, View.ld_unit_zero (S := S1x1x512) hz3]

/-! ## The whole grid -/

variable (m : (ℓ : Loc nD τ sig) → Buf (Elt Ideal) ℓ)

theorem N_le (t : Fin cfg0.N) : t.val < 128 := lt_of_lt_of_eq t.isLt (show cfg0.N = 128 from N_0)

/-- The normed rows, the residual stream, the gates and the weights, as launched. -/
abbrev rows (c : Dev nD) : Vec Ideal S16384x4096 .bf16 := m ((c : Thread nD τ).loc main_arg0)
abbrev resid (c : Dev nD) : Vec Ideal S8x2048x2048 .f32 := m ((c : Thread nD τ).loc main_arg1)
abbrev gates (c : Dev nD) : Vec Ideal S8x1x2048 .f32 := m ((c : Thread nD τ).loc main_arg2)
abbrev weights (c : Dev nD) : Vec Ideal S1x4096x2048 .f32 := m ((c : Thread nD τ).loc main_arg3)

/-- The residual stream as the kernel gets it, the batches one below the other. -/
abbrev h2 (c : Dev nD) : Vec Ideal S16384x2048 .f32 := shapeCast S16384x2048 (resid m c) shapeCasts_S8x2048x2048_S16384x2048

theorem V_resid (c : Dev nD) : V m c main_v0 = shapeCast S16384x2048 (resid m c) shapeCasts_S8x2048x2048_S16384x2048 := by
  show StableHlo.after hostOps0 _ (Proc.devRef .tc main_v0) = _
  after_results
  rfl

theorem idx0 : ∀ t : Fin cfg0.N, win0_0.index t 0 = t.val % 32 ∧ win0_0.index t 1 = 0 :=
  (by decide +kernel : ∀ t : Fin grid0.N, _)
theorem idx1 : ∀ t : Fin cfg0.N, win0_1.index t 0 = 0 ∧ win0_1.index t 1 = 0 ∧ win0_1.index t 2 = t.val / 32 :=
  (by decide +kernel : ∀ t : Fin grid0.N, _)
theorem idx2 : ∀ t : Fin cfg0.N, win0_2.index t 0 = t.val % 32 ∧ win0_2.index t 1 = t.val / 32 :=
  (by decide +kernel : ∀ t : Fin grid0.N, _)
theorem idx3 : ∀ t : Fin cfg0.N, win0_3.index t 0 = t.val % 32 / 4 ∧ win0_3.index t 1 = 0 ∧ win0_3.index t 2 = t.val / 32 :=
  (by decide +kernel : ∀ t : Fin grid0.N, _)

/-- The row and the column of the arrays that a point handles at a place of its blocks. -/
def rowOf (t : ℕ) (r : Fin 512) : Fin 16384 := ⟨t % 32 * 512 + r.val, by have := r.isLt; omega⟩
def colOf (t : ℕ) (n : Fin 512) : Fin 2048 := ⟨t / 32 % 4 * 512 + n.val, by have := n.isLt; omega⟩
/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem blk_rows (c : Dev nD) (t : Fin cfg0.N) (r : Fin 512) (k : Fin 4096) :
    (iblk m c 0 t : Vec Ideal S512x4096 .bf16) (ix2 r k) = rows m c (ix2 (rowOf t.val r) k) := by
  have ht := N_le t
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 512 + 1 * r.val = t.val % 32 * 512 + r.val; rw [h0]; omega
  | ⟨1, _⟩ => show win0_0.index t 1 * 4096 + 1 * k.val = k.val; rw [h1]; omega

theorem blk_weights (c : Dev nD) (t : Fin cfg0.N) (k : Fin 4096) (n : Fin 512) :
    (iblk m c 1 t : Vec Ideal S1x4096x512 .f32) (ix3 0 k n) = weights m c (ix3 0 k (colOf t.val n)) := by
  have ht := N_le t
  obtain ⟨h0, h1, h2⟩ := idx1 t
  unfold iblk
  rw [View.read_apply]
  show V m c main_arg3 _ = _
  rw [V_main_arg3]
  congr 1
  funext a
  apply Fin.ext
  match a with
  | ⟨0, _⟩ => show win0_1.index t 0 * 1 + 1 * 0 = 0; rw [h0]
  | ⟨1, _⟩ => show win0_1.index t 1 * 4096 + 1 * k.val = k.val; rw [h1]; omega
  | ⟨2, _⟩ => show win0_1.index t 2 * 512 + 1 * n.val = t.val / 32 % 4 * 512 + n.val; rw [h2]; omega

theorem blk_resid (c : Dev nD) (t : Fin cfg0.N) (r n : Fin 512) :
    (iblk m c 2 t : Vec Ideal S512x512 .f32) (ix2 r n) = h2 m c (ix2 (rowOf t.val r) (colOf t.val n)) := by
  have ht := N_le t
  obtain ⟨h0, h1⟩ := idx2 t
  unfold iblk
  rw [View.read_apply]
  show V m c main_v0 _ = _
  rw [V_resid]
  congr 1
  funext a
  apply Fin.ext
  match a with
  | ⟨0, _⟩ => show win0_2.index t 0 * 512 + 1 * r.val = t.val % 32 * 512 + r.val; rw [h0]; omega
  | ⟨1, _⟩ => show win0_2.index t 1 * 512 + 1 * n.val = t.val / 32 % 4 * 512 + n.val; rw [h1]; omega

theorem blk_gates (c : Dev nD) (t : Fin cfg0.N) (r n : Fin 512) :
    (iblk m c 3 t : Vec Ideal S1x1x512 .f32) (ix3 0 0 n) = gates m c (ix3 (batchOf (rowOf t.val r)) 0 (colOf t.val n)) := by
  have ht := N_le t
  obtain ⟨h0, h1, h2⟩ := idx3 t
  unfold iblk
  rw [View.read_apply]
  show V m c main_arg2 _ = _
  rw [V_main_arg2]
  congr 1
  funext a
  apply Fin.ext
  match a with
  | ⟨0, _⟩ => show win0_3.index t 0 * 1 + 1 * 0 = (t.val % 32 * 512 + r.val) / 2048; rw [h0]; omega
  | ⟨1, _⟩ => show win0_3.index t 1 * 1 + 1 * 0 = 0; rw [h1]
  | ⟨2, _⟩ => show win0_3.index t 2 * 512 + 1 * n.val = t.val / 32 % 4 * 512 + n.val; rw [h2]; omega

/-- After every point the scratch holds its run's weight block. -/
theorem scratch_eq (c : Dev nD) : ∀ (t : ℕ) (ht : t < cfg0.N) (k : Fin 4096) (n : Fin 512),
    (outsAt0 m c t ht).2 (ix2 k n) = weights m c (ix3 0 k (colOf t n)) := by
  intro t
  induction t with
  | zero =>
    intro ht k n
    rw [outsAt0_A m c ⟨0, ht⟩ (Nat.zero_mod _)]
    dsimp only
    rw [scratch_first, pay1_apply, blk_weights]
  | succ t ih =>
    intro ht k n
    by_cases h0 : (t + 1) % 32 = 0
    · rw [outsAt0_A m c ⟨t + 1, ht⟩ h0]
      dsimp only
      rw [scratch_first, pay1_apply, blk_weights]
    · rw [outsAt0_B m c ⟨t + 1, ht⟩ h0]
      dsimp only
      rw [scratch_later]
      show (outsAt0 m c t _).2 (ix2 k n) = _
      rw [ih]
      have e : colOf t n = colOf (t + 1) n := by unfold colOf; apply Fin.ext; dsimp only; omega
      rw [e]

/-- What every point writes. -/
theorem out_eq (c : Dev nD) (t : Fin cfg0.N) (r n : Fin 512) :
    (outsAt0 m c t.val t.isLt).1 (ix2 r n) = (h2 m c (ix2 (rowOf t.val r) (colOf t.val n)) + gates m c (ix3 (batchOf (rowOf t.val r)) 0 (colOf t.val n))
          * (∑ k : Fin 4096, rows m c (ix2 (rowOf t.val r) k) * weights m c (ix3 0 k (colOf t.val n))) : EReal) := by
  have h : (outsAt0 m c t.val t.isLt).1
      = k0_pay2 (F := Ideal) (iblk m c 0 t) (outsAt0 m c t.val t.isLt).2 (iblk m c 2 t) (iblk m c 3 t) := by
    by_cases h0 : t.val % 32 = 0
    · rw [outsAt0_A m c t h0]
      dsimp only
      rw [out_first, scratch_first]
    · rw [outsAt0_B m c t h0]
      dsimp only
      rw [out_later, scratch_later]
  rw [h, pay2_apply, blk_resid, blk_gates m c t r n]
  simp only [scratch_eq m, blk_rows m]

/-- The result array, element by element. -/
theorem result_apply (c : Dev nD) (r : Fin 16384) (n : Fin 2048) :
    (G4 m c : Vec Ideal S16384x2048 .f32) (ix2 r n) = (h2 m c (ix2 r n) + gates m c (ix3 (batchOf r) 0 n)
          * (∑ k : Fin 4096, rows m c (ix2 r k) * weights m c (ix3 0 k n)) : EReal) := by
  have hr := r.isLt
  have hn := n.isLt
  have hp : pt4Of (ix2 r n) = 32 * (n.val / 512) + r.val / 512 := by
    show 1 * (r.val / 512 - 0) + 32 * (n.val / 512 - 0) = _
    omega
  have hN : cfg0.N = 128 := N_0
  have hlt : 32 * (n.val / 512) + r.val / 512 < cfg0.N := by omega
  have hl : loc4Of (ix2 r n) = ix2 (⟨r.val % 512, Nat.mod_lt _ (by decide)⟩ : Fin 512) (⟨n.val % 512, Nat.mod_lt _ (by decide)⟩ : Fin 512) := by
    funext a; apply Fin.ext
    match a with
    | ⟨0, _⟩ => rfl
    | ⟨1, _⟩ => rfl
  unfold G4
  rw [dif_pos (by rw [hp]; exact hlt), hl, fold0_congr m c _ _ _ (by omega) hp, ← outsAt0_sweep m c _ hlt]
  rw [out_eq m c ⟨_, hlt⟩]
  have e1 : rowOf (32 * (n.val / 512) + r.val / 512) (⟨r.val % 512, Nat.mod_lt _ (by decide)⟩ : Fin 512) = r := by
    unfold rowOf; apply Fin.ext; dsimp only; omega
  have e2 : colOf (32 * (n.val / 512) + r.val / 512) (⟨n.val % 512, Nat.mod_lt _ (by decide)⟩ : Fin 512) = n := by
    unfold colOf; apply Fin.ext; dsimp only; omega
  dsimp only
  rw [e1, e2]

/-! ## The reference -/

theorem stacked (x : Vec Ideal S8x2048x2048 .f32) (r : Fin 16384) (k : Fin 2048) :
    shapeCast S16384x2048 x shapeCasts_S8x2048x2048_S16384x2048 (ix2 r k) = x (ix3 (batchOf r) (placeOf r) k) := by
  unfold batchOf placeOf
  pointwise []

open Cert.OutRefIdeal.Read in
/-- The reference read at an index. -/
theorem ref_apply (x : Vec Ideal Cert.OutRefIdeal.S16384x4096 .bf16) (h : Vec Ideal Cert.OutRefIdeal.S8x2048x2048 .f32)
    (g : Vec Ideal Cert.OutRefIdeal.S8x1x2048 .f32) (w : Vec Ideal Cert.OutRefIdeal.S1x4096x2048 .f32)
    (r : Fin 16384) (n : Fin 2048) :
    (val_main_v7 (F := Ideal) x h g w : Vec Ideal Cert.OutRefIdeal.S16384x2048 .f32) (ix2 r n) = (h (ix3 (batchOf r) (placeOf r) n)
      + g (ix3 (batchOf r) 0 n) * (∑ k : Fin 4096, x (ix2 r k) * w (ix3 0 k n)) : EReal) := by
  unfold val_main_v7 val_main_v6 val_main_v5 val_main_v4 val_main_v3 val_main_v2 val_main_v1 val_main_v0 batchOf placeOf
  pointwise []

/-- The kernel's array is the reference's value of the same arguments. -/
theorem result_eq (c : Dev Cert.OutIdeal.nD) :
    (Cert.OutIdeal.Value.G4 m c : Vec Ideal Cert.OutIdeal.S16384x2048 .f32)
      = Cert.OutRefIdeal.Read.val_main_v7 (F := Ideal) (rows m c) (resid m c) (gates m c) (weights m c) := by
  funext i
  obtain ⟨r, n, rfl⟩ : ∃ (r : Fin 16384) (n : Fin 2048), i = ix2 r n := ⟨i 0, i 1, eq_ix2 i⟩
  rw [result_apply m c r n, ref_apply]
  exact congrArg (· + (_ : EReal)) (stacked (resid m c) r n)

end Cert.OutValue

end
-- ==== Proof.AbInValue.lean ====
/-
  The gMLP half's projection and its GELU: the kernel's array is the reference's.

  Grid point `t` works for rows `512·(t % 32) …` and columns `1024·(t / 32) …`. The weight block is narrowed into a scratch
  at the first point of each run of 32 and reused at the other 31, so after any point the scratch holds the run's weight
  block (`scratch_eq`), and every point writes the GELU of the product of its rows with it. The kernel writes
  it `0.5·x·(1 + erf (x·s))` and the reference `0.5·x·erfc (-x·s)`, for one constant `s`; the two are equal.
-/
module

public import proofs.«01_k».proof.Proof.Gen.AbInIdeal.Value
public import proofs.«01_k».proof.Proof.Gen.AbInRefIdeal.Read
public import Idealize.ShloMosaic.Lib.Pointwise
public import Idealize.ShloMosaic.Lib.Tactic

@[expose] public section

set_option maxRecDepth 16384

noncomputable section

namespace Cert.AbInValue

open Cert.AbInIdeal Cert.AbInIdeal.Gen Cert.AbInIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay1_apply (w : Vec Ideal S1x2048x1024 .f32) (k : Fin 2048) (n : Fin 1024) :
    k0_pay1 (F := Ideal) w (ix2 k n) = w (ix3 0 k n) := by
  pointwise [k0_pay1]

/-- The GELU as the kernel writes it, its constants the program's. -/
def gelu (x : EReal) : EReal :=
  Ideal.ofBits .f32 0x3F000000#32 * x * (1 + Ideal.erf (x * Ideal.ofBits .f32 0x3F3504F3#32))

/-- The GELU as the reference writes it. -/
theorem gelu_eq (x : EReal) :
    gelu x = Ideal.ofBits .f32 0x3F000000#32 * x * Ideal.erfc (-x * Ideal.ofBits .f32 0x3F3504F3#32) := by
  unfold gelu
  rw [EReal.neg_mul, Ideal.erfc_neg]

theorem pay2_apply (x : Vec Ideal S512x2048 .bf16) (w : Vec Ideal S2048x1024 .bf16) (r : Fin 512) (n : Fin 1024) :
    k0_pay2 (F := Ideal) x w (ix2 r n) = gelu (∑ k : Fin 2048, x (ix2 r k) * w (ix2 k n)) := by
  unfold gelu
  pointwise [k0_pay2]
  rfl

/-- The first point of a run stores the narrowed weight block. -/
theorem scratch_first (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : cond0_0 i)
    (x : Vec Ideal S512x2048 .bf16) (w : Vec Ideal S1x2048x1024 .f32) :
    sout0_A_0 (F := Ideal) c i a2 h2 a3 h3 a4 h4 a5 h5 hc0 x w = k0_pay1 w := by
  unfold sout0_A_0
  rw [View.read_writes_eq_canon _ _ _ (scover0_A_0 c i a2 h2 a3 h3 a4 h4 a5 h5 hc0 x w)]
  unfold kernelRun0_A
  dsimp only
  sl_unfold_words
  rw [View.canon_unit_zero hz2]
  simp only [View.readAt_eq_ld, h2.read_unread, h3.read_unread,
    View.ld_unit_zero (S := S512x2048) hz2, View.ld_unit_zero (S := S1x2048x1024) hz3, shapeCast_self]

theorem out_first (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : cond0_0 i)
    (x : Vec Ideal S512x2048 .bf16) (w : Vec Ideal S1x2048x1024 .f32) :
    out0_A_2 (F := Ideal) c i a2 h2 a3 h3 a4 h4 a5 h5 hc0 x w = k0_pay2 x (k0_pay1 w) := by
  unfold out0_A_2
  rw [View.read_writes_eq_canon _ _ _ (cover0_A_2 c i a2 h2 a3 h3 a4 h4 a5 h5 hc0 x w)]
  unfold kernelRun0_A
  dsimp only
  sl_unfold_words
  rw [View.canon_unit_zero hz2, View.readCov_unit_zero (S := S2048x1024) _ hz2]
  simp only [View.readAt_eq_ld, h2.read_unread, h3.read_unread,
    View.ld_unit_zero (S := S512x2048) hz2, View.ld_unit_zero (S := S1x2048x1024) hz3, shapeCast_self]

/-- A later point leaves the scratch as it was. -/
theorem scratch_later (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : ¬cond0_0 i)
    (x : Vec Ideal S512x2048 .bf16) (w : Vec Ideal S1x2048x1024 .f32) (s : Vec Ideal S2048x1024 .bf16) :
    sout0_B_0 (F := Ideal) c i a2 h2 a3 h3 a4 h4 a5 h5 hc0 x w s = s := rfl

theorem out_later (c : Dev nD) (i : grid0.Coords) (a2 : Memref sig .tc .vmem S512x2048 .bf16) (h2 : a2.IsWhole)
    (a3 : Memref sig .tc .vmem S1x2048x1024 .f32) (h3 : a3.IsWhole) (a4 : Memref sig .tc .vmem S512x1024 .bf16)
    (h4 : a4.IsWhole) (a5 : Memref sig .tc .vmem S2048x1024 .bf16) (h5 : a5.IsWhole) (hc0 : ¬cond0_0 i)
    (x : Vec Ideal S512x2048 .bf16) (w : Vec Ideal S1x2048x1024 .f32) (s : Vec Ideal S2048x1024 .bf16) :
    out0_B_2 (F := Ideal) c i a2 h2 a3 h3 a4 h4 a5 h5 hc0 x w s = k0_pay2 x s := by
  unfold out0_B_2
  rw [View.read_writes_eq_canon _ _ _ (cover0_B_2 c i a2 h2 a3 h3 a4 h4 a5 h5 hc0 x w s)]
  unfold kernelRun0_B
  dsimp only
  sl_unfold_words
  rw [View.canon_unit_zero hz2]
  simp only [View.readAt_eq_ld, h2.read_unread, h5.read_unread,
    View.ld_unit_zero (S := S512x2048) hz2, View.ld_unit_zero (S := S2048x1024) hz2]

/-! ## The whole grid -/

variable (m : (ℓ : Loc nD τ sig) → Buf (Elt Ideal) ℓ)

/-- The rows and the weights, as launched. -/
abbrev rows (c : Dev nD) : Vec Ideal S8x2048x2048 .bf16 := m ((c : Thread nD τ).loc main_arg0)
abbrev weights (c : Dev nD) : Vec Ideal S1x2048x3072 .f32 := m ((c : Thread nD τ).loc main_arg1)

/-- The rows as the kernel gets them, the batches one below the other. -/
theorem V_rows (c : Dev nD) : V m c main_v0 = shapeCast S16384x2048 (rows m c) shapeCasts_S8x2048x2048_S16384x2048 := by
  show StableHlo.after hostOps0 _ (Proc.devRef .tc main_v0) = _
  after_results
  rfl

theorem idx0 : ∀ t : Fin cfg0.N, win0_0.index t 0 = t.val % 32 ∧ win0_0.index t 1 = 0 :=
  (by decide +kernel : ∀ t : Fin grid0.N, _)
theorem idx1 : ∀ t : Fin cfg0.N, win0_1.index t 0 = 0 ∧ win0_1.index t 1 = 0 ∧ win0_1.index t 2 = t.val / 32 :=
  (by decide +kernel : ∀ t : Fin grid0.N, _)

theorem N_le (t : Fin cfg0.N) : t.val < 64 := lt_of_lt_of_eq t.isLt (show cfg0.N = 64 from N_0)

/-- The row and the column of the arrays that a point handles at a place of its blocks. -/
def rowOf (t : ℕ) (r : Fin 512) : Fin 16384 := ⟨t % 32 * 512 + r.val, by have := r.isLt; omega⟩
def colOf (t : ℕ) (n : Fin 1024) : Fin 3072 := ⟨t / 32 % 2 * 1024 + n.val + 0, by have := n.isLt; omega⟩

theorem blk_rows (c : Dev nD) (t : Fin cfg0.N) (r : Fin 512) (k : Fin 2048) :
    (iblk m c 0 t : Vec Ideal S512x2048 .bf16) (ix2 r k)
      = shapeCast S16384x2048 (rows m c) shapeCasts_S8x2048x2048_S16384x2048 (ix2 (rowOf t.val r) k) := by
  obtain ⟨h0, h1⟩ := idx0 t
  unfold iblk
  rw [View.read_apply]
  show V m c main_v0 _ = _
  rw [V_rows]
  congr 1
  funext a
  apply Fin.ext
  match a with
  | ⟨0, _⟩ => show win0_0.index t 0 * 512 + 1 * r.val = t.val % 32 * 512 + r.val; rw [h0]; omega
  | ⟨1, _⟩ => show win0_0.index t 1 * 2048 + 1 * k.val = k.val; rw [h1]; omega

theorem blk_weights (c : Dev nD) (t : Fin cfg0.N) (k : Fin 2048) (n : Fin 1024) :
    (iblk m c 1 t : Vec Ideal S1x2048x1024 .f32) (ix3 0 k n) = weights m c (ix3 0 k (colOf t.val n)) := by
  have ht := N_le t
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 1024 + 1 * n.val = t.val / 32 % 2 * 1024 + n.val + 0; rw [h2]; omega

/-- After every point the scratch holds its run's weight block. -/
theorem scratch_eq (c : Dev nD) : ∀ (t : ℕ) (ht : t < cfg0.N) (k : Fin 2048) (n : Fin 1024),
    (outsAt0 m c t ht).2 (ix2 k n) = weights m c (ix3 0 k (colOf t n)) := by
  intro t
  induction t with
  | zero =>
    intro ht k n
    rw [outsAt0_A m c ⟨0, ht⟩ (Nat.zero_mod _)]
    dsimp only
    rw [scratch_first, pay1_apply, blk_weights]
  | succ t ih =>
    intro ht k n
    by_cases h0 : (t + 1) % 32 = 0
    · rw [outsAt0_A m c ⟨t + 1, ht⟩ h0]
      dsimp only
      rw [scratch_first, pay1_apply, blk_weights]
    · rw [outsAt0_B m c ⟨t + 1, ht⟩ h0]
      dsimp only
      rw [scratch_later]
      show (outsAt0 m c t _).2 (ix2 k n) = _
      rw [ih]
      have e : colOf t n = colOf (t + 1) n := by unfold colOf; apply Fin.ext; dsimp only; omega
      rw [e]

/-- What every point writes: its rows times the weights of its columns. -/
theorem out_eq (c : Dev nD) (t : Fin cfg0.N) (r : Fin 512) (n : Fin 1024) :
    (outsAt0 m c t.val t.isLt).1 (ix2 r n)
      = gelu (∑ k : Fin 2048, shapeCast S16384x2048 (rows m c) shapeCasts_S8x2048x2048_S16384x2048 (ix2 (rowOf t.val r) k)
          * weights m c (ix3 0 k (colOf t.val n))) := by
  have h : (outsAt0 m c t.val t.isLt).1 = k0_pay2 (F := Ideal) (iblk m c 0 t) (outsAt0 m c t.val t.isLt).2 := by
    by_cases h0 : t.val % 32 = 0
    · rw [outsAt0_A m c t h0]
      dsimp only
      rw [out_first, scratch_first]
    · rw [outsAt0_B m c t h0]
      dsimp only
      rw [out_later, scratch_later]
  rw [h, pay2_apply]
  simp only [scratch_eq m, blk_rows m]

/-- The result array, element by element. -/
theorem result_apply (c : Dev nD) (r : Fin 16384) (n : Fin 2048) :
    (G2 m c : Vec Ideal S16384x2048 .bf16) (ix2 r n)
      = gelu (∑ k : Fin 2048, shapeCast S16384x2048 (rows m c) shapeCasts_S8x2048x2048_S16384x2048 (ix2 r k)
          * weights m c (ix3 0 k ⟨n.val + 0, by have := n.isLt; omega⟩)) := by
  have hr := r.isLt
  have hn := n.isLt
  have hp : pt2Of (ix2 r n) = 32 * (n.val / 1024) + r.val / 512 := by
    show 1 * (r.val / 512 - 0) + 32 * (n.val / 1024 - 0) = _
    omega
  have hN : cfg0.N = 64 := N_0
  have hlt : 32 * (n.val / 1024) + r.val / 512 < cfg0.N := by omega
  have hl : loc2Of (ix2 r n) = ix2 (⟨r.val % 512, Nat.mod_lt _ (by decide)⟩ : Fin 512) (⟨n.val % 1024, Nat.mod_lt _ (by decide)⟩ : Fin 1024) := by
    funext a; apply Fin.ext
    match a with
    | ⟨0, _⟩ => rfl
    | ⟨1, _⟩ => rfl
  unfold G2
  rw [dif_pos (by rw [hp]; exact hlt), hl, fold0_congr m c _ _ _ (by omega) hp, ← outsAt0_sweep m c _ hlt]
  rw [out_eq m c ⟨_, hlt⟩]
  have e1 : rowOf (32 * (n.val / 1024) + r.val / 512) (⟨r.val % 512, Nat.mod_lt _ (by decide)⟩ : Fin 512) = r := by
    unfold rowOf; apply Fin.ext; dsimp only; omega
  have e2 : colOf (32 * (n.val / 1024) + r.val / 512) (⟨n.val % 1024, Nat.mod_lt _ (by decide)⟩ : Fin 1024)
      = ⟨n.val + 0, by omega⟩ := by
    unfold colOf; apply Fin.ext; dsimp only; omega
  dsimp only
  rw [e1, e2]

/-! ## The reference -/

/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem stacked (x : Vec Ideal S8x2048x2048 .bf16) (r : Fin 16384) (k : Fin 2048) :
    shapeCast S16384x2048 x shapeCasts_S8x2048x2048_S16384x2048 (ix2 r k) = x (ix3 (batchOf r) (placeOf r) k) := by
  unfold batchOf placeOf
  pointwise []

open Cert.AbInRefIdeal.Read in
/-- The reference read at an index. -/
theorem ref_apply (x : Vec Ideal Cert.AbInRefIdeal.S8x2048x2048 .bf16) (w : Vec Ideal Cert.AbInRefIdeal.S1x2048x3072 .f32)
    (r : Fin 16384) (n : Fin 2048) :
    (val_main_v12 (F := Ideal) x w : Vec Ideal Cert.AbInRefIdeal.S16384x2048 .bf16) (ix2 r n)
      = gelu (∑ k : Fin 2048, x (ix3 (batchOf r) (placeOf r) k) * w (ix3 0 k ⟨n.val + 0, by have := n.isLt; omega⟩)) := by
  rw [gelu_eq]
  unfold val_main_v12 val_main_v11 val_main_v10 val_main_v9 val_main_v8 val_main_v7 val_main_cst_0 val_main_v6 val_main_v5
    val_main_v4 val_main_cst val_main_v3 val_main_v2 val_main_v1 val_main_v0 batchOf placeOf
  pointwise []

/-- The kernel's array is the reference's value of the same arguments. -/
theorem result_eq (c : Dev Cert.AbInIdeal.nD) :
    (Cert.AbInIdeal.Value.G2 m c : Vec Ideal Cert.AbInIdeal.S16384x2048 .bf16)
      = Cert.AbInRefIdeal.Read.val_main_v12 (F := Ideal) (rows m c) (weights m c) := by
  funext i
  obtain ⟨r, n, rfl⟩ : ∃ (r : Fin 16384) (n : Fin 2048), i = ix2 r n := ⟨i 0, i 1, eq_ix2 i⟩
  rw [result_apply m c r n, ref_apply]
  refine congrArg gelu ?_
  exact Finset.sum_congr rfl fun k _ => congrArg (· * weights m c _) (stacked (rows m c) r k)

end Cert.AbInValue

end
-- ==== Proof.AbOutValue.lean ====
/-
  The attention/MLP mixer's output projection and residual: the kernel's array is the reference's.

  Grid point `t` works for rows `512·(t % 32) …` and columns `1024·(t / 32) …`. The weight block is narrowed into a scratch
  at the first point of each run of 32 and reused at the other 31. Every point multiplies its rows of the first input by the
  upper half of the scratch and its rows of the second input by the lower half. The reference joins the two inputs along
  their channels and multiplies once; a sum over the joined channels is the sum of the two halves.
-/
module

public import proofs.«01_k».proof.Proof.Gen.AbOutIdeal.Value
public import proofs.«01_k».proof.Proof.Gen.AbOutRefIdeal.Read
public import Idealize.ShloMosaic.Lib.Pointwise
public import Idealize.ShloMosaic.Lib.Tactic

@[expose] public section

set_option maxRecDepth 16384

noncomputable section

namespace Cert.AbOutValue

open Cert.AbOutIdeal Cert.AbOutIdeal.Gen Cert.AbOutIdeal.Value Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay1_apply (w : Vec Ideal S1x2048x1024 .f32) (k : Fin 2048) (n : Fin 1024) :
    k0_pay1 (F := Ideal) w (ix2 k n) = w (ix3 0 k n) := by
  pointwise [k0_pay1]

theorem pay2_apply (xa : Vec Ideal S512x1024 .bf16) (wa : Vec Ideal S1024x1024 .bf16) (xb : Vec Ideal S512x1024 .bf16)
    (wb : Vec Ideal S1024x1024 .bf16) (h : Vec Ideal S512x1024 .f32) (g : Vec Ideal S1x1x1024 .f32) (r : Fin 512) (n : Fin 1024) :
    k0_pay2 (F := Ideal) xa wa xb wb h g (ix2 r n) = h (ix2 r n) + g (ix3 0 0 n)
      * ((∑ k : Fin 1024, xa (ix2 r k) * wa (ix2 k n)) + ∑ k : Fin 1024, xb (ix2 r k) * wb (ix2 k n)) := by
  pointwise [k0_pay2]

/-- The upper and the lower half of the scratch, as the body loads them. -/
def upper (s : Vec Ideal S2048x1024 .bf16) : Vec Ideal S1024x1024 .bf16 :=
  View.ld s (Rect.unit (s := S2048x1024) ![0, 0] S1024x1024.size inb_S2048x1024_S1024x1024_0_0)
def lower (s : Vec Ideal S2048x1024 .bf16) : Vec Ideal S1024x1024 .bf16 :=
  View.ld s (Rect.unit (s := S2048x1024) ![1024, 0] S1024x1024.size inb_S2048x1024_S1024x1024_1024_0)

def upperIx (k : Fin 1024) : Fin 2048 := ⟨k.val, by have := k.isLt; omega⟩
def lowerIx (k : Fin 1024) : Fin 2048 := ⟨1024 + k.val, by have := k.isLt; omega⟩

theorem upper_apply (s : Vec Ideal S2048x1024 .bf16) (k n : Fin 1024) : upper s (ix2 k n) = s (ix2 (upperIx k) n) := by
  show s _ = s _
  congr 1
  funext a
  apply Fin.ext
  match a with
  | ⟨0, _⟩ => show 0 + 1 * k.val = k.val; omega
  | ⟨1, _⟩ => show 0 + 1 * n.val = n.val; omega

theorem lower_apply (s : Vec Ideal S2048x1024 .bf16) (k n : Fin 1024) : lower s (ix2 k n) = s (ix2 (lowerIx k) n) := by
  show s _ = s _
  congr 1
  funext a
  apply Fin.ext
  match a with
  | ⟨0, _⟩ => show 1024 + 1 * k.val = 1024 + k.val; omega
  | ⟨1, _⟩ => show 0 + 1 * n.val = n.val; omega

/-- The first point of a run stores the narrowed weight block. -/
theorem scratch_first (c : Dev nD) (i : grid0.Coords) (a2 : Memref sig .tc .vmem S512x1024 .bf16) (h2 : a2.IsWhole) (a3 : Memref sig .tc .vmem S512x1024 .bf16) (h3 : a3.IsWhole) (a4 : Memref sig .tc .vmem S1x2048x1024 .f32) (h4 : a4.IsWhole) (a5 : Memref sig .tc .vmem S512x1024 .f32) (h5 : a5.IsWhole) (a6 : Memref sig .tc .vmem S1x1x1024 .f32) (h6 : a6.IsWhole) (a7 : Memref sig .tc .vmem S512x1024 .f32) (h7 : a7.IsWhole) (a8 : Memref sig .tc .vmem S2048x1024 .bf16) (h8 : a8.IsWhole) (hc0 : cond0_0 i)
    (xa xb : Vec Ideal S512x1024 .bf16) (w : Vec Ideal S1x2048x1024 .f32) (h : Vec Ideal S512x1024 .f32) (g : Vec Ideal S1x1x1024 .f32) :
    sout0_A_0 (F := Ideal) c i a2 h2 a3 h3 a4 h4 a5 h5 a6 h6 a7 h7 a8 h8 hc0 xa xb w h g = k0_pay1 w := by
  unfold sout0_A_0
  rw [View.read_writes_eq_canon _ _ _ (scover0_A_0 c i a2 h2 a3 h3 a4 h4 a5 h5 a6 h6 a7 h7 a8 h8 hc0 xa xb w h g)]
  unfold kernelRun0_A
  dsimp only
  sl_unfold_words
  rw [View.canon_unit_zero hz2]
  simp only [View.readAt_eq_ld, h2.read_unread, h3.read_unread, h4.read_unread, h5.read_unread, h6.read_unread,
    View.ld_unit_zero (S := S512x1024) hz2, View.ld_unit_zero (S := S1x2048x1024) hz3, View.ld_unit_zero (S := S1x1x1024) hz3, shapeCast_self]

theorem out_first (c : Dev nD) (i : grid0.Coords) (a2 : Memref sig .tc .vmem S512x1024 .bf16) (h2 : a2.IsWhole) (a3 : Memref sig .tc .vmem S512x1024 .bf16) (h3 : a3.IsWhole) (a4 : Memref sig .tc .vmem S1x2048x1024 .f32) (h4 : a4.IsWhole) (a5 : Memref sig .tc .vmem S512x1024 .f32) (h5 : a5.IsWhole) (a6 : Memref sig .tc .vmem S1x1x1024 .f32) (h6 : a6.IsWhole) (a7 : Memref sig .tc .vmem S512x1024 .f32) (h7 : a7.IsWhole) (a8 : Memref sig .tc .vmem S2048x1024 .bf16) (h8 : a8.IsWhole) (hc0 : cond0_0 i)
    (xa xb : Vec Ideal S512x1024 .bf16) (w : Vec Ideal S1x2048x1024 .f32) (h : Vec Ideal S512x1024 .f32) (g : Vec Ideal S1x1x1024 .f32) :
    out0_A_5 (F := Ideal) c i a2 h2 a3 h3 a4 h4 a5 h5 a6 h6 a7 h7 a8 h8 hc0 xa xb w h g = k0_pay2 xa (upper (k0_pay1 w)) xb (lower (k0_pay1 w)) h g := by
  unfold out0_A_5
  rw [View.read_writes_eq_canon _ _ _ (cover0_A_5 c i a2 h2 a3 h3 a4 h4 a5 h5 a6 h6 a7 h7 a8 h8 hc0 xa xb w h g)]
  unfold kernelRun0_A
  dsimp only
  sl_unfold_words
  rw [View.canon_unit_zero hz2]
  simp only [View.readCov_eq_canon']
  simp only [View.readAt_eq_ld, h2.read_unread, h3.read_unread, h4.read_unread, h5.read_unread, h6.read_unread,
    View.ld_unit_zero (S := S512x1024) hz2, View.ld_unit_zero (S := S1x2048x1024) hz3, View.ld_unit_zero (S := S1x1x1024) hz3, shapeCast_self]
  have e := View.canon_unit_zero (Val := Elt Ideal) (S := S2048x1024) (e := .bf16) hz2 inb_S2048x1024_S2048x1024_0_0 (k0_pay1 (F := Ideal) w)
  exact congrArg₂ (fun p q => k0_pay2 (F := Ideal) xa p xb q h g) (funext fun j => congrFun e _) (funext fun j => congrFun e _)

/-- A later point leaves the scratch as it was. -/
theorem scratch_later (c : Dev nD) (i : grid0.Coords) (a2 : Memref sig .tc .vmem S512x1024 .bf16) (h2 : a2.IsWhole) (a3 : Memref sig .tc .vmem S512x1024 .bf16) (h3 : a3.IsWhole) (a4 : Memref sig .tc .vmem S1x2048x1024 .f32) (h4 : a4.IsWhole) (a5 : Memref sig .tc .vmem S512x1024 .f32) (h5 : a5.IsWhole) (a6 : Memref sig .tc .vmem S1x1x1024 .f32) (h6 : a6.IsWhole) (a7 : Memref sig .tc .vmem S512x1024 .f32) (h7 : a7.IsWhole) (a8 : Memref sig .tc .vmem S2048x1024 .bf16) (h8 : a8.IsWhole) (hc0 : ¬cond0_0 i)
    (xa xb : Vec Ideal S512x1024 .bf16) (w : Vec Ideal S1x2048x1024 .f32) (h : Vec Ideal S512x1024 .f32) (g : Vec Ideal S1x1x1024 .f32) (s : Vec Ideal S2048x1024 .bf16) :
    sout0_B_0 (F := Ideal) c i a2 h2 a3 h3 a4 h4 a5 h5 a6 h6 a7 h7 a8 h8 hc0 xa xb w h g s = s := rfl

theorem out_later (c : Dev nD) (i : grid0.Coords) (a2 : Memref sig .tc .vmem S512x1024 .bf16) (h2 : a2.IsWhole) (a3 : Memref sig .tc .vmem S512x1024 .bf16) (h3 : a3.IsWhole) (a4 : Memref sig .tc .vmem S1x2048x1024 .f32) (h4 : a4.IsWhole) (a5 : Memref sig .tc .vmem S512x1024 .f32) (h5 : a5.IsWhole) (a6 : Memref sig .tc .vmem S1x1x1024 .f32) (h6 : a6.IsWhole) (a7 : Memref sig .tc .vmem S512x1024 .f32) (h7 : a7.IsWhole) (a8 : Memref sig .tc .vmem S2048x1024 .bf16) (h8 : a8.IsWhole) (hc0 : ¬cond0_0 i)
    (xa xb : Vec Ideal S512x1024 .bf16) (w : Vec Ideal S1x2048x1024 .f32) (h : Vec Ideal S512x1024 .f32) (g : Vec Ideal S1x1x1024 .f32) (s : Vec Ideal S2048x1024 .bf16) :
    out0_B_5 (F := Ideal) c i a2 h2 a3 h3 a4 h4 a5 h5 a6 h6 a7 h7 a8 h8 hc0 xa xb w h g s = k0_pay2 xa (upper s) xb (lower s) h g := by
  unfold out0_B_5
  rw [View.read_writes_eq_canon _ _ _ (cover0_B_5 c i a2 h2 a3 h3 a4 h4 a5 h5 a6 h6 a7 h7 a8 h8 hc0 xa xb w h g s)]
  unfold kernelRun0_B
  dsimp only
  sl_unfold_words
  rw [View.canon_unit_zero hz2]
  simp only [View.readAt_eq_ld, h2.read_unread, h3.read_unread, h4.read_unread, h5.read_unread, h6.read_unread, h8.read_unread,
    View.ld_unit_zero (S := S512x1024) hz2, View.ld_unit_zero (S := S1x2048x1024) hz3, View.ld_unit_zero (S := S1x1x1024) hz3]
  rfl

/-! ## The whole grid -/

variable (m : (ℓ : Loc nD τ sig) → Buf (Elt Ideal) ℓ)

theorem N_le (t : Fin cfg0.N) : t.val < 64 := lt_of_lt_of_eq t.isLt (show cfg0.N = 64 from N_0)

/-- The two inputs, the residual stream, the gates and the weights, as launched. -/
abbrev first (c : Dev nD) : Vec Ideal S8x2048x1024 .bf16 := m ((c : Thread nD τ).loc main_arg0)
abbrev second (c : Dev nD) : Vec Ideal S8x2048x1024 .bf16 := m ((c : Thread nD τ).loc main_arg1)
abbrev resid (c : Dev nD) : Vec Ideal S8x2048x2048 .f32 := m ((c : Thread nD τ).loc main_arg2)
abbrev gates (c : Dev nD) : Vec Ideal S8x1x2048 .f32 := m ((c : Thread nD τ).loc main_arg3)
abbrev weights (c : Dev nD) : Vec Ideal S1x2048x2048 .f32 := m ((c : Thread nD τ).loc main_arg4)

/-- The arrays as the kernel gets them, the batches one below the other. -/
abbrev h2 (c : Dev nD) : Vec Ideal S16384x2048 .f32 := shapeCast S16384x2048 (resid m c) shapeCasts_S8x2048x2048_S16384x2048
abbrev xa (c : Dev nD) : Vec Ideal S16384x1024 .bf16 := shapeCast S16384x1024 (first m c) shapeCasts_S8x2048x1024_S16384x1024
abbrev xb (c : Dev nD) : Vec Ideal S16384x1024 .bf16 := shapeCast S16384x1024 (second m c) shapeCasts_S8x2048x1024_S16384x1024

theorem V_resid (c : Dev nD) : V m c main_v0 = shapeCast S16384x2048 (resid m c) shapeCasts_S8x2048x2048_S16384x2048 := by
  show StableHlo.after hostOps0 _ (Proc.devRef .tc main_v0) = _
  after_results
  rfl

theorem V_first (c : Dev nD) : V m c main_v1 = shapeCast S16384x1024 (first m c) shapeCasts_S8x2048x1024_S16384x1024 := by
  show StableHlo.after hostOps0 _ (Proc.devRef .tc main_v1) = _
  after_results
  rfl

theorem V_second (c : Dev nD) : V m c main_v2 = shapeCast S16384x1024 (second m c) shapeCasts_S8x2048x1024_S16384x1024 := by
  show StableHlo.after hostOps0 _ (Proc.devRef .tc main_v2) = _
  after_results
  rfl

theorem idx0 : ∀ t : Fin cfg0.N, win0_0.index t 0 = t.val % 32 ∧ win0_0.index t 1 = 0 :=
  (by decide +kernel : ∀ t : Fin grid0.N, _)
theorem idx1 : ∀ t : Fin cfg0.N, win0_1.index t 0 = t.val % 32 ∧ win0_1.index t 1 = 0 :=
  (by decide +kernel : ∀ t : Fin grid0.N, _)
theorem idx2 : ∀ t : Fin cfg0.N, win0_2.index t 0 = 0 ∧ win0_2.index t 1 = 0 ∧ win0_2.index t 2 = t.val / 32 :=
  (by decide +kernel : ∀ t : Fin grid0.N, _)
theorem idx3 : ∀ t : Fin cfg0.N, win0_3.index t 0 = t.val % 32 ∧ win0_3.index t 1 = t.val / 32 :=
  (by decide +kernel : ∀ t : Fin grid0.N, _)
theorem idx4 : ∀ t : Fin cfg0.N, win0_4.index t 0 = t.val % 32 / 4 ∧ win0_4.index t 1 = 0 ∧ win0_4.index t 2 = t.val / 32 :=
  (by decide +kernel : ∀ t : Fin grid0.N, _)

/-- The row and the column of the arrays that a point handles at a place of its blocks. -/
def rowOf (t : ℕ) (r : Fin 512) : Fin 16384 := ⟨t % 32 * 512 + r.val, by have := r.isLt; omega⟩
def colOf (t : ℕ) (n : Fin 1024) : Fin 2048 := ⟨t / 32 % 2 * 1024 + n.val, by have := n.isLt; omega⟩
/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem blk_first (c : Dev nD) (t : Fin cfg0.N) (r : Fin 512) (k : Fin 1024) :
    (iblk m c 0 t : Vec Ideal S512x1024 .bf16) (ix2 r k) = xa m c (ix2 (rowOf t.val r) k) := by
  have ht := N_le t
  obtain ⟨h0, h1⟩ := idx0 t
  unfold iblk
  rw [View.read_apply]
  show V m c main_v1 _ = _
  rw [V_first]
  congr 1
  funext a
  apply Fin.ext
  match a with
  | ⟨0, _⟩ => show win0_0.index t 0 * 512 + 1 * r.val = t.val % 32 * 512 + r.val; rw [h0]; omega
  | ⟨1, _⟩ => show win0_0.index t 1 * 1024 + 1 * k.val = k.val; rw [h1]; omega

theorem blk_second (c : Dev nD) (t : Fin cfg0.N) (r : Fin 512) (k : Fin 1024) :
    (iblk m c 1 t : Vec Ideal S512x1024 .bf16) (ix2 r k) = xb m c (ix2 (rowOf t.val r) k) := by
  have ht := N_le t
  obtain ⟨h0, h1⟩ := idx1 t
  unfold iblk
  rw [View.read_apply]
  show V m c main_v2 _ = _
  rw [V_second]
  congr 1
  funext a
  apply Fin.ext
  match a with
  | ⟨0, _⟩ => show win0_1.index t 0 * 512 + 1 * r.val = t.val % 32 * 512 + r.val; rw [h0]; omega
  | ⟨1, _⟩ => show win0_1.index t 1 * 1024 + 1 * k.val = k.val; rw [h1]; omega

theorem blk_weights (c : Dev nD) (t : Fin cfg0.N) (k : Fin 2048) (n : Fin 1024) :
    (iblk m c 2 t : Vec Ideal S1x2048x1024 .f32) (ix3 0 k n) = weights m c (ix3 0 k (colOf t.val n)) := by
  have ht := N_le t
  obtain ⟨h0, h1, h2⟩ := idx2 t
  unfold iblk
  rw [View.read_apply]
  show V m c main_arg4 _ = _
  rw [V_main_arg4]
  congr 1
  funext a
  apply Fin.ext
  match a with
  | ⟨0, _⟩ => show win0_2.index t 0 * 1 + 1 * 0 = 0; rw [h0]
  | ⟨1, _⟩ => show win0_2.index t 1 * 2048 + 1 * k.val = k.val; rw [h1]; omega
  | ⟨2, _⟩ => show win0_2.index t 2 * 1024 + 1 * n.val = t.val / 32 % 2 * 1024 + n.val; rw [h2]; omega

theorem blk_resid (c : Dev nD) (t : Fin cfg0.N) (r : Fin 512) (n : Fin 1024) :
    (iblk m c 3 t : Vec Ideal S512x1024 .f32) (ix2 r n) = h2 m c (ix2 (rowOf t.val r) (colOf t.val n)) := by
  have ht := N_le t
  obtain ⟨h0, h1⟩ := idx3 t
  unfold iblk
  rw [View.read_apply]
  show V m c main_v0 _ = _
  rw [V_resid]
  congr 1
  funext a
  apply Fin.ext
  match a with
  | ⟨0, _⟩ => show win0_3.index t 0 * 512 + 1 * r.val = t.val % 32 * 512 + r.val; rw [h0]; omega
  | ⟨1, _⟩ => show win0_3.index t 1 * 1024 + 1 * n.val = t.val / 32 % 2 * 1024 + n.val; rw [h1]; omega

theorem blk_gates (c : Dev nD) (t : Fin cfg0.N) (r : Fin 512) (n : Fin 1024) :
    (iblk m c 4 t : Vec Ideal S1x1x1024 .f32) (ix3 0 0 n) = gates m c (ix3 (batchOf (rowOf t.val r)) 0 (colOf t.val n)) := by
  have ht := N_le t
  obtain ⟨h0, h1, h2⟩ := idx4 t
  unfold iblk
  rw [View.read_apply]
  show V m c main_arg3 _ = _
  rw [V_main_arg3]
  congr 1
  funext a
  apply Fin.ext
  match a with
  | ⟨0, _⟩ => show win0_4.index t 0 * 1 + 1 * 0 = (t.val % 32 * 512 + r.val) / 2048; rw [h0]; omega
  | ⟨1, _⟩ => show win0_4.index t 1 * 1 + 1 * 0 = 0; rw [h1]
  | ⟨2, _⟩ => show win0_4.index t 2 * 1024 + 1 * n.val = t.val / 32 % 2 * 1024 + n.val; rw [h2]; omega

/-- After every point the scratch holds its run's weight block. -/
theorem scratch_eq (c : Dev nD) : ∀ (t : ℕ) (ht : t < cfg0.N) (k : Fin 2048) (n : Fin 1024),
    (outsAt0 m c t ht).2 (ix2 k n) = weights m c (ix3 0 k (colOf t n)) := by
  intro t
  induction t with
  | zero =>
    intro ht k n
    rw [outsAt0_A m c ⟨0, ht⟩ (Nat.zero_mod _)]
    dsimp only
    rw [scratch_first, pay1_apply, blk_weights]
  | succ t ih =>
    intro ht k n
    by_cases h0 : (t + 1) % 32 = 0
    · rw [outsAt0_A m c ⟨t + 1, ht⟩ h0]
      dsimp only
      rw [scratch_first, pay1_apply, blk_weights]
    · rw [outsAt0_B m c ⟨t + 1, ht⟩ h0]
      dsimp only
      rw [scratch_later]
      show (outsAt0 m c t _).2 (ix2 k n) = _
      rw [ih]
      have e : colOf t n = colOf (t + 1) n := by unfold colOf; apply Fin.ext; dsimp only; omega
      rw [e]

/-- What every point writes. -/
theorem out_eq (c : Dev nD) (t : Fin cfg0.N) (r : Fin 512) (n : Fin 1024) :
    (outsAt0 m c t.val t.isLt).1 (ix2 r n) = (h2 m c (ix2 (rowOf t.val r) (colOf t.val n)) + gates m c (ix3 (batchOf (rowOf t.val r)) 0 (colOf t.val n))
          * ((∑ k : Fin 1024, xa m c (ix2 (rowOf t.val r) k) * weights m c (ix3 0 (upperIx k) (colOf t.val n)))
            + ∑ k : Fin 1024, xb m c (ix2 (rowOf t.val r) k) * weights m c (ix3 0 (lowerIx k) (colOf t.val n))) : EReal) := by
  have h : (outsAt0 m c t.val t.isLt).1
      = k0_pay2 (F := Ideal) (iblk m c 0 t) (upper (outsAt0 m c t.val t.isLt).2) (iblk m c 1 t)
          (lower (outsAt0 m c t.val t.isLt).2) (iblk m c 3 t) (iblk m c 4 t) := by
    by_cases h0 : t.val % 32 = 0
    · rw [outsAt0_A m c t h0]
      dsimp only
      rw [out_first, scratch_first]
    · rw [outsAt0_B m c t h0]
      dsimp only
      rw [out_later, scratch_later]
  rw [h, pay2_apply, blk_resid, blk_gates m c t r n]
  simp only [upper_apply, lower_apply, scratch_eq m, blk_first m, blk_second m]

/-- The result array, element by element. -/
theorem result_apply (c : Dev nD) (r : Fin 16384) (n : Fin 2048) :
    (G5 m c : Vec Ideal S16384x2048 .f32) (ix2 r n) = (h2 m c (ix2 (r) (n)) + gates m c (ix3 (batchOf (r)) 0 (n))
          * ((∑ k : Fin 1024, xa m c (ix2 (r) k) * weights m c (ix3 0 (upperIx k) (n)))
            + ∑ k : Fin 1024, xb m c (ix2 (r) k) * weights m c (ix3 0 (lowerIx k) (n))) : EReal) := by
  have hr := r.isLt
  have hn := n.isLt
  have hp : pt5Of (ix2 r n) = 32 * (n.val / 1024) + r.val / 512 := by
    show 1 * (r.val / 512 - 0) + 32 * (n.val / 1024 - 0) = _
    omega
  have hN : cfg0.N = 64 := N_0
  have hlt : 32 * (n.val / 1024) + r.val / 512 < cfg0.N := by omega
  have hl : loc5Of (ix2 r n) = ix2 (⟨r.val % 512, Nat.mod_lt _ (by decide)⟩ : Fin 512) (⟨n.val % 1024, Nat.mod_lt _ (by decide)⟩ : Fin 1024) := by
    funext a; apply Fin.ext
    match a with
    | ⟨0, _⟩ => rfl
    | ⟨1, _⟩ => rfl
  unfold G5
  rw [dif_pos (by rw [hp]; exact hlt), hl, fold0_congr m c _ _ _ (by omega) hp, ← outsAt0_sweep m c _ hlt]
  rw [out_eq m c ⟨_, hlt⟩]
  have e1 : rowOf (32 * (n.val / 1024) + r.val / 512) (⟨r.val % 512, Nat.mod_lt _ (by decide)⟩ : Fin 512) = r := by
    unfold rowOf; apply Fin.ext; dsimp only; omega
  have e2 : colOf (32 * (n.val / 1024) + r.val / 512) (⟨n.val % 1024, Nat.mod_lt _ (by decide)⟩ : Fin 1024) = n := by
    unfold colOf; apply Fin.ext; dsimp only; omega
  dsimp only
  rw [e1, e2]

/-! ## The reference -/

/-- A sum over the joined channels is the sum over the first half plus the sum over the second. -/
theorem sum_halves (f : Fin 2048 → EReal) :
    (∑ k, f k) = (∑ k : Fin 1024, f (upperIx k)) + ∑ k : Fin 1024, f (lowerIx k) :=
  Fin.sum_univ_add (a := 1024) (b := 1024) f

theorem stacked (x : Vec Ideal S8x2048x2048 .f32) (r : Fin 16384) (k : Fin 2048) :
    shapeCast S16384x2048 x shapeCasts_S8x2048x2048_S16384x2048 (ix2 r k) = x (ix3 (batchOf r) (placeOf r) k) := by
  unfold batchOf placeOf
  pointwise []

theorem stacked_half (x : Vec Ideal S8x2048x1024 .bf16) (r : Fin 16384) (k : Fin 1024) :
    shapeCast S16384x1024 x shapeCasts_S8x2048x1024_S16384x1024 (ix2 r k) = x (ix3 (batchOf r) (placeOf r) k) := by
  unfold batchOf placeOf
  pointwise []

open Cert.AbOutRefIdeal.Read in
/-- The joined inputs at a channel of the first half, and at one of the second. -/
theorem joined_upper (ya yb : Vec Ideal Cert.AbOutRefIdeal.S8x2048x1024 .bf16) (b : Fin 8) (p : Fin 2048) (k : Fin 1024) :
    (val_main_v2 (F := Ideal) ya yb : Vec Ideal Cert.AbOutRefIdeal.S8x2048x2048 .f32) (ix3 b p (upperIx k)) = ya (ix3 b p k) := by
  unfold val_main_v2 val_main_v1 val_main_v0 upperIx
  pointwise []

open Cert.AbOutRefIdeal.Read in
theorem joined_lower (ya yb : Vec Ideal Cert.AbOutRefIdeal.S8x2048x1024 .bf16) (b : Fin 8) (p : Fin 2048) (k : Fin 1024) :
    (val_main_v2 (F := Ideal) ya yb : Vec Ideal Cert.AbOutRefIdeal.S8x2048x2048 .f32) (ix3 b p (lowerIx k)) = yb (ix3 b p k) := by
  unfold val_main_v2 val_main_v1 val_main_v0 lowerIx
  pointwise []

open Cert.AbOutRefIdeal.Read in
/-- The reference read at an index. -/
theorem ref_apply (ya yb : Vec Ideal Cert.AbOutRefIdeal.S8x2048x1024 .bf16) (h : Vec Ideal Cert.AbOutRefIdeal.S8x2048x2048 .f32)
    (g : Vec Ideal Cert.AbOutRefIdeal.S8x1x2048 .f32) (w : Vec Ideal Cert.AbOutRefIdeal.S1x2048x2048 .f32)
    (r : Fin 16384) (n : Fin 2048) :
    (val_main_v8 (F := Ideal) ya yb h g w : Vec Ideal Cert.AbOutRefIdeal.S16384x2048 .f32) (ix2 r n) = (h (ix3 (batchOf r) (placeOf r) n)
      + g (ix3 (batchOf r) 0 n) * ((∑ k : Fin 1024, ya (ix3 (batchOf r) (placeOf r) k) * w (ix3 0 (upperIx k) n))
          + ∑ k : Fin 1024, yb (ix3 (batchOf r) (placeOf r) k) * w (ix3 0 (lowerIx k) n)) : EReal) := by
  rw [show (val_main_v8 (F := Ideal) ya yb h g w : Vec Ideal Cert.AbOutRefIdeal.S16384x2048 .f32) (ix2 r n)
      = (h (ix3 (batchOf r) (placeOf r) n) + g (ix3 (batchOf r) 0 n)
          * ∑ k : Fin 2048, val_main_v2 (F := Ideal) ya yb (ix3 (batchOf r) (placeOf r) k) * w (ix3 0 k n) : EReal) from by
    unfold val_main_v8 val_main_v7 val_main_v6 val_main_v5 val_main_v4 val_main_v3 batchOf placeOf
    pointwise []]
  rw [sum_halves]
  simp only [joined_upper, joined_lower]

/-- The kernel's array is the reference's value of the same arguments. -/
theorem result_eq (c : Dev Cert.AbOutIdeal.nD) :
    (Cert.AbOutIdeal.Value.G5 m c : Vec Ideal Cert.AbOutIdeal.S16384x2048 .f32)
      = Cert.AbOutRefIdeal.Read.val_main_v8 (F := Ideal) (first m c) (second m c) (resid m c) (gates m c) (weights m c) := by
  funext i
  obtain ⟨r, n, rfl⟩ : ∃ (r : Fin 16384) (n : Fin 2048), i = ix2 r n := ⟨i 0, i 1, eq_ix2 i⟩
  rw [result_apply m c r n, ref_apply]
  show ((_ : EReal) + _ : EReal) = _
  refine congrArg₂ (fun p q : EReal => p + q) (stacked (resid m c) r n) ?_
  refine congrArg (fun q : EReal => gates m c (ix3 (batchOf r) 0 n) * q) ?_
  refine congrArg₂ (fun p q : EReal => p + q) ?_ ?_
  · show (∑ k : Fin 1024, _ : EReal) = _
    exact Finset.sum_congr rfl fun k _ => congrArg (fun q : EReal => q * weights m c _) (stacked_half (first m c) r k)
  · show (∑ k : Fin 1024, _ : EReal) = _
    exact Finset.sum_congr rfl fun k _ => congrArg (fun q : EReal => q * weights m c _) (stacked_half (second m c) r k)

end Cert.AbOutValue

end
-- ==== Proof.GateNormValue.lean ====
/-
  The gated normalisation of the state-space layer: the kernel's array is the reference's.

  Grid point `t` works for rows `256·t …`: each element of the scan's output is multiplied by the activation of its gate,
  then by the inverse root of the row's mean square plus a small constant and by the channel's weight. The reference
  writes the activation `x * (1 / (1 + exp (-x)))`, the kernel `x / (1 + exp (0 - x))`: one function (`silu_eq`).
-/
module

public import proofs.«01_k».proof.Proof.Gen.GateNormIdeal.Value
public import proofs.«01_k».proof.Proof.Gen.GateNormRefIdeal.Read
public import proofs.«01_k».proof.Proof.FfnJoin
public import Idealize.ShloMosaic.Lib.Pointwise
public import Idealize.ShloMosaic.Lib.Tactic

@[expose] public section

set_option maxRecDepth 16384

noncomputable section

namespace Cert.GateNormValue

open Cert.GateNormIdeal Cert.GateNormIdeal.Gen Cert.GateNormIdeal.Value Idealize.ShloMosaic Idealize.ShloMosaic.TcCoe Idealize.SL.Sem

open Cert.FfnValue (silu silu_eq)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

/-- The row length and the small constant under the root, as the program spells them. -/
abbrev len : EReal := (FloatOps.ofBits (F := Ideal) .f32 0x45800000#32 : EReal)
abbrev eps : EReal := (FloatOps.ofBits (F := Ideal) .f32 0x358637BD#32 : EReal)

theorem pay_apply (y : Vec Ideal S256x4096 .f32) (z : Vec Ideal S256x4096 .bf16) (w : Vec Ideal S1x1x4096 .f32) (r : Fin 256) (n : Fin 4096) :
    k0_pay1 (F := Ideal) y z w (ix2 r n) = (y (ix2 r n) * silu (z (ix2 r n))
      * Ideal.rsqrt (Ideal.div (∑ k : Fin 4096, (y (ix2 r k) * silu (z (ix2 r k))) * (y (ix2 r k) * silu (z (ix2 r k)))) len + eps)
      * w (ix3 0 0 n) : EReal) := by
  unfold silu
  pointwise [k0_pay1]

theorem out_eq (y : Vec Ideal S256x4096 .f32) (z : Vec Ideal S256x4096 .bf16) (w : Vec Ideal S1x1x4096 .f32) :
    out0_3 (F := Ideal) y z w = k0_pay1 y z w := by
  unfold out0_3
  rw [View.canon_unit_zero hz2, View.ld_unit_zero (S := S256x4096) hz2, View.ld_unit_zero (S := S256x4096) hz2,
    View.ld_unit_zero (S := S1x1x4096) hz3]

/-! ## The whole grid -/

theorem N_le (t : Fin cfg0.N) : t.val < 64 := lt_of_lt_of_eq t.isLt (show cfg0.N = 64 from N_0)

/-- The scan's output, the gates and the channel weights, as launched. -/
abbrev scanned (c : Dev nD) : Vec Ideal S8x2048x4096 .f32 := m ((c : Thread nD τ).loc main_arg0)
abbrev zs (c : Dev nD) : Vec Ideal S16384x4096 .bf16 := m ((c : Thread nD τ).loc main_arg1)
abbrev weights (c : Dev nD) : Vec Ideal S1x4096 .f32 := m ((c : Thread nD τ).loc main_arg2)

/-- The scan's output as the kernel gets it, the batches one below the other, and the weights with a further axis. -/
abbrev ys (c : Dev nD) : Vec Ideal S16384x4096 .f32 := shapeCast S16384x4096 (scanned m c) shapeCasts_S8x2048x4096_S16384x4096
abbrev wrow (c : Dev nD) : Vec Ideal S1x1x4096 .f32 := shapeCast S1x1x4096 (weights m c) shapeCasts_S1x4096_S1x1x4096

theorem V_ys (c : Dev nD) : V m c main_v0 = shapeCast S16384x4096 (scanned m c) shapeCasts_S8x2048x4096_S16384x4096 := by
  show StableHlo.after hostOps0 _ (Proc.devRef .tc main_v0) = _
  after_results
  rfl

theorem V_wrow (c : Dev nD) : V m c main_v1 = shapeCast S1x1x4096 (weights m c) shapeCasts_S1x4096_S1x1x4096 := by
  show StableHlo.after hostOps0 _ (Proc.devRef .tc main_v1) = _
  after_results
  rfl

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem flushes : ∀ t : Fin cfg0.N, (cfg0.win 3).flush t = true :=
  (by decide +kernel : ∀ t : Fin grid0.N, win0_3.flush t = true)

/-- The row that a point handles at a place of its block. -/
def rowOf (t : ℕ) (ht : t < 64) (r : Fin 256) : Fin 16384 := ⟨t * 256 + r.val, by have := r.isLt; omega⟩
/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem blk_ys (c : Dev nD) (t : Fin cfg0.N) (r : Fin 256) (k : Fin 4096) :
    (iblk m c 0 t : Vec Ideal S256x4096 .f32) (ix2 r k) = ys m c (ix2 (rowOf t.val (N_le t) r) k) := by
  have ht := N_le t
  obtain ⟨h0, h1⟩ := idx0 t
  unfold iblk
  rw [View.read_apply]
  show V m c main_v0 _ = _
  rw [V_ys]
  congr 1
  funext a
  apply Fin.ext
  match a with
  | ⟨0, _⟩ => show win0_0.index t 0 * 256 + 1 * r.val = t.val * 256 + r.val; rw [h0]; omega
  | ⟨1, _⟩ => show win0_0.index t 1 * 4096 + 1 * k.val = k.val; rw [h1]; omega

theorem blk_zs (c : Dev nD) (t : Fin cfg0.N) (r : Fin 256) (k : Fin 4096) :
    (iblk m c 1 t : Vec Ideal S256x4096 .bf16) (ix2 r k) = zs m c (ix2 (rowOf t.val (N_le t) r) k) := by
  have ht := N_le t
  obtain ⟨h0, h1⟩ := idx1 t
  unfold iblk
  rw [View.read_apply]
  show V m c main_arg1 _ = _
  rw [V_main_arg1]
  congr 1
  funext a
  apply Fin.ext
  match a with
  | ⟨0, _⟩ => show win0_1.index t 0 * 256 + 1 * r.val = t.val * 256 + r.val; rw [h0]; omega
  | ⟨1, _⟩ => show win0_1.index t 1 * 4096 + 1 * k.val = k.val; rw [h1]; omega

theorem blk_wrow (c : Dev nD) (t : Fin cfg0.N) (n : Fin 4096) :
    (iblk m c 2 t : Vec Ideal S1x1x4096 .f32) (ix3 0 0 n) = wrow m c (ix3 0 0 n) := by
  have ht := N_le t
  obtain ⟨h0, h1, h2⟩ := idx2 t
  unfold iblk
  rw [View.read_apply]
  show V m c main_v1 _ = _
  rw [V_wrow]
  congr 1
  funext a
  apply Fin.ext
  match a with
  | ⟨0, _⟩ => show win0_2.index t 0 * 1 + 1 * 0 = 0; rw [h0]
  | ⟨1, _⟩ => show win0_2.index t 1 * 1 + 1 * 0 = 0; rw [h1]
  | ⟨2, _⟩ => show win0_2.index t 2 * 4096 + 1 * n.val = n.val; rw [h2]; omega

/-- The result array after the run. -/
abbrev arr (c : Dev nD) : Vec Ideal S16384x4096 .bf16 := (dats m 0 c).arrAt 3 cfg0.N

/-- Element by element. -/
theorem arr_apply (c : Dev nD) (r : Fin 16384) (n : Fin 4096) :
    arr m c (ix2 r n) = (ys m c (ix2 r n) * silu (zs m c (ix2 r n))
      * Ideal.rsqrt (Ideal.div (∑ k : Fin 4096, (ys m c (ix2 r k) * silu (zs m c (ix2 r k))) * (ys m c (ix2 r k) * silu (zs m c (ix2 r k)))) len + eps)
      * wrow m c (ix3 0 0 n) : EReal) := by
  have hr := r.isLt
  have hN : cfg0.N = 64 := N_0
  have hlt : r.val / 256 < cfg0.N := by omega
  have ht : r.val / 256 < 64 := by omega
  have hb := congrFun (blocks3 m c ⟨r.val / 256, hlt⟩ (flushes _)) (ix2 (⟨r.val % 256, Nat.mod_lt _ (by decide)⟩ : Fin 256) n)
  rw [flushed3, View.read_apply] at hb
  have he : ((cfg0.win 3).blk ⟨r.val / 256, hlt⟩).view.emb (ix2 (⟨r.val % 256, Nat.mod_lt _ (by decide)⟩ : Fin 256) n) = ix2 r n := by
    obtain ⟨h0, h1⟩ := idx3 ⟨r.val / 256, hlt⟩
    funext a
    apply Fin.ext
    match a with
    | ⟨0, _⟩ =>
      show win0_3.index ⟨r.val / 256, hlt⟩ 0 * 256 + 1 * (r.val % 256) = r.val
      rw [h0]; dsimp only; omega
    | ⟨1, _⟩ =>
      show win0_3.index ⟨r.val / 256, hlt⟩ 1 * 4096 + 1 * n.val = n.val
      rw [h1]; omega
  have hrow : rowOf (r.val / 256) ht (⟨r.val % 256, Nat.mod_lt _ (by decide)⟩ : Fin 256) = r := by
    unfold rowOf; apply Fin.ext; dsimp only; omega
  rw [he] at hb
  refine Eq.trans hb ?_
  show out0_3 (F := Ideal) (iblk m c 0 ⟨r.val / 256, hlt⟩) (iblk m c 1 ⟨r.val / 256, hlt⟩) (iblk m c 2 ⟨r.val / 256, hlt⟩) (ix2 _ n) = _
  rw [out_eq, pay_apply, blk_wrow]
  simp only [blk_ys m, blk_zs m]
  rw [hrow]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run_blocks m ρ

/-! ## The reference -/

theorem stacked (x : Vec Ideal S8x2048x4096 .f32) (r : Fin 16384) (k : Fin 4096) :
    shapeCast S16384x4096 x shapeCasts_S8x2048x4096_S16384x4096 (ix2 r k) = x (ix3 (batchOf r) (placeOf r) k) := by
  unfold batchOf placeOf
  pointwise []

theorem wrow_apply (c : Dev nD) (n : Fin 4096) : wrow m c (ix3 0 0 n) = weights m c (ix2 0 n) := by
  unfold wrow
  pointwise []

open Cert.GateNormRefIdeal.Read in
/-- The reference read at an index. -/
theorem ref_apply (y : Vec Ideal Cert.GateNormRefIdeal.S8x2048x4096 .f32) (z : Vec Ideal Cert.GateNormRefIdeal.S16384x4096 .bf16)
    (w : Vec Ideal Cert.GateNormRefIdeal.S1x4096 .f32) (r : Fin 16384) (n : Fin 4096) :
    (val_main_v18 (F := Ideal) y z w : Vec Ideal Cert.GateNormRefIdeal.S16384x4096 .bf16) (ix2 r n) = (y (ix3 (batchOf r) (placeOf r) n) * silu (z (ix2 r n))
      * Ideal.rsqrt (Ideal.div (∑ k : Fin 4096, (y (ix3 (batchOf r) (placeOf r) k) * silu (z (ix2 r k))) * (y (ix3 (batchOf r) (placeOf r) k) * silu (z (ix2 r k)))) len + eps)
      * w (ix2 0 n) : EReal) := by
  simp only [silu_eq]
  unfold val_main_v18 val_main_v17 val_main_v16 val_main_v15 val_main_v14 val_main_v13 val_main_v12 val_main_v11 val_main_v10 val_main_v9 val_main_v8 val_main_v7 val_main_v6 val_main_v5 val_main_v4 val_main_v3 val_main_v2
    val_main_cst val_main_cst_0 val_main_cst_1
    val_main_call0_v5 val_main_call0_v4 val_main_call0_cst_0 val_main_call0_v3 val_main_call0_v2 val_main_call0_cst
    val_main_call0_v1 val_main_call0_v0 val_main_v1 val_main_v0 batchOf placeOf
  pointwise []

/-- The kernel's array is the reference's value of the same arguments. -/
theorem result_eq (c : Dev Cert.GateNormIdeal.nD) :
    arr m c = Cert.GateNormRefIdeal.Read.val_main_v18 (F := Ideal) (scanned m c) (zs m c) (weights m c) := by
  funext i
  obtain ⟨r, n, rfl⟩ : ∃ (r : Fin 16384) (n : Fin 4096), i = ix2 r n := ⟨i 0, i 1, eq_ix2 i⟩
  rw [arr_apply m c r n, ref_apply, wrow_apply]
  have e : ∀ k, ys m c (ix2 r k) = scanned m c (ix3 (batchOf r) (placeOf r) k) := stacked (scanned m c) r
  simp only [e]

end Cert.GateNormValue

end
-- ==== Proof.FinalValue.lean ====
/-
  The final root-mean-square normalisation: the kernel's array is the reference's.

  Grid point `t` works for rows `512·t …` and writes each element times the inverse root of its row's mean square plus a
  small constant, times the channel's weight. The reference does the same to the rows before they are stacked.
-/
module

public import proofs.«01_k».proof.Proof.Gen.FinalIdeal.Value
public import proofs.«01_k».proof.Proof.Gen.FinalRefIdeal.Read
public import Idealize.ShloMosaic.Lib.Pointwise
public import Idealize.ShloMosaic.Lib.Tactic

@[expose] public section

set_option maxRecDepth 16384

noncomputable section

namespace Cert.FinalValue

open Cert.FinalIdeal Cert.FinalIdeal.Gen Cert.FinalIdeal.Value Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

/-- The row length and the small constant under the root, as the program spells them. -/
abbrev len : EReal := (FloatOps.ofBits (F := Ideal) .f32 0x45000000#32 : EReal)
abbrev eps : EReal := (FloatOps.ofBits (F := Ideal) .f32 0x358637BD#32 : EReal)

theorem pay_apply (x : Vec Ideal S512x2048 .f32) (w : Vec Ideal S1x2048 .f32) (r : Fin 512) (n : Fin 2048) :
    k0_pay1 (F := Ideal) x w (ix2 r n) = (x (ix2 r n)
      * Ideal.rsqrt (Ideal.div (∑ k : Fin 2048, x (ix2 r k) * x (ix2 r k)) len + eps) * w (ix2 0 n) : EReal) := by
  pointwise [k0_pay1]

theorem out_eq (x : Vec Ideal S512x2048 .f32) (w : Vec Ideal S1x2048 .f32) : out0_2 (F := Ideal) x w = k0_pay1 x w := by
  unfold out0_2
  rw [View.canon_unit_zero hz2, View.ld_unit_zero (S := S512x2048) hz2, View.ld_unit_zero (S := S1x2048) hz2]

/-! ## The whole grid -/

theorem N_le (t : Fin cfg0.N) : t.val < 32 := lt_of_lt_of_eq t.isLt (show cfg0.N = 32 from N_0)

/-- The residual stream and the channel weights, as launched. -/
abbrev resid (c : Dev nD) : Vec Ideal S8x2048x2048 .f32 := m ((c : Thread nD τ).loc main_arg0)
abbrev weights (c : Dev nD) : Vec Ideal S2048 .f32 := m ((c : Thread nD τ).loc main_arg1)

/-- The residual stream as the kernel gets it, the batches one below the other, and the weights as one row. -/
abbrev rows (c : Dev nD) : Vec Ideal S16384x2048 .f32 := shapeCast S16384x2048 (resid m c) shapeCasts_S8x2048x2048_S16384x2048
abbrev wrow (c : Dev nD) : Vec Ideal S1x2048 .f32 := broadcastInDim S1x2048 ![1] bcast_S2048_S1x2048_1 (weights m c)

theorem V_rows (c : Dev nD) : V m c main_v0 = shapeCast S16384x2048 (resid m c) shapeCasts_S8x2048x2048_S16384x2048 := by
  show StableHlo.after hostOps0 _ (Proc.devRef .tc main_v0) = _
  after_results
  rfl

theorem V_wrow (c : Dev nD) : V m c main_v1 = wrow m c := by
  show StableHlo.after hostOps0 _ (Proc.devRef .tc main_v1) = _
  after_results

theorem idx0 : ∀ t : Fin cfg0.N, win0_0.index t 0 = t.val ∧ win0_0.index t 1 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem flushes : ∀ t : Fin cfg0.N, (cfg0.win 2).flush t = true :=
  (by decide +kernel : ∀ t : Fin grid0.N, win0_2.flush t = true)

/-- The row that a point handles at a place of its block. -/
def rowOf (t : ℕ) (ht : t < 32) (r : Fin 512) : Fin 16384 := ⟨t * 512 + r.val, by have := r.isLt; omega⟩
/-- The batch of a stacked row, and its place in the batch. -/
def batchOf (r : Fin 16384) : Fin 8 := ⟨r.val / 2048, by have := r.isLt; omega⟩
def placeOf (r : Fin 16384) : Fin 2048 := ⟨r.val % 2048, Nat.mod_lt _ (by decide)⟩

theorem blk_rows (c : Dev nD) (t : Fin cfg0.N) (r : Fin 512) (k : Fin 2048) :
    (iblk m c 0 t : Vec Ideal S512x2048 .f32) (ix2 r k) = rows m c (ix2 (rowOf t.val (N_le t) r) k) := by
  have ht := N_le t
  obtain ⟨h0, h1⟩ := idx0 t
  unfold iblk
  rw [View.read_apply]
  show V m c main_v0 _ = _
  rw [V_rows]
  congr 1
  funext a
  apply Fin.ext
  match a with
  | ⟨0, _⟩ => show win0_0.index t 0 * 512 + 1 * r.val = t.val * 512 + r.val; rw [h0]; omega
  | ⟨1, _⟩ => show win0_0.index t 1 * 2048 + 1 * k.val = k.val; rw [h1]; omega

theorem blk_wrow (c : Dev nD) (t : Fin cfg0.N) (n : Fin 2048) :
    (iblk m c 1 t : Vec Ideal S1x2048 .f32) (ix2 0 n) = wrow m c (ix2 0 n) := by
  have ht := N_le t
  obtain ⟨h0, h1⟩ := idx1 t
  unfold iblk
  rw [View.read_apply]
  show V m c main_v1 _ = _
  rw [V_wrow]
  congr 1
  funext a
  apply Fin.ext
  match a with
  | ⟨0, _⟩ => show win0_1.index t 0 * 1 + 1 * 0 = 0; rw [h0]
  | ⟨1, _⟩ => show win0_1.index t 1 * 2048 + 1 * n.val = n.val; rw [h1]; omega

/-- The result array after the run. -/
abbrev arr (c : Dev nD) : Vec Ideal S16384x2048 .f32 := (dats m 0 c).arrAt 2 cfg0.N

/-- Element by element. -/
theorem arr_apply (c : Dev nD) (r : Fin 16384) (n : Fin 2048) :
    arr m c (ix2 r n) = (rows m c (ix2 r n)
      * Ideal.rsqrt (Ideal.div (∑ k : Fin 2048, rows m c (ix2 r k) * rows m c (ix2 r k)) len + eps) * wrow m c (ix2 0 n) : EReal) := by
  have hr := r.isLt
  have hN : cfg0.N = 32 := N_0
  have hlt : r.val / 512 < cfg0.N := by omega
  have ht : r.val / 512 < 32 := by omega
  have hb := congrFun (blocks2 m c ⟨r.val / 512, hlt⟩ (flushes _)) (ix2 (⟨r.val % 512, Nat.mod_lt _ (by decide)⟩ : Fin 512) n)
  rw [flushed2, View.read_apply] at hb
  have he : ((cfg0.win 2).blk ⟨r.val / 512, hlt⟩).view.emb (ix2 (⟨r.val % 512, Nat.mod_lt _ (by decide)⟩ : Fin 512) n) = ix2 r n := by
    obtain ⟨h0, h1⟩ := idx2 ⟨r.val / 512, hlt⟩
    funext a
    apply Fin.ext
    match a with
    | ⟨0, _⟩ =>
      show win0_2.index ⟨r.val / 512, hlt⟩ 0 * 512 + 1 * (r.val % 512) = r.val
      rw [h0]; dsimp only; omega
    | ⟨1, _⟩ =>
      show win0_2.index ⟨r.val / 512, hlt⟩ 1 * 2048 + 1 * n.val = n.val
      rw [h1]; omega
  have hrow : rowOf (r.val / 512) ht (⟨r.val % 512, Nat.mod_lt _ (by decide)⟩ : Fin 512) = r := by
    unfold rowOf; apply Fin.ext; dsimp only; omega
  rw [he] at hb
  refine Eq.trans hb ?_
  show out0_2 (F := Ideal) (iblk m c 0 ⟨r.val / 512, hlt⟩) (iblk m c 1 ⟨r.val / 512, hlt⟩) (ix2 _ n) = _
  rw [out_eq, pay_apply, blk_wrow]
  simp only [blk_rows m]
  rw [hrow]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = arr m c
      ∧ r.2.mem ((c : Thread nD τ).loc main_arg0) = m ((c : Thread nD τ).loc main_arg0)
      ∧ r.2.mem ((c : Thread nD τ).loc main_arg1) = m ((c : Thread nD τ).loc main_arg1) :=
  run_blocks m ρ

/-! ## The reference -/

theorem stacked (x : Vec Ideal S8x2048x2048 .f32) (r : Fin 16384) (k : Fin 2048) :
    shapeCast S16384x2048 x shapeCasts_S8x2048x2048_S16384x2048 (ix2 r k) = x (ix3 (batchOf r) (placeOf r) k) := by
  unfold batchOf placeOf
  pointwise []

theorem wrow_apply (c : Dev nD) (n : Fin 2048) : wrow m c (ix2 0 n) = weights m c (ix1 n) := by
  unfold wrow
  pointwise []

open Cert.FinalRefIdeal.Read in
/-- The reference read at an index. -/
theorem ref_apply (x : Vec Ideal Cert.FinalRefIdeal.S8x2048x2048 .f32) (w : Vec Ideal Cert.FinalRefIdeal.S2048 .f32)
    (r : Fin 16384) (n : Fin 2048) :
    (val_main_v13 (F := Ideal) x w : Vec Ideal Cert.FinalRefIdeal.S16384x2048 .f32) (ix2 r n) = (x (ix3 (batchOf r) (placeOf r) n)
      * Ideal.rsqrt (Ideal.div (∑ k : Fin 2048, x (ix3 (batchOf r) (placeOf r) k) * x (ix3 (batchOf r) (placeOf r) k)) len + eps)
      * w (ix1 n) : EReal) := by
  unfold val_main_v13 val_main_v12 val_main_v11 val_main_v10 val_main_v9 val_main_v8 val_main_v7 val_main_v6 val_main_v5
    val_main_v4 val_main_v3 val_main_v2 val_main_v1 val_main_v0 val_main_cst val_main_cst_0 val_main_cst_1 batchOf placeOf
  pointwise []

/-- The kernel's array is the reference's value of the same arguments. -/
theorem result_eq (c : Dev Cert.FinalIdeal.nD) :
    arr m c = Cert.FinalRefIdeal.Read.val_main_v13 (F := Ideal) (resid m c) (weights m c) := by
  funext i
  obtain ⟨r, n, rfl⟩ : ∃ (r : Fin 16384) (n : Fin 2048), i = ix2 r n := ⟨i 0, i 1, eq_ix2 i⟩
  rw [arr_apply m c r n, ref_apply, wrow_apply]
  have e : ∀ k, rows m c (ix2 r k) = resid m c (ix3 (batchOf r) (placeOf r) k) := stacked (resid m c) r
  simp only [e]

end Cert.FinalValue

end
-- ==== Proof.AdaValue.lean ====
/-
  The modulations computed from the conditioning vectors: the kernel's array is the reference's.

  Grid point `t` computes columns `1024·t …` of the product of the activated conditioning vectors with the layer's
  matrix, and adds the layer's bias. The kernel's activation is `x / (1 + exp (0 - x))`, the reference's
  `x * (1 / (1 + exp (-x)))`: one function (`silu_eq`).
-/
module

public import proofs.«01_k».proof.Proof.Gen.AdaIdeal.Value
public import proofs.«01_k».proof.Proof.Gen.AdaRefIdeal.Read
public import proofs.«01_k».proof.Proof.FfnJoin
public import Idealize.ShloMosaic.Lib.Pointwise
public import Idealize.ShloMosaic.Lib.Tactic

@[expose] public section

set_option maxRecDepth 16384

noncomputable section

namespace Cert.AdaValue

open Cert.AdaIdeal Cert.AdaIdeal.Gen Cert.AdaIdeal.Value Idealize.ShloMosaic Idealize.ShloMosaic.TcCoe Idealize.SL.Sem

open Cert.FfnValue (silu silu_eq)

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

theorem pay_apply (x : Vec Ideal S16x2048 .f32) (w : Vec Ideal S1x2048x1024 .f32) (z : Vec Ideal S1x1x1024 .f32) (r : Fin 16) (n : Fin 1024) :
    k0_pay1 (F := Ideal) x w z (ix2 r n) = ((∑ k : Fin 2048, silu (x (ix2 r k)) * w (ix3 0 k n)) + z (ix3 0 0 n) : EReal) := by
  unfold silu
  pointwise [k0_pay1]

theorem out_eq (x : Vec Ideal S16x2048 .f32) (w : Vec Ideal S1x2048x1024 .f32) (z : Vec Ideal S1x1x1024 .f32) :
    out0_3 (F := Ideal) x w z = k0_pay1 x w z := by
  unfold out0_3
  rw [View.canon_unit_zero hz2, View.ld_unit_zero (S := S16x2048) hz2, View.ld_unit_zero (S := S1x2048x1024) hz3,
    View.ld_unit_zero (S := S1x1x1024) hz3]

/-! ## The whole grid -/

theorem N_le (t : Fin cfg0.N) : t.val < 12 := lt_of_lt_of_eq t.isLt (show cfg0.N = 12 from N_0)

/-- The conditioning vectors, the matrices and the biases of the layers, as launched. -/
abbrev conds (c : Dev nD) : Vec Ideal S16x2048 .f32 := m ((c : Thread nD τ).loc main_arg0)
abbrev mats (c : Dev nD) : Vec Ideal S2x2048x12288 .f32 := m ((c : Thread nD τ).loc main_arg1)
abbrev biases (c : Dev nD) : Vec Ideal S2x12288 .f32 := m ((c : Thread nD τ).loc main_arg2)

/-- The biases as the kernel gets them, with a further axis. -/
abbrev brows (c : Dev nD) : Vec Ideal S2x1x12288 .f32 := shapeCast S2x1x12288 (biases m c) shapeCasts_S2x12288_S2x1x12288

theorem V_brows (c : Dev nD) : V m c main_v0 = shapeCast S2x1x12288 (biases m c) shapeCasts_S2x12288_S2x1x12288 := by
  show StableHlo.after hostOps0 _ (Proc.devRef .tc main_v0) = _
  after_results
  rfl

theorem brows_apply (c : Dev nD) (n : Fin 12288) : brows m c (ix3 0 0 n) = biases m c (ix2 0 n) := by
  unfold brows
  pointwise []

theorem idx0 : ∀ t : Fin cfg0.N, win0_0.index t 0 = 0 ∧ win0_0.index t 1 = 0 :=
  (by decide +kernel : ∀ t : Fin grid0.N, _)
theorem idx1 : ∀ t : Fin cfg0.N, win0_1.index t 0 = 0 ∧ win0_1.index t 1 = 0 ∧ win0_1.index t 2 = t.val :=
  (by decide +kernel : ∀ t : Fin grid0.N, _)
theorem idx2 : ∀ t : Fin cfg0.N, win0_2.index t 0 = 0 ∧ win0_2.index t 1 = 0 ∧ win0_2.index t 2 = t.val :=
  (by decide +kernel : ∀ t : Fin grid0.N, _)
theorem idx3 : ∀ t : Fin cfg0.N, win0_3.index t 0 = 0 ∧ win0_3.index t 1 = t.val :=
  (by decide +kernel : ∀ t : Fin grid0.N, _)
theorem flushes : ∀ t : Fin cfg0.N, (cfg0.win 3).flush t = true :=
  (by decide +kernel : ∀ t : Fin grid0.N, win0_3.flush t = true)

/-- The column of the whole that stands at a column of a point's block. -/
def colOf (t : ℕ) (ht : t < 12) (n : Fin 1024) : Fin 12288 := ⟨t * 1024 + n.val, by have := n.isLt; omega⟩

theorem blk_x (c : Dev nD) (t : Fin cfg0.N) (r : Fin 16) (k : Fin 2048) :
    (iblk m c 0 t : Vec Ideal S16x2048 .f32) (ix2 r k) = conds m c (ix2 r k) := by
  obtain ⟨h0, h1⟩ := idx0 t
  unfold iblk
  rw [View.read_apply]
  show V m c main_arg0 _ = _
  rw [V_main_arg0]
  congr 1
  funext a
  apply Fin.ext
  match a with
  | ⟨0, _⟩ => show win0_0.index t 0 * 16 + 1 * r.val = r.val; rw [h0]; omega
  | ⟨1, _⟩ => show win0_0.index t 1 * 2048 + 1 * k.val = k.val; rw [h1]; omega

theorem blk_w (c : Dev nD) (t : Fin cfg0.N) (k : Fin 2048) (n : Fin 1024) :
    (iblk m c 1 t : Vec Ideal S1x2048x1024 .f32) (ix3 0 k n) = mats m c (ix3 0 k (colOf t.val (N_le t) n)) := by
  obtain ⟨h0, h1, h2⟩ := idx1 t
  unfold iblk
  rw [View.read_apply]
  show V m c main_arg1 _ = _
  rw [V_main_arg1]
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega
  | ⟨2, _⟩ => show win0_1.index t 2 * 1024 + 1 * n.val = t.val * 1024 + n.val; rw [h2]; omega

theorem blk_z (c : Dev nD) (t : Fin cfg0.N) (n : Fin 1024) :
    (iblk m c 2 t : Vec Ideal S1x1x1024 .f32) (ix3 0 0 n) = brows m c (ix3 0 0 (colOf t.val (N_le t) n)) := by
  obtain ⟨h0, h1, h2⟩ := idx2 t
  unfold iblk
  rw [View.read_apply]
  show V m c main_v0 _ = _
  rw [V_brows]
  congr 1
  funext a
  apply Fin.ext
  match a with
  | ⟨0, _⟩ => show win0_2.index t 0 * 1 + 1 * 0 = 0; rw [h0]
  | ⟨1, _⟩ => show win0_2.index t 1 * 1 + 1 * 0 = 0; rw [h1]
  | ⟨2, _⟩ => show win0_2.index t 2 * 1024 + 1 * n.val = t.val * 1024 + n.val; rw [h2]; omega

/-- The result array after the run. -/
abbrev arr (c : Dev nD) : Vec Ideal S16x12288 .f32 := (dats m 0 c).arrAt 3 cfg0.N

/-- Element by element: conditioning vector `r`, column `n`. -/
theorem arr_apply (c : Dev nD) (r : Fin 16) (n : Fin 12288) :
    arr m c (ix2 r n) = ((∑ k : Fin 2048, silu (conds m c (ix2 r k)) * mats m c (ix3 0 k n)) + biases m c (ix2 0 n) : EReal) := by
  have hn := n.isLt
  have hN : cfg0.N = 12 := N_0
  have hlt : n.val / 1024 < cfg0.N := by omega
  have ht : n.val / 1024 < 12 := by omega
  have hb := congrFun (blocks3 m c ⟨n.val / 1024, hlt⟩ (flushes _)) (ix2 r (⟨n.val % 1024, Nat.mod_lt _ (by decide)⟩ : Fin 1024))
  rw [flushed3, View.read_apply] at hb
  have he : ((cfg0.win 3).blk ⟨n.val / 1024, hlt⟩).view.emb (ix2 r (⟨n.val % 1024, Nat.mod_lt _ (by decide)⟩ : Fin 1024)) = ix2 r n := by
    obtain ⟨h0, h1⟩ := idx3 ⟨n.val / 1024, hlt⟩
    funext a
    apply Fin.ext
    match a with
    | ⟨0, _⟩ =>
      show win0_3.index ⟨n.val / 1024, hlt⟩ 0 * 16 + 1 * r.val = r.val
      rw [h0]; omega
    | ⟨1, _⟩ =>
      show win0_3.index ⟨n.val / 1024, hlt⟩ 1 * 1024 + 1 * (n.val % 1024) = n.val
      rw [h1]; dsimp only; omega
  have hcol : colOf (n.val / 1024) ht (⟨n.val % 1024, Nat.mod_lt _ (by decide)⟩ : Fin 1024) = n := by
    unfold colOf; apply Fin.ext; dsimp only; omega
  rw [he] at hb
  refine Eq.trans hb ?_
  show out0_3 (F := Ideal) (iblk m c 0 ⟨n.val / 1024, hlt⟩) (iblk m c 1 ⟨n.val / 1024, hlt⟩) (iblk m c 2 ⟨n.val / 1024, hlt⟩) (ix2 r _) = _
  rw [out_eq, pay_apply, blk_z]
  simp only [blk_x m, blk_w m]
  rw [hcol, brows_apply]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run_blocks m ρ

/-! ## The reference -/

open Cert.AdaRefIdeal.Read in
/-- The reference read at an index. -/
theorem ref_apply (x : Vec Ideal Cert.AdaRefIdeal.S16x2048 .f32) (w : Vec Ideal Cert.AdaRefIdeal.S2x2048x12288 .f32)
    (z : Vec Ideal Cert.AdaRefIdeal.S2x12288 .f32) (r : Fin 16) (n : Fin 12288) :
    (val_main_v8 (F := Ideal) x w z : Vec Ideal Cert.AdaRefIdeal.S16x12288 .f32) (ix2 r n)
      = ((∑ k : Fin 2048, silu (x (ix2 r k)) * w (ix3 0 k n)) + z (ix2 0 n) : EReal) := by
  simp only [silu_eq]
  unfold val_main_v8 val_main_v7 val_main_v6 val_main_v5 val_main_v4 val_main_v3 val_main_v2 val_main_v1 val_main_v0
    val_main_call0_v5 val_main_call0_v4 val_main_call0_cst_0 val_main_call0_v3 val_main_call0_v2 val_main_call0_cst
    val_main_call0_v1 val_main_call0_v0
  pointwise []

/-- The kernel's array is the reference's value of the same arguments. -/
theorem result_eq (c : Dev Cert.AdaIdeal.nD) :
    arr m c = Cert.AdaRefIdeal.Read.val_main_v8 (F := Ideal) (conds m c) (mats m c) (biases m c) := by
  funext i
  obtain ⟨r, n, rfl⟩ : ∃ (r : Fin 16) (n : Fin 12288), i = ix2 r n := ⟨i 0, i 1, eq_ix2 i⟩
  rw [arr_apply m c r n, ref_apply]

end Cert.AdaValue

end
-- ==== Proof.ModValue.lean ====
/-
  The modulated normalisation in front of a mixer: the kernel's array is the reference's.

  Grid point `t` works for sample `t / 4`, tokens `512·(t % 4) …`: each element is multiplied by the inverse root of its
  row's mean square plus a small constant, by the channel's weight and by one plus the sample's scale, and the sample's
  shift is added. The reference does the same to whole arrays.
-/
module

public import proofs.«01_k».proof.Proof.Gen.ModIdeal.Value
public import proofs.«01_k».proof.Proof.Gen.ModRefIdeal.Read
public import Idealize.ShloMosaic.Lib.Pointwise
public import Idealize.ShloMosaic.Lib.Tactic

@[expose] public section

set_option maxRecDepth 16384

noncomputable section

namespace Cert.ModValue

open Cert.ModIdeal Cert.ModIdeal.Gen Cert.ModIdeal.Value Idealize.ShloMosaic Idealize.ShloMosaic.TcCoe Idealize.SL.Sem

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-! ## One grid point -/

/-- The row length, the small constant under the root and the one that is added to a scale, as the program spells them. -/
abbrev len : EReal := (FloatOps.ofBits (F := Ideal) .f32 0x45000000#32 : EReal)
abbrev eps : EReal := (FloatOps.ofBits (F := Ideal) .f32 0x358637BD#32 : EReal)
abbrev one : EReal := (FloatOps.ofBits (F := Ideal) .f32 0x3F800000#32 : EReal)

theorem pay_apply (x : Vec Ideal S1x512x2048 .f32) (g : Vec Ideal S1x2048 .f32) (sh sc : Vec Ideal S1x1x2048 .f32) (r : Fin 512) (n : Fin 2048) :
    k0_pay1 (F := Ideal) x g sh sc (ix3 0 r n) = (x (ix3 0 r n)
      * Ideal.rsqrt (Ideal.div (∑ k : Fin 2048, x (ix3 0 r k) * x (ix3 0 r k)) len + eps)
      * g (ix2 0 n) * (one + sc (ix3 0 0 n)) + sh (ix3 0 0 n) : EReal) := by
  pointwise [k0_pay1]

theorem out_eq (x : Vec Ideal S1x512x2048 .f32) (g : Vec Ideal S1x2048 .f32) (sh sc : Vec Ideal S1x1x2048 .f32) :
    out0_4 (F := Ideal) x g sh sc = k0_pay1 x g sh sc := by
  unfold out0_4
  rw [View.canon_unit_zero hz3, View.ld_unit_zero (S := S1x512x2048) hz3, View.ld_unit_zero (S := S1x2048) hz2,
    View.ld_unit_zero (S := S1x1x2048) hz3, View.ld_unit_zero (S := S1x1x2048) hz3]

/-! ## The whole grid -/

theorem N_le (t : Fin cfg0.N) : t.val < 32 := lt_of_lt_of_eq t.isLt (show cfg0.N = 32 from N_0)

/-- The residual stream, the channel weights, the shifts and the scales, as launched. -/
abbrev stream (c : Dev nD) : Vec Ideal S8x2048x2048 .f32 := m ((c : Thread nD τ).loc main_arg0)
abbrev weights (c : Dev nD) : Vec Ideal S2048 .f32 := m ((c : Thread nD τ).loc main_arg1)
abbrev shifts (c : Dev nD) : Vec Ideal S8x1x2048 .f32 := m ((c : Thread nD τ).loc main_arg2)
abbrev scales (c : Dev nD) : Vec Ideal S8x1x2048 .f32 := m ((c : Thread nD τ).loc main_arg3)

/-- The weights as the kernel gets them: one row. -/
abbrev wrow (c : Dev nD) : Vec Ideal S1x2048 .f32 := broadcastInDim S1x2048 ![1] bcast_S2048_S1x2048_1 (weights m c)

theorem V_wrow (c : Dev nD) : V m c main_v0 = broadcastInDim S1x2048 ![1] bcast_S2048_S1x2048_1 (weights m c) := by
  show StableHlo.after hostOps0 _ (Proc.devRef .tc main_v0) = _
  after_results

theorem wrow_apply (c : Dev nD) (n : Fin 2048) : wrow m c (ix2 0 n) = weights m c (ix1 n) := by
  unfold wrow
  pointwise []

theorem idx0 : ∀ t : Fin cfg0.N, win0_0.index t 0 = t.val / 4 ∧ win0_0.index t 1 = t.val % 4 ∧ win0_0.index t 2 = 0 :=
  (by decide +kernel : ∀ t : Fin grid0.N, _)
theorem idx1 : ∀ t : Fin cfg0.N, win0_1.index t 0 = 0 ∧ win0_1.index t 1 = 0 :=
  (by decide +kernel : ∀ t : Fin grid0.N, _)
theorem idx2 : ∀ t : Fin cfg0.N, win0_2.index t 0 = t.val / 4 ∧ win0_2.index t 1 = 0 ∧ win0_2.index t 2 = 0 :=
  (by decide +kernel : ∀ t : Fin grid0.N, _)
theorem idx3 : ∀ t : Fin cfg0.N, win0_3.index t 0 = t.val / 4 ∧ win0_3.index t 1 = 0 ∧ win0_3.index t 2 = 0 :=
  (by decide +kernel : ∀ t : Fin grid0.N, _)
theorem idx4 : ∀ t : Fin cfg0.N, win0_4.index t 0 = t.val / 4 ∧ win0_4.index t 1 = t.val % 4 ∧ win0_4.index t 2 = 0 :=
  (by decide +kernel : ∀ t : Fin grid0.N, _)
theorem flushes : ∀ t : Fin cfg0.N, (cfg0.win 4).flush t = true :=
  (by decide +kernel : ∀ t : Fin grid0.N, win0_4.flush t = true)

/-- The sample a point works for, and the token that stands at a place of its block. -/
def sampleOf (t : ℕ) (ht : t < 32) : Fin 8 := ⟨t / 4, by omega⟩
def tokenOf (t : ℕ) (r : Fin 512) : Fin 2048 := ⟨t % 4 * 512 + r.val, by have := r.isLt; omega⟩

theorem blk_x (c : Dev nD) (t : Fin cfg0.N) (r : Fin 512) (k : Fin 2048) :
    (iblk m c 0 t : Vec Ideal S1x512x2048 .f32) (ix3 0 r k) = stream m c (ix3 (sampleOf t.val (N_le t)) (tokenOf t.val r) k) := by
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 4; rw [h0]; omega
  | ⟨1, _⟩ => show win0_0.index t 1 * 512 + 1 * r.val = t.val % 4 * 512 + r.val; rw [h1]; omega
  | ⟨2, _⟩ => show win0_0.index t 2 * 2048 + 1 * k.val = k.val; rw [h2]; omega

theorem blk_g (c : Dev nD) (t : Fin cfg0.N) (n : Fin 2048) :
    (iblk m c 1 t : Vec Ideal S1x2048 .f32) (ix2 0 n) = wrow m c (ix2 0 n) := by
  obtain ⟨h0, h1⟩ := idx1 t
  unfold iblk
  rw [View.read_apply]
  show V m c main_v0 _ = _
  rw [V_wrow]
  congr 1
  funext a
  apply Fin.ext
  match a with
  | ⟨0, _⟩ => show win0_1.index t 0 * 1 + 1 * 0 = 0; rw [h0]
  | ⟨1, _⟩ => show win0_1.index t 1 * 2048 + 1 * n.val = n.val; rw [h1]; omega

theorem blk_sh (c : Dev nD) (t : Fin cfg0.N) (n : Fin 2048) :
    (iblk m c 2 t : Vec Ideal S1x1x2048 .f32) (ix3 0 0 n) = shifts m c (ix3 (sampleOf t.val (N_le t)) 0 n) := by
  obtain ⟨h0, h1, h2⟩ := idx2 t
  unfold iblk
  rw [View.read_apply]
  show V m c main_arg2 _ = _
  rw [V_main_arg2]
  congr 1
  funext a
  apply Fin.ext
  match a with
  | ⟨0, _⟩ => show win0_2.index t 0 * 1 + 1 * 0 = t.val / 4; rw [h0]; omega
  | ⟨1, _⟩ => show win0_2.index t 1 * 1 + 1 * 0 = 0; rw [h1]
  | ⟨2, _⟩ => show win0_2.index t 2 * 2048 + 1 * n.val = n.val; rw [h2]; omega

theorem blk_sc (c : Dev nD) (t : Fin cfg0.N) (n : Fin 2048) :
    (iblk m c 3 t : Vec Ideal S1x1x2048 .f32) (ix3 0 0 n) = scales m c (ix3 (sampleOf t.val (N_le t)) 0 n) := by
  obtain ⟨h0, h1, h2⟩ := idx3 t
  unfold iblk
  rw [View.read_apply]
  show V m c main_arg3 _ = _
  rw [V_main_arg3]
  congr 1
  funext a
  apply Fin.ext
  match a with
  | ⟨0, _⟩ => show win0_3.index t 0 * 1 + 1 * 0 = t.val / 4; rw [h0]; omega
  | ⟨1, _⟩ => show win0_3.index t 1 * 1 + 1 * 0 = 0; rw [h1]
  | ⟨2, _⟩ => show win0_3.index t 2 * 2048 + 1 * n.val = n.val; rw [h2]; omega

/-- The result array after the run. -/
abbrev arr (c : Dev nD) : Vec Ideal S8x2048x2048 .bf16 := (dats m 0 c).arrAt 4 cfg0.N

/-- Element by element: sample `b`, token `r`, channel `n`. -/
theorem arr_apply (c : Dev nD) (b : Fin 8) (r : Fin 2048) (n : Fin 2048) :
    arr m c (ix3 b r n) = (stream m c (ix3 b r n)
      * Ideal.rsqrt (Ideal.div (∑ k : Fin 2048, stream m c (ix3 b r k) * stream m c (ix3 b r k)) len + eps)
      * weights m c (ix1 n) * (one + scales m c (ix3 b 0 n)) + shifts m c (ix3 b 0 n) : EReal) := by
  have hb8 := b.isLt
  have hr := r.isLt
  have hN : cfg0.N = 32 := N_0
  have hlt : 4 * b.val + r.val / 512 < cfg0.N := by omega
  have ht : 4 * b.val + r.val / 512 < 32 := by omega
  have hb := congrFun (blocks4 m c ⟨4 * b.val + r.val / 512, hlt⟩ (flushes _)) (ix3 (0 : Fin 1) (⟨r.val % 512, Nat.mod_lt _ (by decide)⟩ : Fin 512) n)
  rw [flushed4, View.read_apply] at hb
  have he : ((cfg0.win 4).blk ⟨4 * b.val + r.val / 512, hlt⟩).view.emb (ix3 (0 : Fin 1) (⟨r.val % 512, Nat.mod_lt _ (by decide)⟩ : Fin 512) n) = ix3 b r n := by
    obtain ⟨h0, h1, h2⟩ := idx4 ⟨4 * b.val + r.val / 512, hlt⟩
    funext a
    apply Fin.ext
    match a with
    | ⟨0, _⟩ =>
      show win0_4.index ⟨4 * b.val + r.val / 512, hlt⟩ 0 * 1 + 1 * 0 = b.val
      rw [h0]; dsimp only; omega
    | ⟨1, _⟩ =>
      show win0_4.index ⟨4 * b.val + r.val / 512, hlt⟩ 1 * 512 + 1 * (r.val % 512) = r.val
      rw [h1]; dsimp only; omega
    | ⟨2, _⟩ =>
      show win0_4.index ⟨4 * b.val + r.val / 512, hlt⟩ 2 * 2048 + 1 * n.val = n.val
      rw [h2]; omega
  have hs : sampleOf (4 * b.val + r.val / 512) ht = b := by
    unfold sampleOf; apply Fin.ext; dsimp only; omega
  have hrow : tokenOf (4 * b.val + r.val / 512) (⟨r.val % 512, Nat.mod_lt _ (by decide)⟩ : Fin 512) = r := by
    unfold tokenOf; apply Fin.ext; dsimp only; omega
  rw [he] at hb
  refine Eq.trans hb ?_
  show out0_4 (F := Ideal) (iblk m c 0 ⟨4 * b.val + r.val / 512, hlt⟩) (iblk m c 1 ⟨4 * b.val + r.val / 512, hlt⟩)
    (iblk m c 2 ⟨4 * b.val + r.val / 512, hlt⟩) (iblk m c 3 ⟨4 * b.val + r.val / 512, hlt⟩) (ix3 0 _ n) = _
  rw [out_eq, pay_apply, blk_g, blk_sh, blk_sc, wrow_apply]
  simp only [blk_x m]
  rw [hrow, hs]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  run_blocks m ρ

/-! ## The reference -/

open Cert.ModRefIdeal.Read in
/-- The reference read at an index. -/
theorem ref_apply (x : Vec Ideal Cert.ModRefIdeal.S8x2048x2048 .f32) (g : Vec Ideal Cert.ModRefIdeal.S2048 .f32)
    (sh sc : Vec Ideal Cert.ModRefIdeal.S8x1x2048 .f32) (b : Fin 8) (r : Fin 2048) (n : Fin 2048) :
    (val_main_v19 (F := Ideal) x g sh sc : Vec Ideal Cert.ModRefIdeal.S8x2048x2048 .bf16) (ix3 b r n) = (x (ix3 b r n)
      * Ideal.rsqrt (Ideal.div (∑ k : Fin 2048, x (ix3 b r k) * x (ix3 b r k)) len + eps)
      * g (ix1 n) * (one + sc (ix3 b 0 n)) + sh (ix3 b 0 n) : EReal) := by
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2
    val_main_v1 val_main_v0 val_main_cst val_main_cst_0 val_main_cst_1 val_main_cst_2
  pointwise []

/-- The kernel's array is the reference's value of the same arguments. -/
theorem result_eq (c : Dev Cert.ModIdeal.nD) :
    arr m c = Cert.ModRefIdeal.Read.val_main_v19 (F := Ideal) (stream m c) (weights m c) (shifts m c) (scales m c) := by
  funext i
  obtain ⟨b, r, n, rfl⟩ : ∃ (b : Fin 8) (r : Fin 2048) (n : Fin 2048), i = ix3 b r n := ⟨i 0, i 1, i 2, eq_ix3 i⟩
  rw [arr_apply m c b r n, ref_apply]

end Cert.ModValue

end
-- ==== Proof.GmlpBlock.lean ====
/-
  The chunk gate, ONE GRID POINT: what a point of the grid leaves in its output block, element by element.

  A point works for one sample and one chunk of 128 tokens. It normalises the chunk's second half of channels, and for each
  of the eight groups of 128 channels mixes the chunk's tokens by the group's 128 by 128 matrix, adds the group's bias per
  token and multiplies by the first half of channels.
-/
module

public import proofs.«01_k».proof.Proof.Gen.GmlpIdeal.Value
public import proofs.«01_k».proof.Proof.Gen.GmlpRefIdeal.Read
public import Idealize.ShloMosaic.Lib.Pointwise
public import Idealize.ShloMosaic.Lib.Tactic

@[expose] public section

set_option maxRecDepth 16384

noncomputable section

namespace Cert.GmlpValue

open Cert.GmlpIdeal Cert.GmlpIdeal.Gen Idealize.ShloMosaic Idealize.ShloMosaic.TcCoe Idealize.SL.Sem

theorem hz3 : (![0, 0, 0] : Fin 3 → Nat) = fun _ => 0 := funext fun a => by fin_cases a <;> rfl

/-- The row length and the small constant under the root, as the program spells them. -/
abbrev len : EReal := (FloatOps.ofBits (F := Ideal) .f32 0x44800000#32 : EReal)
abbrev eps : EReal := (FloatOps.ofBits (F := Ideal) .f32 0x358637BD#32 : EReal)

/-- The normalised second half, token `j` of the chunk, channel `n`. -/
theorem pay3_apply (v : Vec Ideal S1x128x1024 .bf16) (w : Vec Ideal S1x1x1024 .f32) (j : Fin 128) (n : Fin 1024) :
    k0_pay3 (F := Ideal) v w (ix2 j n) = (v (ix3 0 j n)
      * Ideal.rsqrt (Ideal.div (∑ k : Fin 1024, v (ix3 0 j k) * v (ix3 0 j k)) len + eps) * w (ix3 0 0 n) : EReal) := by
  pointwise [k0_pay3]

/-- Channel `n` of group `g`. -/
def chan (g : Fin 8) (n : Fin 128) : Fin 1024 := ⟨128 * g.val + n.val, by have := g.isLt; have := n.isLt; omega⟩

/-- The gated value of token `i`, channel `n` of group `g`. -/
def gated (x0 : Vec Ideal S1x128x1024 .bf16) (x3 : Vec Ideal S1x8x128x128 .f32) (x4 : Vec Ideal S1x128x8 .f32) (vn : Vec Ideal S128x1024 .bf16)
    (g : Fin 8) (i n : Fin 128) : EReal :=
  x0 (ix3 0 i (chan g n)) * ((∑ j : Fin 128, x3 (ix4 0 g i j) * vn (ix2 j (chan g n))) + x4 (ix3 0 i g))

variable (x0 : Vec Ideal S1x128x1024 .bf16) (x1 : Vec Ideal S1x128x1024 .bf16) (x2 : Vec Ideal S1x1x1024 .f32)
  (x3 : Vec Ideal S1x8x128x128 .f32) (x4 : Vec Ideal S1x128x8 .f32) (vn : Vec Ideal S128x1024 .bf16)

/-! ## The eight groups' stores -/

theorem group0 (i n : Fin 128) : k0_pay4 (F := Ideal) x1 x2 (View.ld x3 r0_2) (View.ld x4 r0_3) (View.ld x0 r0_4) (ix3 0 i n) = gated x0 x3 x4 (k0_pay3 (F := Ideal) x1 x2) 0 i n := by
  unfold gated chan
  unfold k0_pay4
  generalize k0_pay3 (F := Ideal) x1 x2 = vn
  pointwise []

theorem group1 (i n : Fin 128) : k0_pay5 (F := Ideal) vn (View.ld x3 r0_5) (View.ld x4 r0_6) (View.ld x0 r0_7) (ix3 0 i n) = gated x0 x3 x4 vn 1 i n := by
  unfold gated chan
  pointwise [k0_pay5]

theorem group2 (i n : Fin 128) : k0_pay7 (F := Ideal) (k0_pay6 vn (View.ld x3 r0_8) (View.ld x4 r0_9) (View.ld x0 r0_10)) (ix3 0 i n) = gated x0 x3 x4 vn 2 i n := by
  unfold gated chan
  pointwise [k0_pay7, k0_pay6]

theorem group3 (i n : Fin 128) : k0_pay8 (F := Ideal) vn (View.ld x3 r0_11) (View.ld x4 r0_12) (View.ld x0 r0_13) (ix3 0 i n) = gated x0 x3 x4 vn 3 i n := by
  unfold gated chan
  pointwise [k0_pay8]

theorem group4 (i n : Fin 128) : k0_pay11 (F := Ideal) (k0_pay9 vn (View.ld x3 r0_14) (View.ld x4 r0_15)) (k0_pay10 (View.ld x0 r0_16)) (ix3 0 i n) = gated x0 x3 x4 vn 4 i n := by
  unfold gated chan
  pointwise [k0_pay11, k0_pay9, k0_pay10]

theorem group5 (i n : Fin 128) : k0_pay12 (F := Ideal) vn (View.ld x3 r0_17) (View.ld x4 r0_18) (View.ld x0 r0_19) (ix3 0 i n) = gated x0 x3 x4 vn 5 i n := by
  unfold gated chan
  pointwise [k0_pay12]

theorem group6 (i n : Fin 128) : k0_pay1 (F := Ideal) (k0_pay13 vn (View.ld x3 r0_20) (View.ld x4 r0_21)) (View.ld x0 r0_22) (ix3 0 i n) = gated x0 x3 x4 vn 6 i n := by
  unfold gated chan
  pointwise [k0_pay1, k0_pay13]

theorem group7 (i n : Fin 128) : k0_pay2 (F := Ideal) vn (View.ld x3 r0_23) (View.ld x4 r0_24) (View.ld x0 r0_25) (ix3 0 i n) = gated x0 x3 x4 vn 7 i n := by
  unfold gated chan
  pointwise [k0_pay2]

end Cert.GmlpValue

end
-- ==== Proof.GmlpValue.lean ====
/-
  The chunk gate: the kernel's array is the reference's.

  Grid point `t` works for sample `t / 16` and chunk `t % 16`; what it writes is read off in `GmlpBlock`. The reference
  normalises, cuts the tokens into chunks and the channels into groups, contracts with the groups' matrices and puts the
  pieces back. Token `128·c + i` and channel `128·g + n` of both are the same expression.
-/
module

public import proofs.«01_k».proof.Proof.GmlpBlock

@[expose] public section

set_option maxRecDepth 16384

noncomputable section

namespace Cert.GmlpValue

open Cert.GmlpIdeal Cert.GmlpIdeal.Gen Cert.GmlpIdeal.Value Idealize.ShloMosaic Idealize.ShloMosaic.TcCoe Idealize.SL.Sem

/-! ## One grid point -/

/-- The group of a channel, and its place in the group. -/
def groupOf (n : Fin 1024) : Fin 8 := ⟨n.val / 128, by have := n.isLt; omega⟩
def withinOf (n : Fin 1024) : Fin 128 := ⟨n.val % 128, Nat.mod_lt _ (by decide)⟩

theorem chan_parts (n : Fin 1024) : chan (groupOf n) (withinOf n) = n := by
  unfold chan groupOf withinOf
  apply Fin.ext
  dsimp only
  omega

/-- The whole block, by the channel's group. -/
def block (x0 : Vec Ideal S1x128x1024 .bf16) (x3 : Vec Ideal S1x8x128x128 .f32) (x4 : Vec Ideal S1x128x8 .f32) (vn : Vec Ideal S128x1024 .bf16)
    (y : S1x128x1024.Idx) : EReal :=
  gated x0 x3 x4 vn (groupOf (y 2)) (y 1) (withinOf (y 2))

/-- A group's store is the block at the group's channels. -/
theorem block_group (x0 : Vec Ideal S1x128x1024 .bf16) (x3 : Vec Ideal S1x8x128x128 .f32) (x4 : Vec Ideal S1x128x8 .f32) (vn : Vec Ideal S128x1024 .bf16)
    (g : Fin 8) (i n : Fin 128) (y : S1x128x1024.Idx) (h1 : (y 1).val = i.val) (h2 : (y 2).val = 128 * g.val + n.val) :
    gated x0 x3 x4 vn g i n = block x0 x3 x4 vn y := by
  have hn := n.isLt
  have eg : groupOf (y 2) = g := by unfold groupOf; apply Fin.ext; dsimp only; rw [h2]; omega
  have ei : y 1 = i := Fin.ext h1
  have en : withinOf (y 2) = n := by unfold withinOf; apply Fin.ext; dsimp only; rw [h2]; omega
  unfold block
  rw [eg, en]
  exact (congrArg (fun k => gated x0 x3 x4 vn g k n) ei).symm

theorem out_eq (x0 x1 : Vec Ideal S1x128x1024 .bf16) (x2 : Vec Ideal S1x1x1024 .f32) (x3 : Vec Ideal S1x8x128x128 .f32) (x4 : Vec Ideal S1x128x8 .f32)
    (y : S1x128x1024.Idx) :
    out0_5 (F := Ideal) x0 x1 x2 x3 x4 y = block x0 x3 x4 (k0_pay3 (F := Ideal) x1 x2) y := by
  unfold out0_5 k0_pay14
  rw [View.ld_unit_zero (S := S1x128x1024) hz3, View.ld_unit_zero (S := S1x1x1024) hz3]
  refine View.canon_apply_of_pieces (Val := Elt Ideal) (e := .bf16) (block x0 x3 x4 (k0_pay3 (F := Ideal) x1 x2)) _ (fun p hp j => ?_) y (cover0_5 _ _ _ _ _ _ _ _ y)
  simp only [List.mem_cons, List.not_mem_nil, or_false] at hp
  rcases hp with rfl | rfl | rfl | rfl | rfl | rfl | rfl | rfl
  · obtain ⟨z, i, n, rfl⟩ : ∃ (z : Fin 1) (i n : Fin 128), j = ix3 z i n := ⟨j 0, j 1, j 2, eq_ix3 j⟩
    obtain rfl : z = 0 := Subsingleton.elim _ _
    refine (group7 x0 x3 x4 _ i n).trans (block_group x0 x3 x4 _ 7 i n _ ?_ ?_)
    · show 0 + 1 * i.val = i.val; omega
    · show 896 + 1 * n.val = 128 * 7 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group6 x0 x3 x4 _ i n).trans (block_group x0 x3 x4 _ 6 i n _ ?_ ?_)
    · show 0 + 1 * i.val = i.val; omega
    · show 768 + 1 * n.val = 128 * 6 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group5 x0 x3 x4 _ i n).trans (block_group x0 x3 x4 _ 5 i n _ ?_ ?_)
    · show 0 + 1 * i.val = i.val; omega
    · show 640 + 1 * n.val = 128 * 5 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group4 x0 x3 x4 _ i n).trans (block_group x0 x3 x4 _ 4 i n _ ?_ ?_)
    · show 0 + 1 * i.val = i.val; omega
    · show 512 + 1 * n.val = 128 * 4 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group3 x0 x3 x4 _ i n).trans (block_group x0 x3 x4 _ 3 i n _ ?_ ?_)
    · show 0 + 1 * i.val = i.val; omega
    · show 384 + 1 * n.val = 128 * 3 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group2 x0 x3 x4 _ i n).trans (block_group x0 x3 x4 _ 2 i n _ ?_ ?_)
    · show 0 + 1 * i.val = i.val; omega
    · show 256 + 1 * n.val = 128 * 2 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group1 x0 x3 x4 _ i n).trans (block_group x0 x3 x4 _ 1 i n _ ?_ ?_)
    · show 0 + 1 * i.val = i.val; omega
    · show 128 + 1 * n.val = 128 * 1 + n.val; omega
  · obtain ⟨z, i, n, rfl⟩ : ∃ (z : Fin 1) (i n : Fin 128), j = ix3 z i n := ⟨j 0, j 1, j 2, eq_ix3 j⟩
    obtain rfl : z = 0 := Subsingleton.elim _ _
    refine (group0 x0 x1 x2 x3 x4 i n).trans (block_group x0 x3 x4 _ 0 i n _ ?_ ?_)
    · show 0 + 1 * i.val = i.val; omega
    · show 0 + 1 * n.val = 128 * 0 + n.val; omega

/-! ## The whole grid -/

variable (m : (ℓ : Loc nD τ sig) → Buf (Elt Ideal) ℓ)

theorem N_le (t : Fin cfg0.N) : t.val < 128 := lt_of_lt_of_eq t.isLt (show cfg0.N = 128 from N_0)

/-- The two halves in one array, the channel weights, the groups' matrices and their biases, as launched. -/
abbrev halves (c : Dev nD) : Vec Ideal S8x2048x2048 .bf16 := m ((c : Thread nD τ).loc main_arg0)
abbrev weights (c : Dev nD) : Vec Ideal S1x1024 .f32 := m ((c : Thread nD τ).loc main_arg1)
abbrev mats (c : Dev nD) : Vec Ideal S1x8x128x128 .f32 := m ((c : Thread nD τ).loc main_arg2)
abbrev biases (c : Dev nD) : Vec Ideal S1x8x128 .f32 := m ((c : Thread nD τ).loc main_arg3)

theorem V_bias (c : Dev nD) (i : Fin 128) (g : Fin 8) : (V m c main_v0 : Vec Ideal S1x128x8 .f32) (ix3 0 i g) = biases m c (ix3 0 g i) := by
  have e : V m c main_v0 = transpose S1x128x8 [0, 2, 1] (biases m c) transposes_S1x8x128_S1x128x8_0_2_1 := by
    show StableHlo.after hostOps0 _ (Proc.devRef .tc main_v0) = _
    after_results
  rw [e]
  pointwise []

theorem V_wrow (c : Dev nD) (n : Fin 1024) : (V m c main_v1 : Vec Ideal S1x1x1024 .f32) (ix3 0 0 n) = weights m c (ix2 0 n) := by
  have e : V m c main_v1 = shapeCast S1x1x1024 (weights m c) shapeCasts_S1x1024_S1x1x1024 := by
    show StableHlo.after hostOps0 _ (Proc.devRef .tc main_v1) = _
    after_results
    rfl
  rw [e]
  pointwise []

theorem idx0 : ∀ t : Fin cfg0.N, win0_0.index t 0 = t.val / 16 ∧ win0_0.index t 1 = t.val % 16 ∧ win0_0.index t 2 = 0 :=
  (by decide +kernel : ∀ t : Fin grid0.N, _)
theorem idx1 : ∀ t : Fin cfg0.N, win0_1.index t 0 = t.val / 16 ∧ win0_1.index t 1 = t.val % 16 ∧ win0_1.index t 2 = 1 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = 0 ∧ win0_3.index t 1 = 0 ∧ win0_3.index t 2 = 0 ∧ win0_3.index t 3 = 0 :=
  (by decide +kernel : ∀ t : Fin grid0.N, _)
theorem idx4 : ∀ t : Fin cfg0.N, win0_4.index t 0 = 0 ∧ win0_4.index t 1 = 0 ∧ win0_4.index t 2 = 0 :=
  (by decide +kernel : ∀ t : Fin grid0.N, _)
theorem idx5 : ∀ t : Fin cfg0.N, win0_5.index t 0 = t.val / 16 ∧ win0_5.index t 1 = t.val % 16 ∧ win0_5.index t 2 = 0 :=
  (by decide +kernel : ∀ t : Fin grid0.N, _)
theorem flushes : ∀ t : Fin cfg0.N, (cfg0.win 5).flush t = true :=
  (by decide +kernel : ∀ t : Fin grid0.N, win0_5.flush t = true)

/-- Token `i` of chunk `c`; a channel of the first half and of the second. -/
def tok (c : Fin 16) (i : Fin 128) : Fin 2048 := ⟨128 * c.val + i.val, by have := c.isLt; have := i.isLt; omega⟩
def lo (n : Fin 1024) : Fin 2048 := ⟨n.val, by have := n.isLt; omega⟩
def hi (n : Fin 1024) : Fin 2048 := ⟨1024 + n.val, by have := n.isLt; omega⟩

/-- The sample and the chunk that point `t` works for. -/
def sampleOf (t : ℕ) : Fin 8 := ⟨t / 16 % 8, Nat.mod_lt _ (by decide)⟩
def chunkOf (t : ℕ) : Fin 16 := ⟨t % 16, Nat.mod_lt _ (by decide)⟩

theorem blk_u (c : Dev nD) (t : Fin cfg0.N) (i : Fin 128) (n : Fin 1024) :
    (iblk m c 0 t : Vec Ideal S1x128x1024 .bf16) (ix3 0 i n) = halves m c (ix3 (sampleOf t.val) (tok (chunkOf t.val) i) (lo n)) := by
  have ht := N_le t
  obtain ⟨h0, h1, h2⟩ := idx0 t
  unfold iblk
  rw [View.read_apply]
  show V m c main_arg0 _ = _
  rw [V_main_arg0]
  congr 1
  funext a
  apply Fin.ext
  match a with
  | ⟨0, _⟩ => show win0_0.index t 0 * 1 + 1 * 0 = t.val / 16 % 8; rw [h0]; omega
  | ⟨1, _⟩ => show win0_0.index t 1 * 128 + 1 * i.val = 128 * (t.val % 16) + i.val; rw [h1]; omega
  | ⟨2, _⟩ => show win0_0.index t 2 * 1024 + 1 * n.val = n.val; rw [h2]; omega

theorem blk_v (c : Dev nD) (t : Fin cfg0.N) (i : Fin 128) (n : Fin 1024) :
    (iblk m c 1 t : Vec Ideal S1x128x1024 .bf16) (ix3 0 i n) = halves m c (ix3 (sampleOf t.val) (tok (chunkOf t.val) i) (hi n)) := by
  have ht := N_le t
  obtain ⟨h0, h1, h2⟩ := idx1 t
  unfold iblk
  rw [View.read_apply]
  show V m c main_arg0 _ = _
  rw [V_main_arg0]
  congr 1
  funext a
  apply Fin.ext
  match a with
  | ⟨0, _⟩ => show win0_1.index t 0 * 1 + 1 * 0 = t.val / 16 % 8; rw [h0]; omega
  | ⟨1, _⟩ => show win0_1.index t 1 * 128 + 1 * i.val = 128 * (t.val % 16) + i.val; rw [h1]; omega
  | ⟨2, _⟩ => show win0_1.index t 2 * 1024 + 1 * n.val = 1024 + n.val; rw [h2]; omega

theorem blk_w (c : Dev nD) (t : Fin cfg0.N) (n : Fin 1024) :
    (iblk m c 2 t : Vec Ideal S1x1x1024 .f32) (ix3 0 0 n) = weights m c (ix2 0 n) := by
  obtain ⟨h0, h1, h2⟩ := idx2 t
  unfold iblk
  rw [View.read_apply, ← V_wrow]
  show V m c main_v1 _ = _
  congr 1
  funext a
  apply Fin.ext
  match a with
  | ⟨0, _⟩ => show win0_2.index t 0 * 1 + 1 * 0 = 0; rw [h0]
  | ⟨1, _⟩ => show win0_2.index t 1 * 1 + 1 * 0 = 0; rw [h1]
  | ⟨2, _⟩ => show win0_2.index t 2 * 1024 + 1 * n.val = n.val; rw [h2]; omega

theorem blk_m (c : Dev nD) (t : Fin cfg0.N) (g : Fin 8) (i j : Fin 128) :
    (iblk m c 3 t : Vec Ideal S1x8x128x128 .f32) (ix4 0 g i j) = mats m c (ix4 0 g i j) := by
  obtain ⟨h0, h1, h2, h3⟩ := idx3 t
  unfold iblk
  rw [View.read_apply]
  show V m c main_arg2 _ = _
  rw [V_main_arg2]
  congr 1
  funext a
  apply Fin.ext
  match a with
  | ⟨0, _⟩ => show win0_3.index t 0 * 1 + 1 * 0 = 0; rw [h0]
  | ⟨1, _⟩ => show win0_3.index t 1 * 8 + 1 * g.val = g.val; rw [h1]; omega
  | ⟨2, _⟩ => show win0_3.index t 2 * 128 + 1 * i.val = i.val; rw [h2]; omega
  | ⟨3, _⟩ => show win0_3.index t 3 * 128 + 1 * j.val = j.val; rw [h3]; omega

theorem blk_b (c : Dev nD) (t : Fin cfg0.N) (i : Fin 128) (g : Fin 8) :
    (iblk m c 4 t : Vec Ideal S1x128x8 .f32) (ix3 0 i g) = biases m c (ix3 0 g i) := by
  obtain ⟨h0, h1, h2⟩ := idx4 t
  unfold iblk
  rw [View.read_apply, ← V_bias]
  show V m c main_v0 _ = _
  congr 1
  funext a
  apply Fin.ext
  match a with
  | ⟨0, _⟩ => show win0_4.index t 0 * 1 + 1 * 0 = 0; rw [h0]
  | ⟨1, _⟩ => show win0_4.index t 1 * 128 + 1 * i.val = i.val; rw [h1]; omega
  | ⟨2, _⟩ => show win0_4.index t 2 * 8 + 1 * g.val = g.val; rw [h2]; omega

/-- The normalised second half, from the arrays. -/
def normed (a : Vec Ideal S8x2048x2048 .bf16) (w : Vec Ideal S1x1024 .f32) (b : Fin 8) (t : Fin 2048) (n : Fin 1024) : EReal :=
  a (ix3 b t (hi n)) * Ideal.rsqrt (Ideal.div (∑ k : Fin 1024, a (ix3 b t (hi k)) * a (ix3 b t (hi k))) len + eps) * w (ix2 0 n)

/-- The result array after the run. -/
abbrev arr (c : Dev nD) : Vec Ideal S8x2048x1024 .bf16 := (dats m 0 c).arrAt 5 cfg0.N

/-- Element by element: sample `b`, token `i` of chunk `k`, channel `n` of group `g`. -/
theorem arr_apply (c : Dev nD) (b : Fin 8) (k : Fin 16) (i : Fin 128) (g : Fin 8) (n : Fin 128) :
    arr m c (ix3 b (tok k i) (chan g n)) = (halves m c (ix3 b (tok k i) (lo (chan g n)))
      * ((∑ j : Fin 128, mats m c (ix4 0 g i j) * normed (halves m c) (weights m c) b (tok k j) (chan g n)) + biases m c (ix3 0 g i)) : EReal) := by
  have hb8 := b.isLt
  have hk := k.isLt
  have hN : cfg0.N = 128 := N_0
  have hlt : 16 * b.val + k.val < cfg0.N := by omega
  have hb := congrFun (blocks5 m c ⟨16 * b.val + k.val, hlt⟩ (flushes _)) (ix3 (0 : Fin 1) i (chan g n))
  rw [flushed5, View.read_apply] at hb
  have he : ((cfg0.win 5).blk ⟨16 * b.val + k.val, hlt⟩).view.emb (ix3 (0 : Fin 1) i (chan g n)) = ix3 b (tok k i) (chan g n) := by
    obtain ⟨h0, h1, h2⟩ := idx5 ⟨16 * b.val + k.val, hlt⟩
    funext a
    apply Fin.ext
    match a with
    | ⟨0, _⟩ =>
      show win0_5.index ⟨16 * b.val + k.val, hlt⟩ 0 * 1 + 1 * 0 = b.val
      rw [h0]; dsimp only; omega
    | ⟨1, _⟩ =>
      show win0_5.index ⟨16 * b.val + k.val, hlt⟩ 1 * 128 + 1 * i.val = 128 * k.val + i.val
      rw [h1]; dsimp only; omega
    | ⟨2, _⟩ =>
      show win0_5.index ⟨16 * b.val + k.val, hlt⟩ 2 * 1024 + 1 * (chan g n).val = (chan g n).val
      rw [h2]; omega
  have hs : sampleOf (16 * b.val + k.val) = b := by
    unfold sampleOf; apply Fin.ext; dsimp only; omega
  have hc : chunkOf (16 * b.val + k.val) = k := by
    unfold chunkOf; apply Fin.ext; dsimp only; omega
  rw [he] at hb
  refine Eq.trans hb ?_
  show out0_5 (F := Ideal) (iblk m c 0 ⟨16 * b.val + k.val, hlt⟩) (iblk m c 1 ⟨16 * b.val + k.val, hlt⟩) (iblk m c 2 ⟨16 * b.val + k.val, hlt⟩)
    (iblk m c 3 ⟨16 * b.val + k.val, hlt⟩) (iblk m c 4 ⟨16 * b.val + k.val, hlt⟩) (ix3 0 i (chan g n)) = _
  rw [out_eq, ← block_group _ _ _ _ g i n (ix3 0 i (chan g n)) rfl rfl]
  unfold gated normed
  simp only [pay3_apply, blk_u m, blk_v m, blk_w m, blk_m m, blk_b m]
  rw [hs, hc]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  run_blocks m ρ

/-! ## The reference -/

section Reference
open Cert.GmlpRefIdeal.Read

variable (a : Vec Ideal Cert.GmlpRefIdeal.S8x2048x2048 .bf16) (w : Vec Ideal Cert.GmlpRefIdeal.S1x1024 .f32)
  (ws : Vec Ideal Cert.GmlpRefIdeal.S1x8x128x128 .f32) (bs : Vec Ideal Cert.GmlpRefIdeal.S1x8x128 .f32)

theorem norm_apply (b : Fin 8) (t : Fin 2048) (n : Fin 1024) :
    (val_main_v17 (F := Ideal) a w : Vec Ideal Cert.GmlpRefIdeal.S8x2048x1024 .f32) (ix3 b t n) = normed a w b t n := by
  unfold normed hi
  unfold val_main_v17 val_main_v16 val_main_v15 val_main_v14 val_main_v13 val_main_v12 val_main_v11 val_main_v10 val_main_v9 val_main_v8 val_main_v7
    val_main_v6 val_main_v5 val_main_v4 val_main_v3 val_main_v2 val_main_cst val_main_cst_0 val_main_cst_1
  pointwise []

theorem mix_apply (b : Fin 8) (k : Fin 16) (g : Fin 8) (i n : Fin 128) :
    (val_main_v20 (F := Ideal) a w ws : Vec Ideal Cert.GmlpRefIdeal.S8x8x16x128x128 .f32) (ix5 g b k n i)
      = (∑ j : Fin 128, ws (ix4 0 g i j) * normed a w b (tok k j) (chan g n) : EReal) := by
  simp only [← norm_apply]
  rw [val_main_v20_apply]
  unfold val_main_v19 val_main_v18 tok chan
  generalize val_main_v17 (F := Ideal) a w = vn
  pointwise []
  refine Finset.sum_congr rfl fun j _ => ?_
  rw [mul_comm]
  congr 2
  funext q
  apply Fin.ext
  match q with
  | ⟨0, _⟩ => rfl
  | ⟨1, _⟩ => show k.val * 128 + j.val = 128 * k.val + j.val; omega
  | ⟨2, _⟩ => show g.val * 128 + n.val = 128 * g.val + n.val; omega

/-- The reference read at an index. -/
theorem ref_apply (b : Fin 8) (k : Fin 16) (i : Fin 128) (g : Fin 8) (n : Fin 128) :
    (val_main_v30 (F := Ideal) a w ws bs : Vec Ideal Cert.GmlpRefIdeal.S8x2048x1024 .bf16) (ix3 b (tok k i) (chan g n))
      = (a (ix3 b (tok k i) (lo (chan g n)))
        * ((∑ j : Fin 128, ws (ix4 0 g i j) * normed a w b (tok k j) (chan g n)) + bs (ix3 0 g i)) : EReal) := by
  rw [← mix_apply]
  unfold val_main_v30 val_main_v29 val_main_v28 val_main_v27 val_main_v26 val_main_v25 val_main_v24 val_main_v23 val_main_v22 val_main_v21 val_main_v1 val_main_v0
  generalize val_main_v20 (F := Ideal) a w ws = q
  unfold tok chan lo
  pointwise []

end Reference

/-- A token's chunk, and its place in the chunk. -/
def chunkAt (t : Fin 2048) : Fin 16 := ⟨t.val / 128, by have := t.isLt; omega⟩
def placeAt (t : Fin 2048) : Fin 128 := ⟨t.val % 128, Nat.mod_lt _ (by decide)⟩

theorem tok_parts (t : Fin 2048) : tok (chunkAt t) (placeAt t) = t := by
  unfold tok chunkAt placeAt
  apply Fin.ext
  dsimp only
  omega

/-- The kernel's array is the reference's value of the same arguments. -/
theorem result_eq (c : Dev Cert.GmlpIdeal.nD) :
    arr m c = Cert.GmlpRefIdeal.Read.val_main_v30 (F := Ideal) (halves m c) (weights m c) (mats m c) (biases m c) := by
  funext i
  obtain ⟨b, t, n, rfl⟩ : ∃ (b : Fin 8) (t : Fin 2048) (n : Fin 1024), i = ix3 b t n := ⟨i 0, i 1, i 2, eq_ix3 i⟩
  rw [← tok_parts t, ← chan_parts n, arr_apply m c b _ _ _ _, ref_apply]

end Cert.GmlpValue

end
-- ==== Proof.ConvValue.lean ====
/-
  The centred convolution along the tokens, with bias and activation: the kernel's array is the reference's.

  Grid point `t` works for sample `t / 24`, tokens `512·((t / 6) % 4) …` and channels `1024·(t % 6) …`. It sets its 512 tokens
  between the sixteen tokens before and the sixteen after (zeros at the sequence's two ends), and reads the neighbours of a
  token by rotating these 544 rows. The reference pads the sequence by two zeros on either side and reads the neighbours by
  slices. Both read `seen`: the token if it is inside the sequence, zero otherwise. The sums differ in where the bias stands.
-/
module

public import proofs.«01_k».proof.Proof.FfnJoin
public import proofs.«01_k».proof.Proof.Gen.ConvIdeal.Value
public import proofs.«01_k».proof.Proof.Gen.ConvRefIdeal.Read
public import Idealize.ShloMosaic.Lib.Pointwise
public import Idealize.ShloMosaic.Lib.Tactic

@[expose] public section

set_option maxRecDepth 16384

noncomputable section

namespace Cert.ConvValue

open Cert.ConvIdeal Cert.ConvIdeal.Gen Cert.ConvIdeal.Value Idealize.ShloMosaic Idealize.ShloMosaic.TcCoe Idealize.SL.Sem
open Cert.FfnValue (silu silu_eq)

theorem hz3 : (![0, 0, 0] : Fin 3 → Nat) = fun _ => 0 := funext fun a => by fin_cases a <;> rfl

/-! ## What both read -/

/-- Place `s` of the padded sequence: two zeros, the 2048 tokens, two zeros. -/
def seen (z : Vec Ideal S8x2048x6144 .bf16) (b : Fin 8) (n : Fin 6144) (s : ℕ) : EReal :=
  if h : 2 ≤ s ∧ s - 2 < 2048 then z (ix3 b ⟨s - 2, h.2⟩ n) else 0

theorem seen_in (z : Vec Ideal S8x2048x6144 .bf16) (b : Fin 8) (n : Fin 6144) (s : ℕ) (t : Fin 2048) (h : s = t.val + 2) :
    seen z b n s = z (ix3 b t n) := by
  have ht := t.isLt
  unfold seen
  rw [dif_pos ⟨by omega, by omega⟩]
  congr 2
  exact Fin.ext (by dsimp only; omega)

theorem seen_out (z : Vec Ideal S8x2048x6144 .bf16) (b : Fin 8) (n : Fin 6144) (s : ℕ) (h : s < 2 ∨ 2050 ≤ s) : seen z b n s = 0 := by
  unfold seen
  rw [dif_neg]
  omega

/-! ## One grid point -/

/-- The 544 rows a point sets up. -/
theorem pay2_apply (i : grid0.Coords) (p q : Vec Ideal S1x16x1024 .bf16) (x : Vec Ideal S1x512x1024 .bf16) (r : Fin 544) (n : Fin 1024) :
    k0_pay2 (F := Ideal) i p q x (ix2 r n)
      = (if h : r.val < 16 then Scalar.select (Scalar.cmpi CmpIPredicate.sgt (BitVec.ofNat 32 (i 1).val) 0#32) (p (ix3 0 ⟨r.val, h⟩ n)) 0
        else if h : r.val - 16 < 512 then x (ix3 0 ⟨r.val - 16, h⟩ n)
        else Scalar.select (Scalar.cmpi CmpIPredicate.slt (BitVec.ofNat 32 (i 1).val) 3#32) (q (ix3 0 ⟨r.val - 16 - 512, by have := r.isLt; omega⟩ n)) 0 : EReal) := by
  pointwise [k0_pay2]

/-- The sum over the five neighbours, and what the point writes. -/
theorem pay1_apply (i : grid0.Coords) (p q : Vec Ideal S1x16x1024 .bf16) (x : Vec Ideal S1x512x1024 .bf16) (w : Vec Ideal S1x5x1024 .f32)
    (b : Vec Ideal S1x1x1024 .f32) (r : Fin 512) (n : Fin 1024) (f : ℕ → EReal)
    (hf : ∀ k : ℕ, (hk : k < 5) → k0_pay2 (F := Ideal) i p q x (ix2 (⟨14 + r.val + k, by have := r.isLt; omega⟩ : Fin 544) n) = f k) :
    k0_pay1 (F := Ideal) (k0_pay3 w) (k0_pay4 i p q x w) (k0_pay5 i p q x) b (ix3 0 r n)
      = silu (f 0 * w (ix3 0 0 n) + f 1 * w (ix3 0 1 n) + f 2 * w (ix3 0 2 n) + f 3 * w (ix3 0 3 n) + f 4 * w (ix3 0 4 n) + b (ix3 0 0 n)) := by
  have hr := r.isLt
  rw [← hf 0 (by decide), ← hf 1 (by decide), ← hf 2 (by decide), ← hf 3 (by decide), ← hf 4 (by decide)]
  unfold silu k0_pay1 k0_pay4 k0_pay5
  generalize k0_pay2 (F := Ideal) i p q x = s
  have e0 : (⟨(16 + r.val + 544 - 2) % 544, Nat.mod_lt _ (by decide)⟩ : Fin 544) = ⟨14 + r.val + 0, by omega⟩ := Fin.ext (by dsimp only; omega)
  have e1 : (⟨(16 + r.val + 544 - 1) % 544, Nat.mod_lt _ (by decide)⟩ : Fin 544) = ⟨14 + r.val + 1, by omega⟩ := Fin.ext (by dsimp only; omega)
  have e2 : (⟨16 + r.val, by omega⟩ : Fin 544) = ⟨14 + r.val + 2, by omega⟩ := Fin.ext (by dsimp only; omega)
  have e3 : (⟨(16 + r.val + 544 - 543) % 544, Nat.mod_lt _ (by decide)⟩ : Fin 544) = ⟨14 + r.val + 3, by omega⟩ := Fin.ext (by dsimp only; omega)
  have e4 : (⟨(16 + r.val + 544 - 542) % 544, Nat.mod_lt _ (by decide)⟩ : Fin 544) = ⟨14 + r.val + 4, by omega⟩ := Fin.ext (by dsimp only; omega)
  rw [← e0, ← e1, ← e2, ← e3, ← e4]
  pointwise [k0_pay3]

theorem out_eq (i : grid0.Coords) (p q : Vec Ideal S1x16x1024 .bf16) (x : Vec Ideal S1x512x1024 .bf16) (w : Vec Ideal S1x5x1024 .f32) (b : Vec Ideal S1x1x1024 .f32) :
    out0_5 (F := Ideal) i p x q w b = k0_pay1 (k0_pay3 w) (k0_pay4 i p q x w) (k0_pay5 i p q x) b := by
  unfold out0_5
  rw [View.canon_unit_zero hz3]
  simp only [View.ld_unit_zero (S := S1x16x1024) hz3, View.ld_unit_zero (S := S1x512x1024) hz3, View.ld_unit_zero (S := S1x5x1024) hz3,
    View.ld_unit_zero (S := S1x1x1024) hz3]

/-! ## The blocks a point sees -/

variable (m : (ℓ : Loc nD τ sig) → Buf (Elt Ideal) ℓ)

theorem N_le (t : Fin cfg0.N) : t.val < 192 := lt_of_lt_of_eq t.isLt (show cfg0.N = 192 from N_0)

/-- The sequence, the taps and the biases, as launched. -/
abbrev seqs (c : Dev nD) : Vec Ideal S8x2048x6144 .bf16 := m ((c : Thread nD τ).loc main_arg0)
abbrev taps (c : Dev nD) : Vec Ideal S1x5x6144 .f32 := m ((c : Thread nD τ).loc main_arg1)
abbrev biases (c : Dev nD) : Vec Ideal S1x6144 .f32 := m ((c : Thread nD τ).loc main_arg2)

theorem V_bias (c : Dev nD) (n : Fin 6144) : (V m c main_v0 : Vec Ideal S1x1x6144 .f32) (ix3 0 0 n) = biases m c (ix2 0 n) := by
  have e : V m c main_v0 = shapeCast S1x1x6144 (biases m c) shapeCasts_S1x6144_S1x1x6144 := by
    show StableHlo.after hostOps0 _ (Proc.devRef .tc main_v0) = _
    after_results
    rfl
  rw [e]
  pointwise []

theorem idx0 : ∀ t : Fin cfg0.N, win0_0.index t 0 = t.val / 24 ∧ win0_0.index t 1 = t.val / 6 % 4 * 32 - 1 ∧ win0_0.index t 2 = t.val % 6 :=
  (by decide +kernel : ∀ t : Fin grid0.N, _)
theorem idx1 : ∀ t : Fin cfg0.N, win0_1.index t 0 = t.val / 24 ∧ win0_1.index t 1 = t.val / 6 % 4 ∧ win0_1.index t 2 = t.val % 6 :=
  (by decide +kernel : ∀ t : Fin grid0.N, _)
theorem idx2 : ∀ t : Fin cfg0.N, win0_2.index t 0 = t.val / 24 ∧ win0_2.index t 1 = min ((t.val / 6 % 4 + 1) * 32) 127 ∧ win0_2.index t 2 = t.val % 6 :=
  (by decide +kernel : ∀ t : Fin grid0.N, _)
theorem idx3 : ∀ t : Fin cfg0.N, win0_3.index t 0 = 0 ∧ win0_3.index t 1 = 0 ∧ win0_3.index t 2 = t.val % 6 :=
  (by decide +kernel : ∀ t : Fin grid0.N, _)
theorem idx4 : ∀ t : Fin cfg0.N, win0_4.index t 0 = 0 ∧ win0_4.index t 1 = 0 ∧ win0_4.index t 2 = t.val % 6 :=
  (by decide +kernel : ∀ t : Fin grid0.N, _)
theorem idx5 : ∀ t : Fin cfg0.N, win0_5.index t 0 = t.val / 24 ∧ win0_5.index t 1 = t.val / 6 % 4 ∧ win0_5.index t 2 = t.val % 6 :=
  (by decide +kernel : ∀ t : Fin grid0.N, _)
theorem flushes : ∀ t : Fin cfg0.N, (cfg0.win 5).flush t = true :=
  (by decide +kernel : ∀ t : Fin grid0.N, win0_5.flush t = true)

/-- The two ends' tests: is there a block before, is there one after? -/
theorem before : ∀ t : Fin cfg0.N, Scalar.cmpi CmpIPredicate.sgt (BitVec.ofNat 32 (grid0.coords t 1).val) 0#32 = if t.val / 6 % 4 = 0 then 0#1 else 1#1 :=
  (by decide +kernel : ∀ t : Fin grid0.N, _)
theorem after : ∀ t : Fin cfg0.N, Scalar.cmpi CmpIPredicate.slt (BitVec.ofNat 32 (grid0.coords t 1).val) 3#32 = if t.val / 6 % 4 = 3 then 0#1 else 1#1 :=
  (by decide +kernel : ∀ t : Fin grid0.N, _)

/-- The sample that point `t` works for, the channel and the token that stand at a place of its block. -/
def sampleOf (t : ℕ) : Fin 8 := ⟨t / 24 % 8, Nat.mod_lt _ (by decide)⟩
def chanOf (t : ℕ) (n : Fin 1024) : Fin 6144 := ⟨t % 6 * 1024 + n.val, by have := n.isLt; omega⟩
def tokenOf (t : ℕ) (r : Fin 512) : Fin 2048 := ⟨t / 6 % 4 * 512 + r.val, by have := r.isLt; omega⟩

theorem blk_prev (c : Dev nD) (t : Fin cfg0.N) (h : 0 < t.val / 6 % 4) (r : Fin 16) (n : Fin 1024) :
    (iblk m c 0 t : Vec Ideal S1x16x1024 .bf16) (ix3 0 r n)
      = seen (seqs m c) (sampleOf t.val) (chanOf t.val n) (t.val / 6 % 4 * 512 + r.val - 14) := by
  have ht := N_le t
  have hr := r.isLt
  obtain ⟨h0, h1, h2⟩ := idx0 t
  rw [seen_in _ _ _ _ (⟨t.val / 6 % 4 * 512 + r.val - 16, by omega⟩ : Fin 2048) (by dsimp only; omega)]
  unfold iblk
  rw [View.read_apply]
  show V m c main_arg0 _ = _
  rw [V_main_arg0]
  congr 1
  funext a
  apply Fin.ext
  match a with
  | ⟨0, _⟩ => show win0_0.index t 0 * 1 + 1 * 0 = t.val / 24 % 8; rw [h0]; omega
  | ⟨1, _⟩ => show win0_0.index t 1 * 16 + 1 * r.val = t.val / 6 % 4 * 512 + r.val - 16; rw [h1]; omega
  | ⟨2, _⟩ => show win0_0.index t 2 * 1024 + 1 * n.val = t.val % 6 * 1024 + n.val; rw [h2]; omega

theorem blk_main (c : Dev nD) (t : Fin cfg0.N) (r : Fin 512) (n : Fin 1024) :
    (iblk m c 1 t : Vec Ideal S1x512x1024 .bf16) (ix3 0 r n)
      = seen (seqs m c) (sampleOf t.val) (chanOf t.val n) (t.val / 6 % 4 * 512 + r.val + 2) := by
  have ht := N_le t
  have hr := r.isLt
  obtain ⟨h0, h1, h2⟩ := idx1 t
  rw [seen_in _ _ _ (t.val / 6 % 4 * 512 + r.val + 2) (tokenOf t.val r) rfl]
  unfold iblk
  rw [View.read_apply]
  show V m c main_arg0 _ = _
  rw [V_main_arg0]
  congr 1
  funext a
  apply Fin.ext
  match a with
  | ⟨0, _⟩ => show win0_1.index t 0 * 1 + 1 * 0 = t.val / 24 % 8; rw [h0]; omega
  | ⟨1, _⟩ => show win0_1.index t 1 * 512 + 1 * r.val = t.val / 6 % 4 * 512 + r.val; rw [h1]; omega
  | ⟨2, _⟩ => show win0_1.index t 2 * 1024 + 1 * n.val = t.val % 6 * 1024 + n.val; rw [h2]; omega

theorem blk_next (c : Dev nD) (t : Fin cfg0.N) (h : t.val / 6 % 4 < 3) (r : Fin 16) (n : Fin 1024) :
    (iblk m c 2 t : Vec Ideal S1x16x1024 .bf16) (ix3 0 r n)
      = seen (seqs m c) (sampleOf t.val) (chanOf t.val n) (t.val / 6 % 4 * 512 + 512 + r.val + 2) := by
  have ht := N_le t
  have hr := r.isLt
  obtain ⟨h0, h1, h2⟩ := idx2 t
  rw [seen_in _ _ _ _ (⟨t.val / 6 % 4 * 512 + 512 + r.val, by omega⟩ : Fin 2048) rfl]
  unfold iblk
  rw [View.read_apply]
  show V m c main_arg0 _ = _
  rw [V_main_arg0]
  congr 1
  funext a
  apply Fin.ext
  match a with
  | ⟨0, _⟩ => show win0_2.index t 0 * 1 + 1 * 0 = t.val / 24 % 8; rw [h0]; omega
  | ⟨1, _⟩ => show win0_2.index t 1 * 16 + 1 * r.val = t.val / 6 % 4 * 512 + 512 + r.val; rw [h1]; omega
  | ⟨2, _⟩ => show win0_2.index t 2 * 1024 + 1 * n.val = t.val % 6 * 1024 + n.val; rw [h2]; omega

theorem blk_w (c : Dev nD) (t : Fin cfg0.N) (k : Fin 5) (n : Fin 1024) :
    (iblk m c 3 t : Vec Ideal S1x5x1024 .f32) (ix3 0 k n) = taps m c (ix3 0 k (chanOf t.val n)) := by
  obtain ⟨h0, h1, h2⟩ := idx3 t
  unfold iblk
  rw [View.read_apply]
  show V m c main_arg1 _ = _
  rw [V_main_arg1]
  congr 1
  funext a
  apply Fin.ext
  match a with
  | ⟨0, _⟩ => show win0_3.index t 0 * 1 + 1 * 0 = 0; rw [h0]
  | ⟨1, _⟩ => show win0_3.index t 1 * 5 + 1 * k.val = k.val; rw [h1]; omega
  | ⟨2, _⟩ => show win0_3.index t 2 * 1024 + 1 * n.val = t.val % 6 * 1024 + n.val; rw [h2]; omega

theorem blk_b (c : Dev nD) (t : Fin cfg0.N) (n : Fin 1024) :
    (iblk m c 4 t : Vec Ideal S1x1x1024 .f32) (ix3 0 0 n) = biases m c (ix2 0 (chanOf t.val n)) := by
  obtain ⟨h0, h1, h2⟩ := idx4 t
  unfold iblk
  rw [View.read_apply, ← V_bias]
  show V m c main_v0 _ = _
  congr 1
  funext a
  apply Fin.ext
  match a with
  | ⟨0, _⟩ => show win0_4.index t 0 * 1 + 1 * 0 = 0; rw [h0]
  | ⟨1, _⟩ => show win0_4.index t 1 * 1 + 1 * 0 = 0; rw [h1]
  | ⟨2, _⟩ => show win0_4.index t 2 * 1024 + 1 * n.val = t.val % 6 * 1024 + n.val; rw [h2]; omega

/-- The row that stands at place `14 + r + k` of the 544 rows is place `token + k` of the padded sequence. -/
theorem row_eq (c : Dev nD) (t : Fin cfg0.N) (r : Fin 512) (n : Fin 1024) (k : ℕ) (hk : k < 5) :
    k0_pay2 (F := Ideal) (grid0.coords t) (iblk m c 0 t) (iblk m c 2 t) (iblk m c 1 t)
        (ix2 (⟨14 + r.val + k, by have := r.isLt; omega⟩ : Fin 544) n)
      = seen (seqs m c) (sampleOf t.val) (chanOf t.val n) ((tokenOf t.val r).val + k) := by
  have hr := r.isLt
  show _ = seen (seqs m c) (sampleOf t.val) (chanOf t.val n) (t.val / 6 % 4 * 512 + r.val + k)
  rw [pay2_apply, before, after]
  dsimp only
  by_cases ha : 14 + r.val + k < 16
  · rw [dif_pos ha]
    by_cases hb : t.val / 6 % 4 = 0
    · rw [if_pos hb, seen_out _ _ _ _ (by omega)]
      rfl
    · rw [if_neg hb]
      refine Eq.trans (if_pos rfl) ?_
      rw [blk_prev m c t (by omega)]
      congr 1
      dsimp only
      omega
  · rw [dif_neg ha]
    by_cases hm : 14 + r.val + k - 16 < 512
    · rw [dif_pos hm, blk_main]
      congr 1
      dsimp only
      omega
    · rw [dif_neg hm]
      by_cases hb : t.val / 6 % 4 = 3
      · rw [if_pos hb, seen_out _ _ _ _ (by omega)]
        rfl
      · rw [if_neg hb]
        refine Eq.trans (if_pos rfl) ?_
        rw [blk_next m c t (by omega)]
        congr 1
        dsimp only
        omega

/-! ## The whole grid -/

/-- The result array after the run. -/
abbrev arr (c : Dev nD) : Vec Ideal S8x2048x6144 .bf16 := (dats m 0 c).arrAt 5 cfg0.N

/-- Element by element: sample `b`, token `r`, channel `n`. -/
theorem arr_apply (c : Dev nD) (b : Fin 8) (r : Fin 2048) (n : Fin 6144) :
    arr m c (ix3 b r n) = silu (seen (seqs m c) b n (r.val + 0) * taps m c (ix3 0 0 n) + seen (seqs m c) b n (r.val + 1) * taps m c (ix3 0 1 n)
      + seen (seqs m c) b n (r.val + 2) * taps m c (ix3 0 2 n) + seen (seqs m c) b n (r.val + 3) * taps m c (ix3 0 3 n)
      + seen (seqs m c) b n (r.val + 4) * taps m c (ix3 0 4 n) + biases m c (ix2 0 n)) := by
  have hb8 := b.isLt
  have hr := r.isLt
  have hn := n.isLt
  have hN : cfg0.N = 192 := N_0
  have hlt : 24 * b.val + 6 * (r.val / 512) + n.val / 1024 < cfg0.N := by omega
  obtain ⟨t, ht⟩ : ∃ t : Fin cfg0.N, t.val = 24 * b.val + 6 * (r.val / 512) + n.val / 1024 := ⟨⟨_, hlt⟩, rfl⟩
  have hb := congrFun (blocks5 m c t (flushes _)) (ix3 (0 : Fin 1) (⟨r.val % 512, Nat.mod_lt _ (by decide)⟩ : Fin 512) (⟨n.val % 1024, Nat.mod_lt _ (by decide)⟩ : Fin 1024))
  rw [flushed5, View.read_apply] at hb
  have he : ((cfg0.win 5).blk t).view.emb (ix3 (0 : Fin 1) (⟨r.val % 512, Nat.mod_lt _ (by decide)⟩ : Fin 512) (⟨n.val % 1024, Nat.mod_lt _ (by decide)⟩ : Fin 1024)) = ix3 b r n := by
    obtain ⟨h0, h1, h2⟩ := idx5 t
    funext a
    apply Fin.ext
    match a with
    | ⟨0, _⟩ =>
      show win0_5.index t 0 * 1 + 1 * 0 = b.val
      rw [h0, ht]; omega
    | ⟨1, _⟩ =>
      show win0_5.index t 1 * 512 + 1 * (r.val % 512) = r.val
      rw [h1, ht]; omega
    | ⟨2, _⟩ =>
      show win0_5.index t 2 * 1024 + 1 * (n.val % 1024) = n.val
      rw [h2, ht]; omega
  have hs : sampleOf t.val = b := by
    unfold sampleOf; apply Fin.ext; dsimp only; rw [ht]; omega
  have hc : chanOf t.val (⟨n.val % 1024, Nat.mod_lt _ (by decide)⟩ : Fin 1024) = n := by
    unfold chanOf; apply Fin.ext; dsimp only; rw [ht]; omega
  have hrow : tokenOf t.val (⟨r.val % 512, Nat.mod_lt _ (by decide)⟩ : Fin 512) = r := by
    unfold tokenOf; apply Fin.ext; dsimp only; rw [ht]; omega
  rw [he] at hb
  refine Eq.trans hb ?_
  show out0_5 (F := Ideal) (grid0.coords t) (iblk m c 0 t) (iblk m c 1 t) (iblk m c 2 t) (iblk m c 3 t) (iblk m c 4 t) (ix3 0 _ _) = _
  rw [out_eq, pay1_apply _ _ _ _ _ _ _ _ _ (row_eq m c t _ _), blk_b]
  simp only [blk_w m]
  rw [hs, hc, hrow]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  run_blocks m ρ

/-! ## The reference -/

section Reference
open Cert.ConvRefIdeal.Read

variable (z : Vec Ideal Cert.ConvRefIdeal.S8x2048x6144 .bf16) (w : Vec Ideal Cert.ConvRefIdeal.S1x5x6144 .f32) (d : Vec Ideal Cert.ConvRefIdeal.S1x6144 .f32)

theorem pad_apply (b : Fin 8) (s : Fin 2052) (n : Fin 6144) :
    (val_main_v1 (F := Ideal) z : Vec Ideal Cert.ConvRefIdeal.S8x2052x6144 .f32) (ix3 b s n) = seen z b n s.val := by
  have hz : (FloatOps.sitofp (F := Ideal) FTy.f32 (0#32 : BitVec 32) : EReal) = 0 := by
    show (((0#32 : BitVec 32).toInt : ℝ) : EReal) = 0
    simp
  unfold seen
  unfold val_main_v1 val_main_v0 val_main_call0_v0 val_main_c
  pointwise []
  rw [hz]

/-- The reference read at an index. -/
theorem ref_apply (b : Fin 8) (t : Fin 2048) (n : Fin 6144) :
    (val_main_v41 (F := Ideal) z w d : Vec Ideal Cert.ConvRefIdeal.S8x2048x6144 .bf16) (ix3 b t n)
      = silu (d (ix2 0 n) + seen z b n t.val * w (ix3 0 0 n) + seen z b n (1 + t.val) * w (ix3 0 1 n) + seen z b n (2 + t.val) * w (ix3 0 2 n)
        + seen z b n (3 + t.val) * w (ix3 0 3 n) + seen z b n (4 + t.val) * w (ix3 0 4 n)) := by
  have ht := t.isLt
  rw [← pad_apply z b ⟨t.val, by omega⟩ n, ← pad_apply z b ⟨1 + t.val, by omega⟩ n, ← pad_apply z b ⟨2 + t.val, by omega⟩ n,
    ← pad_apply z b ⟨3 + t.val, by omega⟩ n, ← pad_apply z b ⟨4 + t.val, by omega⟩ n, silu_eq]
  unfold val_main_v41 val_main_v40 val_main_call1_v5 val_main_call1_v4 val_main_call1_cst_0 val_main_call1_v3 val_main_call1_v2 val_main_call1_cst
    val_main_call1_v1 val_main_call1_v0 val_main_v39 val_main_v38 val_main_v37 val_main_v36 val_main_v35 val_main_v34 val_main_v33 val_main_v32
    val_main_v31 val_main_v30 val_main_v29 val_main_v28 val_main_v27 val_main_v26 val_main_v25 val_main_v24 val_main_v23 val_main_v22 val_main_v21
    val_main_v20 val_main_v19 val_main_v18 val_main_v17 val_main_v16 val_main_v15 val_main_v14 val_main_v13 val_main_v12 val_main_v11 val_main_v10
    val_main_v9 val_main_v8 val_main_v7 val_main_v6 val_main_v5 val_main_v4 val_main_v3 val_main_v2
  generalize val_main_v1 (F := Ideal) z = s
  pointwise []

end Reference

/-- The kernel's array is the reference's value of the same arguments. -/
theorem result_eq (c : Dev Cert.ConvIdeal.nD) :
    arr m c = Cert.ConvRefIdeal.Read.val_main_v41 (F := Ideal) (seqs m c) (taps m c) (biases m c) := by
  funext i
  obtain ⟨b, r, n, rfl⟩ : ∃ (b : Fin 8) (r : Fin 2048) (n : Fin 6144), i = ix3 b r n := ⟨i 0, i 1, i 2, eq_ix3 i⟩
  rw [arr_apply m c b r n, ref_apply, Nat.add_zero, Nat.add_comm 1, Nat.add_comm 2, Nat.add_comm 3, Nat.add_comm 4]
  refine congrArg silu ?_
  rw [add_comm _ (biases m c (ix2 0 n) : EReal)]
  simp only [add_assoc]

end Cert.ConvValue

end
-- ==== Proof.CombBlock.lean ====
/-
  The combine kernel, ONE GRID POINT: what a point of the grid leaves in the accumulator and in the output block, as closed
  terms of the blocks it reads.

  Point `t` works for sample `t / 64`, tokens `512·((t / 16) % 4) …` and expert `t % 16`. A token's lane `t % 16` names the row
  of the expert's output in which the token stands; a 0/1 matrix over (token, row) times the expert's output fetches that row,
  and the token's gate multiplies it.
-/
module

public import proofs.«01_k».proof.Proof.Gen.CombIdeal.Value
public import Idealize.ShloMosaic.Lib.Pointwise
public import Idealize.ShloMosaic.Lib.Tactic

@[expose] public section

set_option maxRecDepth 16384

noncomputable section

namespace Cert.CombValue

open Cert.CombIdeal Cert.CombIdeal.Gen Idealize.ShloMosaic Idealize.ShloMosaic.TcCoe Idealize.SL.Sem

/-! ## The arithmetic of one element -/

/-- The lane of expert `e`. -/
def laneOf (e : Fin 16) : Fin 128 := ⟨e.val, by have := e.isLt; omega⟩

/-- One if the row number `s` is the number `p`, zero otherwise. -/
def hit (p : EReal) (s : Fin 256) : EReal := if ((s.val : ℝ) : EReal) = p then 1 else 0

/-- The sum over the lanes that keeps one of them is that lane's value. -/
theorem pick_sum (k : ℕ) (e : Fin 16) (he : k = e.val) (f : Fin 128 → EReal) :
    ∑ x : Fin 128, Scalar.select (IntOp.cmpi CmpIPredicate.eq (BitVec.ofNat 32 x.val) (BitVec.ofNat 32 k)) (f x) 0 = f (laneOf e) := by
  subst he
  have h16 := e.isLt
  rw [Finset.sum_eq_single (laneOf e)]
  · unfold Scalar.select IntOp.cmpi laneOf
    simp
  · intro x _ hx
    have hne : (BitVec.ofNat 32 x.val == BitVec.ofNat 32 e.val) = false := by
      rw [beq_eq_false_iff_ne]
      intro h
      have h1 := congrArg BitVec.toNat h
      rw [BitVec.toNat_ofNat, BitVec.toNat_ofNat] at h1
      have hx2 := x.isLt
      exact hx (Fin.ext (show x.val = e.val by omega))
    unfold Scalar.select IntOp.cmpi
    simp [hne]
  · intro h
    exact absurd (Finset.mem_univ _) h

/-- A row number, made a floating-point number. -/
theorem toFloat_row (s : Fin 256) : (FloatOps.sitofp (F := Ideal) FTy.f32 (BitVec.ofNat 32 s.val) : EReal) = ((s.val : ℝ) : EReal) := by
  have h := s.isLt
  have e : (BitVec.ofNat 32 s.val).toInt = (s.val : ℤ) := by
    rw [BitVec.toInt_eq_toNat_of_lt (by rw [BitVec.toNat_ofNat]; omega), BitVec.toNat_ofNat]
    congr 1
    omega
  show (((BitVec.ofNat 32 s.val).toInt : ℝ) : EReal) = _
  rw [e]
  norm_cast

/-- A comparison's bit, made a floating-point number, is one or zero. -/
theorem bit_float (P : Prop) [Decidable P] :
    (FloatOps.sitofp (F := Ideal) FTy.f32 (BitVec.setWidth 32 (BitVec.ofBool (decide P))) : EReal) = if P then 1 else 0 := by
  show (((BitVec.setWidth 32 (BitVec.ofBool (decide P))).toInt : ℝ) : EReal) = _
  by_cases h : P
  · simp [h]
  · simp [h]

/-- What one point contributes at token `r`, channel `d` of its block, for expert `e`. -/
theorem pay2_apply (i : grid0.Coords) (e : Fin 16) (he : (i 2).val = e.val) (p g : Vec Ideal S1x512x128 .f32) (y : Vec Ideal S1x256x2048 .bf16)
    (r : Fin 512) (d : Fin 2048) :
    k0_pay2 (F := Ideal) i p g y (ix2 r d)
      = (g (ix3 0 r (laneOf e)) * ∑ s : Fin 256, hit (p (ix3 0 r (laneOf e))) s * y (ix3 0 s d) : EReal) := by
  unfold hit
  pointwise [k0_pay2]
  rw [pick_sum _ e he (fun x => g (ix3 0 r x)), pick_sum _ e he (fun x => p (ix3 0 r x))]
  refine congrArg (_ * ·) (Finset.sum_congr rfl fun s _ => ?_)
  rw [bit_float, toFloat_row]

/-- What the last point writes: the residual plus the modulation times the accumulator. -/
theorem pay1_apply (h : Vec Ideal S1x512x2048 .f32) (z : Vec Ideal S1x1x2048 .f32) (s : Vec Ideal S512x2048 .f32) (r : Fin 512) (d : Fin 2048) :
    k0_pay1 (F := Ideal) h z s (ix3 0 r d) = (h (ix3 0 r d) + z (ix3 0 0 d) * s (ix2 r d) : EReal) := by
  pointwise [k0_pay1]

/-! ## The point's stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- The first point of a run stores its product. -/
theorem scratch_first (c : Dev nD) (i : grid0.Coords) (a3 : Memref sig .tc .vmem S1x512x128 .f32) (h3 : a3.IsWhole)
    (a4 : Memref sig .tc .vmem S1x512x128 .f32) (h4 : a4.IsWhole) (a5 : Memref sig .tc .vmem S1x256x2048 .bf16)
    (h5 : a5.IsWhole) (a6 : Memref sig .tc .vmem S1x512x2048 .f32) (h6 : a6.IsWhole)
    (a7 : Memref sig .tc .vmem S1x1x2048 .f32) (h7 : a7.IsWhole) (a8 : Memref sig .tc .vmem S1x512x2048 .f32) (h8 : a8.IsWhole)
    (a9 : Memref sig .tc .vmem S512x2048 .f32) (h9 : a9.IsWhole) (hc0 : cond0_0 i) (hc1 : ¬cond0_1 i) (hc2 : ¬cond0_2 i)
    (p g : Vec Ideal S1x512x128 .f32) (y : Vec Ideal S1x256x2048 .bf16) (h : Vec Ideal S1x512x2048 .f32) (z : Vec Ideal S1x1x2048 .f32) :
    sout0_A_0 (F := Ideal) c i a3 h3 a4 h4 a5 h5 a6 h6 a7 h7 a8 h8 a9 h9 hc0 hc1 hc2 p g y h z = k0_pay2 i p g y := by
  unfold sout0_A_0
  rw [View.read_writes_eq_canon _ _ _ (scover0_A_0 c i a3 h3 a4 h4 a5 h5 a6 h6 a7 h7 a8 h8 a9 h9 hc0 hc1 hc2 p g y h z)]
  unfold kernelRun0_A
  dsimp only
  sl_unfold_words
  rw [View.canon_unit_zero hz2]
  unfold k0_pay3
  simp only [View.readAt_eq_ld, h3.read_unread, h4.read_unread, h5.read_unread,
    View.ld_unit_zero (S := S1x512x128) hz3, View.ld_unit_zero (S := S1x256x2048) hz3, shapeCast_self]

/-- A middle point adds its product to what the point before left. -/
theorem scratch_mid (c : Dev nD) (i : grid0.Coords) (a3 : Memref sig .tc .vmem S1x512x128 .f32) (h3 : a3.IsWhole)
    (a4 : Memref sig .tc .vmem S1x512x128 .f32) (h4 : a4.IsWhole) (a5 : Memref sig .tc .vmem S1x256x2048 .bf16)
    (h5 : a5.IsWhole) (a6 : Memref sig .tc .vmem S1x512x2048 .f32) (h6 : a6.IsWhole)
    (a7 : Memref sig .tc .vmem S1x1x2048 .f32) (h7 : a7.IsWhole) (a8 : Memref sig .tc .vmem S1x512x2048 .f32) (h8 : a8.IsWhole)
    (a9 : Memref sig .tc .vmem S512x2048 .f32) (h9 : a9.IsWhole) (hc0 : ¬cond0_0 i) (hc1 : cond0_1 i) (hc2 : ¬cond0_2 i)
    (p g : Vec Ideal S1x512x128 .f32) (y : Vec Ideal S1x256x2048 .bf16) (h : Vec Ideal S1x512x2048 .f32) (z : Vec Ideal S1x1x2048 .f32)
    (s : Vec Ideal S512x2048 .f32) :
    sout0_B_0 (F := Ideal) c i a3 h3 a4 h4 a5 h5 a6 h6 a7 h7 a8 h8 a9 h9 hc0 hc1 hc2 p g y h z s = addf s (k0_pay2 i p g y) := by
  unfold sout0_B_0
  rw [View.read_writes_eq_canon _ _ _ (scover0_B_0 c i a3 h3 a4 h4 a5 h5 a6 h6 a7 h7 a8 h8 a9 h9 hc0 hc1 hc2 p g y h z s)]
  unfold kernelRun0_B
  dsimp only
  sl_unfold_words
  rw [View.canon_unit_zero hz2]
  unfold k0_pay4
  simp only [View.readAt_eq_ld, h3.read_unread, h4.read_unread, h5.read_unread, h9.read_unread,
    View.ld_unit_zero (S := S1x512x128) hz3, View.ld_unit_zero (S := S1x256x2048) hz3,
    View.ld_unit_zero (S := S512x2048) hz2, shapeCast_self]

/-- So does the last point of a run. -/
theorem scratch_last (c : Dev nD) (i : grid0.Coords) (a3 : Memref sig .tc .vmem S1x512x128 .f32) (h3 : a3.IsWhole)
    (a4 : Memref sig .tc .vmem S1x512x128 .f32) (h4 : a4.IsWhole) (a5 : Memref sig .tc .vmem S1x256x2048 .bf16)
    (h5 : a5.IsWhole) (a6 : Memref sig .tc .vmem S1x512x2048 .f32) (h6 : a6.IsWhole)
    (a7 : Memref sig .tc .vmem S1x1x2048 .f32) (h7 : a7.IsWhole) (a8 : Memref sig .tc .vmem S1x512x2048 .f32) (h8 : a8.IsWhole)
    (a9 : Memref sig .tc .vmem S512x2048 .f32) (h9 : a9.IsWhole) (hc0 : ¬cond0_0 i) (hc1 : cond0_1 i) (hc2 : cond0_2 i)
    (p g : Vec Ideal S1x512x128 .f32) (y : Vec Ideal S1x256x2048 .bf16) (h : Vec Ideal S1x512x2048 .f32) (z : Vec Ideal S1x1x2048 .f32)
    (s : Vec Ideal S512x2048 .f32) :
    sout0_C_0 (F := Ideal) c i a3 h3 a4 h4 a5 h5 a6 h6 a7 h7 a8 h8 a9 h9 hc0 hc1 hc2 p g y h z s = addf s (k0_pay2 i p g y) := by
  unfold sout0_C_0
  rw [View.read_writes_eq_canon _ _ _ (scover0_C_0 c i a3 h3 a4 h4 a5 h5 a6 h6 a7 h7 a8 h8 a9 h9 hc0 hc1 hc2 p g y h z s)]
  unfold kernelRun0_C
  dsimp only
  sl_unfold_words
  rw [View.canon_unit_zero hz2]
  unfold k0_pay4
  simp only [View.readAt_eq_ld, h3.read_unread, h4.read_unread, h5.read_unread, h9.read_unread,
    View.ld_unit_zero (S := S1x512x128) hz3, View.ld_unit_zero (S := S1x256x2048) hz3,
    View.ld_unit_zero (S := S512x2048) hz2, shapeCast_self]

/-- … which writes out the residual plus the modulation times the accumulator. -/
theorem out_last (c : Dev nD) (i : grid0.Coords) (a3 : Memref sig .tc .vmem S1x512x128 .f32) (h3 : a3.IsWhole)
    (a4 : Memref sig .tc .vmem S1x512x128 .f32) (h4 : a4.IsWhole) (a5 : Memref sig .tc .vmem S1x256x2048 .bf16)
    (h5 : a5.IsWhole) (a6 : Memref sig .tc .vmem S1x512x2048 .f32) (h6 : a6.IsWhole)
    (a7 : Memref sig .tc .vmem S1x1x2048 .f32) (h7 : a7.IsWhole) (a8 : Memref sig .tc .vmem S1x512x2048 .f32) (h8 : a8.IsWhole)
    (a9 : Memref sig .tc .vmem S512x2048 .f32) (h9 : a9.IsWhole) (hc0 : ¬cond0_0 i) (hc1 : cond0_1 i) (hc2 : cond0_2 i)
    (p g : Vec Ideal S1x512x128 .f32) (y : Vec Ideal S1x256x2048 .bf16) (h : Vec Ideal S1x512x2048 .f32) (z : Vec Ideal S1x1x2048 .f32)
    (s : Vec Ideal S512x2048 .f32) :
    out0_C_5 (F := Ideal) c i a3 h3 a4 h4 a5 h5 a6 h6 a7 h7 a8 h8 a9 h9 hc0 hc1 hc2 p g y h z s = k0_pay1 h z (addf s (k0_pay2 i p g y)) := by
  unfold out0_C_5
  rw [View.read_writes_eq_canon _ _ _ (cover0_C_5 c i a3 h3 a4 h4 a5 h5 a6 h6 a7 h7 a8 h8 a9 h9 hc0 hc1 hc2 p g y h z s)]
  unfold kernelRun0_C
  dsimp only
  sl_unfold_words
  rw [View.canon_unit_zero hz3, View.readCov_unit_zero (S := S512x2048) _ hz2]
  unfold k0_pay4
  simp only [View.readAt_eq_ld, h3.read_unread, h4.read_unread, h5.read_unread, h6.read_unread, h7.read_unread, h9.read_unread,
    View.ld_unit_zero (S := S1x512x128) hz3, View.ld_unit_zero (S := S1x256x2048) hz3, View.ld_unit_zero (S := S1x512x2048) hz3,
    View.ld_unit_zero (S := S1x1x2048) hz3, View.ld_unit_zero (S := S512x2048) hz2, shapeCast_self]

end Cert.CombValue

end
-- ==== Proof.CombRef.lean ====
/-
  The combine's REFERENCE read at an index, and the fetched row of one expert.

  The reference turns a token's position into a row number, fetches that row of the expert's output by a gather and takes the
  gate for zero where the position is no row number. The kernel multiplies the expert's output by the 0/1 row that has a one
  where the row number is the position. Both give the gate times the row, and zero without such a row (`fetch`).
-/
module

public import proofs.«01_k».proof.Proof.CombBlock
public import proofs.«01_k».proof.Proof.Gen.CombRefIdeal.Read

@[expose] public section

set_option maxRecDepth 16384

noncomputable section

namespace Cert.CombValue

open Cert.CombRefIdeal Cert.CombRefIdeal.Read Idealize.ShloMosaic Idealize.ShloMosaic.TcCoe Idealize.SL.Sem

/-! ## The fetched row -/

/-- The position of row `s`, made an integer, is `s`. -/
theorem toInt_row (s : Fin 256) : (FloatOps.fptosi (F := Ideal) (φ := .f32) 32 (((s.val : ℝ) : EReal)) : BitVec 32) = BitVec.ofNat 32 s.val := by
  have h := s.isLt
  show BitVec.ofInt 32 (max (-(2 ^ (32 - 1) : Nat)) (min ((2 ^ (32 - 1) : Nat) - 1) (if 0 ≤ (s.val : ℝ) then ⌊(s.val : ℝ)⌋ else ⌈(s.val : ℝ)⌉))) = _
  rw [if_pos (Nat.cast_nonneg _), Int.floor_natCast]
  have e : max (-((2 ^ (32 - 1) : Nat) : ℤ)) (min (((2 ^ (32 - 1) : Nat) : ℤ) - 1) (s.val : ℤ)) = (s.val : ℤ) := by
    norm_num
    omega
  rw [e, BitVec.ofInt_natCast]

/-- Is the position a row number? The reference's test. -/
def there (p : EReal) : BitVec 1 :=
  IntOp.andi
    (IntOp.andi (IntOp.cmpi CmpIPredicate.sge (FloatOps.fptosi (F := Ideal) (φ := .f32) 32 p) 0#32)
      (IntOp.cmpi CmpIPredicate.slt (FloatOps.fptosi (F := Ideal) (φ := .f32) 32 p) 256#32))
    (BitVec.ofBool (decide ((FloatOps.sitofp (F := Ideal) FTy.f32 (FloatOps.fptosi (F := Ideal) (φ := .f32) 32 p) : EReal) = p)))

theorem sge_row : ∀ s : Fin 256, IntOp.cmpi CmpIPredicate.sge (BitVec.ofNat 32 s.val) 0#32 = 1#1 := by decide +kernel
theorem slt_row : ∀ s : Fin 256, IntOp.cmpi CmpIPredicate.slt (BitVec.ofNat 32 s.val) 256#32 = 1#1 := by decide +kernel

theorem there_row (s : Fin 256) : there ((s.val : ℝ) : EReal) = 1#1 := by
  unfold there
  rw [toInt_row, sge_row, slt_row, toFloat_row]
  simp [IntOp.andi]

/-- If it is, there is the row. -/
theorem row_of_there (p : EReal) (h : there p = 1#1) : ∃ s : Fin 256, ((s.val : ℝ) : EReal) = p := by
  unfold there at h
  generalize hk : (FloatOps.fptosi (F := Ideal) (φ := .f32) 32 p : BitVec 32) = k at h
  have hand : ∀ a b : BitVec 1, IntOp.andi a b = 1#1 → a = 1#1 ∧ b = 1#1 := by decide
  obtain ⟨h1, h2⟩ := hand _ _ h
  obtain ⟨h3, h4⟩ := hand _ _ h1
  have hof : ∀ b : Bool, BitVec.ofBool b = 1#1 → b = true := by decide
  have e2 := of_decide_eq_true (hof _ h2)
  have e3 : (0#32).sle k = true := hof _ h3
  have e4 : k.slt 256#32 = true := hof _ h4
  rw [BitVec.sle_eq_decide] at e3
  rw [BitVec.slt_eq_decide] at e4
  have f3 : (0 : ℤ) ≤ k.toInt := by simpa using of_decide_eq_true e3
  have f4 : k.toInt < (256 : ℤ) := by
    have := of_decide_eq_true e4
    have e : (256#32 : BitVec 32).toInt = 256 := by decide
    rw [e] at this
    exact this
  refine ⟨⟨k.toInt.toNat, by omega⟩, ?_⟩
  rw [← e2]
  show ((k.toInt.toNat : ℝ) : EReal) = ((k.toInt : ℝ) : EReal)
  congr 1
  have : ((k.toInt.toNat : ℤ) : ℝ) = ((k.toInt : ℤ) : ℝ) := by rw [Int.toNat_of_nonneg f3]
  exact_mod_cast this

/-- The gate times the fetched row, by a test and a gather (left) and by a sum over all rows (right). -/
theorem fetch (p g q : EReal) (row : Fin 256 → EReal) (hq : ∀ s : Fin 256, ((s.val : ℝ) : EReal) = p → q = row s) :
    Scalar.select (there p) g 0 * q = g * ∑ s : Fin 256, hit p s * row s := by
  by_cases h : ∃ s : Fin 256, ((s.val : ℝ) : EReal) = p
  · obtain ⟨s, rfl⟩ := h
    rw [there_row, hq s rfl, Finset.sum_eq_single s]
    · unfold hit Scalar.select
      rw [if_pos (show (1#1 : BitVec 1) = 1 from rfl), if_pos rfl, one_mul]
    · intro x _ hx
      unfold hit
      rw [if_neg, zero_mul]
      intro e
      apply hx
      apply Fin.ext
      exact_mod_cast (EReal.coe_injective e)
    · intro hs
      exact absurd (Finset.mem_univ _) hs
  · have h0 : Scalar.select (there p) g 0 = (0 : EReal) := by
      unfold Scalar.select
      rw [if_neg]
      exact fun e => h (row_of_there p e)
    rw [h0, zero_mul, Finset.sum_eq_zero, mul_zero]
    intro s _
    unfold hit
    rw [if_neg fun e => h ⟨s, e⟩, zero_mul]

/-! ## The reference's gather -/

/-- The gather at (sample, token, expert, channel): the operand's element (expert, sample, row, channel), where the start
    indices name them. -/
theorem gather_apply (x : Vec Ideal S16x8x256x2048 .f32) (idx : IVec S8x2048x16x3 32) (b : Fin 8) (t : Fin 2048) (e : Fin 16) (d : Fin 2048)
    (s : Fin 256) (h0 : idx (ix4 b t e 0) = BitVec.ofNat 32 e.val) (h1 : idx (ix4 b t e 1) = BitVec.ofNat 32 b.val)
    (h2 : idx (ix4 b t e 2) = BitVec.ofNat 32 s.val) :
    Host.gather gather_S16x8x256x2048_S8x2048x16x3_S8x2048x16x2048_3_012_n_n_012_3_1112048 x idx (ix4 b t e d) = x (ix4 e b s d) := by
  unfold Host.gather
  congr 1
  have hstart : ∀ (k : Fin 3) (n : ℕ), n < 2 ^ 31 → idx (ix4 b t e k) = BitVec.ofNat 32 n → (idx (ix4 b t e k)).toInt.toNat = n := by
    intro k n hn h
    rw [h, BitVec.toInt_eq_toNat_of_lt (by rw [BitVec.toNat_ofNat]; omega), BitVec.toNat_ofNat]
    simp only [Int.toNat_natCast]
    omega
  have he := e.isLt
  have hb := b.isLt
  have hs := s.isLt
  funext a
  refine Fin.ext ?_
  show GatherDims.start _ (ix4 b t e d) idx a + GatherDims.batchCoord _ (ix4 b t e d) a + GatherDims.offCoord _ (ix4 b t e d) a = _
  rw [GatherDims.batchCoord_eq_zero _ _ _ (List.not_mem_nil)]
  have h0123 : a = 0 ∨ a = 1 ∨ a = 2 ∨ a = 3 := by
    match a with
    | ⟨0, _⟩ => exact Or.inl rfl
    | ⟨1, _⟩ => exact Or.inr (Or.inl rfl)
    | ⟨2, _⟩ => exact Or.inr (Or.inr (Or.inl rfl))
    | ⟨3, _⟩ => exact Or.inr (Or.inr (Or.inr rfl))
  rcases h0123 with rfl | rfl | rfl | rfl
  · rw [GatherDims.offCoord_eq_zero _ _ _ (by decide)]
    simp only [Nat.add_zero]
    unfold GatherDims.start
    rw [dif_pos (by decide)]
    rw [show GatherDims.siIdx _ (ix4 b t e d) _ = ix4 b t e (0 : Fin 3) from funext fun k => Fin.ext (match k with | ⟨0, _⟩ => rfl | ⟨1, _⟩ => rfl | ⟨2, _⟩ => rfl | ⟨3, _⟩ => rfl)]
    rw [hstart 0 e.val (by omega) h0]
    show min e.val (16 - 1) = e.val
    omega
  · rw [GatherDims.offCoord_eq_zero _ _ _ (by decide)]
    simp only [Nat.add_zero]
    unfold GatherDims.start
    rw [dif_pos (by decide)]
    rw [show GatherDims.siIdx _ (ix4 b t e d) _ = ix4 b t e (1 : Fin 3) from funext fun k => Fin.ext (match k with | ⟨0, _⟩ => rfl | ⟨1, _⟩ => rfl | ⟨2, _⟩ => rfl | ⟨3, _⟩ => rfl)]
    rw [hstart 1 b.val (by omega) h1]
    show min b.val (8 - 1) = b.val
    omega
  · rw [GatherDims.offCoord_eq_zero _ _ _ (by decide)]
    simp only [Nat.add_zero]
    unfold GatherDims.start
    rw [dif_pos (by decide)]
    rw [show GatherDims.siIdx _ (ix4 b t e d) _ = ix4 b t e (2 : Fin 3) from funext fun k => Fin.ext (match k with | ⟨0, _⟩ => rfl | ⟨1, _⟩ => rfl | ⟨2, _⟩ => rfl | ⟨3, _⟩ => rfl)]
    rw [hstart 2 s.val (by omega) h2]
    show min s.val (256 - 1) = s.val
    omega
  · unfold GatherDims.start
    rw [dif_neg (by decide)]
    unfold GatherDims.offCoord
    rw [dif_pos (by decide)]
    show 0 + 0 + d.val = d.val
    omega

/-- A number below 2³¹ is not negative, so the reference's wrap of negative indices leaves it. -/
theorem wrap_eq (n k : ℕ) (hn : n < 2 ^ 31) :
    Scalar.select (IntOp.cmpi CmpIPredicate.slt (BitVec.ofNat 32 n) 0#32) (IntOp.addi (BitVec.ofNat 32 n) (BitVec.ofNat 32 k)) (BitVec.ofNat 32 n) = BitVec.ofNat 32 n := by
  have h : (BitVec.ofNat 32 n).slt 0#32 = false := by
    rw [BitVec.slt_eq_decide, decide_eq_false_iff_not,
      BitVec.toInt_eq_toNat_of_lt (by rw [BitVec.toNat_ofNat]; omega)]
    rw [show (0#32 : BitVec 32).toInt = 0 from by decide]
    omega
  unfold Scalar.select IntOp.cmpi
  simp [h]

theorem ind0_apply (p : Vec Ideal S8x2048x128 .f32) (b : Fin 8) (t : Fin 2048) (e : Fin 16) :
    (val_main_v37 (F := Ideal) p : IVec S8x2048x16x3 32) (ix4 b t e 0) = BitVec.ofNat 32 e.val := by
  have h := e.isLt
  unfold val_main_v37 val_main_v34 val_main_v32 val_main_v21 val_main_v20 val_main_v19 val_main_v18 val_main_v17 val_main_v14 val_main_v13 val_main_c_1 val_main_c_2
  pointwise []
  exact wrap_eq e.val 16 (by omega)

theorem ind1_apply (p : Vec Ideal S8x2048x128 .f32) (b : Fin 8) (t : Fin 2048) (e : Fin 16) :
    (val_main_v37 (F := Ideal) p : IVec S8x2048x16x3 32) (ix4 b t e 1) = BitVec.ofNat 32 b.val := by
  have h := b.isLt
  unfold val_main_v37 val_main_v35 val_main_v33 val_main_v26 val_main_v25 val_main_v24 val_main_v23 val_main_v22 val_main_v16 val_main_v15 val_main_c_3 val_main_c_4
  pointwise []
  exact wrap_eq b.val 8 (by omega)

theorem ind2_apply (p : Vec Ideal S8x2048x128 .f32) (b : Fin 8) (t : Fin 2048) (e : Fin 16) (s : Fin 256)
    (hs : ((s.val : ℝ) : EReal) = p (ix3 b t (laneOf e))) :
    (val_main_v37 (F := Ideal) p : IVec S8x2048x16x3 32) (ix4 b t e 2) = BitVec.ofNat 32 s.val := by
  have h := s.isLt
  unfold laneOf at hs
  unfold val_main_v37 val_main_v36 val_main_v31 val_main_v30 val_main_v29 val_main_v28 val_main_v27 val_main_v2 val_main_v0 val_main_c_5 val_main_c_6
  pointwise []
  rw [← hs, toInt_row]
  exact wrap_eq s.val 256 (by omega)

/-- The place of row `s` of a sample in the expert's output, the samples one below the other. -/
def slotOf (b : Fin 8) (s : Fin 256) : Fin 2048 := ⟨b.val * 256 + s.val, by have := b.isLt; have := s.isLt; omega⟩

theorem rows_apply (p : Vec Ideal S8x2048x128 .f32) (y : Vec Ideal S16x2048x2048 .bf16) (b : Fin 8) (t : Fin 2048) (e : Fin 16) (d : Fin 2048) (s : Fin 256)
    (hs : ((s.val : ℝ) : EReal) = p (ix3 b t (laneOf e))) :
    (val_main_v38 (F := Ideal) p y : Vec Ideal S8x2048x16x2048 .f32) (ix4 b t e d) = y (ix3 e (slotOf b s) d) := by
  unfold val_main_v38
  rw [gather_apply _ _ b t e d s (ind0_apply p b t e) (ind1_apply p b t e) (ind2_apply p b t e s hs)]
  unfold val_main_v12 val_main_v11 slotOf
  pointwise []

/-! ## The reference -/

/-- The reference read at an index, the gather left as it is. -/
theorem tested_apply (p g : Vec Ideal S8x2048x128 .f32) (y : Vec Ideal S16x2048x2048 .bf16) (h : Vec Ideal S8x2048x2048 .f32) (z : Vec Ideal S8x1x2048 .f32)
    (b : Fin 8) (t d : Fin 2048) (R : EReal)
    (hR : (h (ix3 b t d) + z (ix3 b 0 d) * ∑ e : Fin 16, Scalar.select (there (p (ix3 b t (laneOf e)))) (g (ix3 b t (laneOf e))) 0
      * (val_main_v38 (F := Ideal) p y : Vec Ideal S8x2048x16x2048 .f32) (ix4 b t e d) : EReal) = R) :
    (val_main_v46 (F := Ideal) p g y h z : Vec Ideal S8x2048x2048 .f32) (ix3 b t d) = R := by
  unfold there laneOf at hR
  unfold val_main_v46 val_main_v45 val_main_v44 val_main_v43 val_main_v42 val_main_v41 val_main_v40 val_main_v39 val_main_call0_v1 val_main_call0_v0 val_main_cst val_main_cst_7
    val_main_v10 val_main_v9 val_main_v8 val_main_v7 val_main_v6 val_main_v5 val_main_v4 val_main_v3 val_main_v2 val_main_v1 val_main_v0 val_main_c val_main_c_0
  generalize val_main_v38 (F := Ideal) p y = q at hR ⊢
  pointwise []
  have hz : (id (constant (F := Ideal) S_ .f32 0x00000000#32) ix0 : EReal) = 0 := by
    show (constant (F := Ideal) S_ .f32 0x00000000#32 ix0 : EReal) = 0
    pointwise []
  rw [hz]
  exact hR

/-- The reference read at an index. -/
theorem ref_apply (p g : Vec Ideal S8x2048x128 .f32) (y : Vec Ideal S16x2048x2048 .bf16) (h : Vec Ideal S8x2048x2048 .f32) (z : Vec Ideal S8x1x2048 .f32)
    (b : Fin 8) (t d : Fin 2048) :
    (val_main_v46 (F := Ideal) p g y h z : Vec Ideal S8x2048x2048 .f32) (ix3 b t d)
      = (h (ix3 b t d) + z (ix3 b 0 d) * ∑ e : Fin 16, g (ix3 b t (laneOf e)) * ∑ s : Fin 256, hit (p (ix3 b t (laneOf e))) s * y (ix3 e (slotOf b s) d) : EReal) := by
  have e : ∀ e : Fin 16, (g (ix3 b t (laneOf e)) * ∑ s : Fin 256, hit (p (ix3 b t (laneOf e))) s * y (ix3 e (slotOf b s) d) : EReal)
      = Scalar.select (there (p (ix3 b t (laneOf e)))) (g (ix3 b t (laneOf e))) 0 * (val_main_v38 (F := Ideal) p y : Vec Ideal S8x2048x16x2048 .f32) (ix4 b t e d) :=
    fun e => (fetch _ _ _ (fun s => y (ix3 e (slotOf b s) d)) (rows_apply p y b t e d)).symm
  simp only [e]
  exact tested_apply p g y h z b t d _ rfl

end Cert.CombValue

end
-- ==== Proof.CombValue.lean ====
/-
  The combine: the kernel's array is the reference's.

  The sixteen points of a run add the sixteen experts' contributions in the accumulator, and the last one writes out the
  residual plus the modulation times their sum. The reference's value is the same by `CombRef.ref_apply`.
-/
module

public import proofs.«01_k».proof.Proof.CombRef

@[expose] public section

set_option maxRecDepth 16384

noncomputable section

namespace Cert.CombValue

open Cert.CombIdeal Cert.CombIdeal.Gen Cert.CombIdeal.Value Idealize.ShloMosaic Idealize.ShloMosaic.TcCoe Idealize.SL.Sem

variable (m : (ℓ : Loc nD τ sig) → Buf (Elt Ideal) ℓ)

/-- The positions, the gates, the experts' rows, the residual stream and the modulation, as launched. -/
abbrev places (c : Dev nD) : Vec Ideal S8x2048x128 .f32 := m ((c : Thread nD τ).loc main_arg0)
abbrev gates (c : Dev nD) : Vec Ideal S8x2048x128 .f32 := m ((c : Thread nD τ).loc main_arg1)
abbrev outs (c : Dev nD) : Vec Ideal S16x2048x2048 .bf16 := m ((c : Thread nD τ).loc main_arg2)
abbrev stream (c : Dev nD) : Vec Ideal S8x2048x2048 .f32 := m ((c : Thread nD τ).loc main_arg3)
abbrev factor (c : Dev nD) : Vec Ideal S8x1x2048 .f32 := m ((c : Thread nD τ).loc main_arg4)

/-! ## The blocks a point sees -/

theorem idx0 : ∀ t : Fin cfg0.N, win0_0.index t 0 = t.val / 64 ∧ win0_0.index t 1 = t.val / 16 % 4 ∧ win0_0.index t 2 = 0 :=
  (by decide +kernel : ∀ t : Fin grid0.N, _)
theorem idx1 : ∀ t : Fin cfg0.N, win0_1.index t 0 = t.val / 64 ∧ win0_1.index t 1 = t.val / 16 % 4 ∧ win0_1.index t 2 = 0 :=
  (by decide +kernel : ∀ t : Fin grid0.N, _)
theorem idx2 : ∀ t : Fin cfg0.N, win0_2.index t 0 = t.val % 16 ∧ win0_2.index t 1 = t.val / 64 ∧ win0_2.index t 2 = 0 :=
  (by decide +kernel : ∀ t : Fin grid0.N, _)
theorem idx3 : ∀ t : Fin cfg0.N, win0_3.index t 0 = t.val / 64 ∧ win0_3.index t 1 = t.val / 16 % 4 ∧ win0_3.index t 2 = 0 :=
  (by decide +kernel : ∀ t : Fin grid0.N, _)
theorem idx4 : ∀ t : Fin cfg0.N, win0_4.index t 0 = t.val / 64 ∧ win0_4.index t 1 = 0 ∧ win0_4.index t 2 = 0 :=
  (by decide +kernel : ∀ t : Fin grid0.N, _)
theorem coord2 : ∀ t : Fin cfg0.N, (grid0.coords t 2).val = t.val % 16 :=
  (by decide +kernel : ∀ t : Fin grid0.N, _)

theorem N_le (t : Fin cfg0.N) : t.val < 512 := lt_of_lt_of_eq t.isLt (show cfg0.N = 512 from N_0)

/-- The sample and the expert that point `t` works for, and the token that stands at a place of its block. -/
def sampleOf (t : ℕ) : Fin 8 := ⟨t / 64 % 8, Nat.mod_lt _ (by decide)⟩
def expertOf (t : ℕ) : Fin 16 := ⟨t % 16, Nat.mod_lt _ (by decide)⟩
def tokenOf (t : ℕ) (r : Fin 512) : Fin 2048 := ⟨t / 16 % 4 * 512 + r.val, by have := r.isLt; omega⟩

theorem blk_p (c : Dev nD) (t : Fin cfg0.N) (r : Fin 512) (k : Fin 128) :
    (iblk m c 0 t : Vec Ideal S1x512x128 .f32) (ix3 0 r k) = places m c (ix3 (sampleOf t.val) (tokenOf t.val r) k) := by
  have ht := N_le t
  obtain ⟨h0, h1, h2⟩ := idx0 t
  unfold iblk
  rw [View.read_apply]
  show V m c main_arg0 _ = _
  unfold V places
  congr 1
  funext a
  apply Fin.ext
  match a with
  | ⟨0, _⟩ => show win0_0.index t 0 * 1 + 1 * 0 = t.val / 64 % 8; rw [h0]; omega
  | ⟨1, _⟩ => show win0_0.index t 1 * 512 + 1 * r.val = t.val / 16 % 4 * 512 + r.val; rw [h1]; omega
  | ⟨2, _⟩ => show win0_0.index t 2 * 128 + 1 * k.val = k.val; rw [h2]; omega

theorem blk_g (c : Dev nD) (t : Fin cfg0.N) (r : Fin 512) (k : Fin 128) :
    (iblk m c 1 t : Vec Ideal S1x512x128 .f32) (ix3 0 r k) = gates m c (ix3 (sampleOf t.val) (tokenOf t.val r) k) := by
  have ht := N_le t
  obtain ⟨h0, h1, h2⟩ := idx1 t
  unfold iblk
  rw [View.read_apply]
  show V m c main_arg1 _ = _
  unfold V gates
  congr 1
  funext a
  apply Fin.ext
  match a with
  | ⟨0, _⟩ => show win0_1.index t 0 * 1 + 1 * 0 = t.val / 64 % 8; rw [h0]; omega
  | ⟨1, _⟩ => show win0_1.index t 1 * 512 + 1 * r.val = t.val / 16 % 4 * 512 + r.val; rw [h1]; omega
  | ⟨2, _⟩ => show win0_1.index t 2 * 128 + 1 * k.val = k.val; rw [h2]; omega

theorem blk_y (c : Dev nD) (t : Fin cfg0.N) (s : Fin 256) (k : Fin 2048) :
    (iblk m c 2 t : Vec Ideal S1x256x2048 .bf16) (ix3 0 s k) = outs m c (ix3 (expertOf t.val) (slotOf (sampleOf t.val) s) k) := by
  have ht := N_le t
  obtain ⟨h0, h1, h2⟩ := idx2 t
  unfold iblk
  rw [View.read_apply]
  show V m c main_arg2 _ = _
  unfold V outs
  congr 1
  funext a
  apply Fin.ext
  match a with
  | ⟨0, _⟩ => show win0_2.index t 0 * 1 + 1 * 0 = t.val % 16; rw [h0]; omega
  | ⟨1, _⟩ => show win0_2.index t 1 * 256 + 1 * s.val = t.val / 64 % 8 * 256 + s.val; rw [h1]; omega
  | ⟨2, _⟩ => show win0_2.index t 2 * 2048 + 1 * k.val = k.val; rw [h2]; omega

theorem blk_h (c : Dev nD) (t : Fin cfg0.N) (r : Fin 512) (k : Fin 2048) :
    (iblk m c 3 t : Vec Ideal S1x512x2048 .f32) (ix3 0 r k) = stream m c (ix3 (sampleOf t.val) (tokenOf t.val r) k) := by
  have ht := N_le t
  obtain ⟨h0, h1, h2⟩ := idx3 t
  unfold iblk
  rw [View.read_apply]
  show V m c main_arg3 _ = _
  unfold V stream
  congr 1
  funext a
  apply Fin.ext
  match a with
  | ⟨0, _⟩ => show win0_3.index t 0 * 1 + 1 * 0 = t.val / 64 % 8; rw [h0]; omega
  | ⟨1, _⟩ => show win0_3.index t 1 * 512 + 1 * r.val = t.val / 16 % 4 * 512 + r.val; rw [h1]; omega
  | ⟨2, _⟩ => show win0_3.index t 2 * 2048 + 1 * k.val = k.val; rw [h2]; omega

theorem blk_z (c : Dev nD) (t : Fin cfg0.N) (k : Fin 2048) :
    (iblk m c 4 t : Vec Ideal S1x1x2048 .f32) (ix3 0 0 k) = factor m c (ix3 (sampleOf t.val) 0 k) := by
  have ht := N_le t
  obtain ⟨h0, h1, h2⟩ := idx4 t
  unfold iblk
  rw [View.read_apply]
  show V m c main_arg4 _ = _
  unfold V factor
  congr 1
  funext a
  apply Fin.ext
  match a with
  | ⟨0, _⟩ => show win0_4.index t 0 * 1 + 1 * 0 = t.val / 64 % 8; rw [h0]; omega
  | ⟨1, _⟩ => show win0_4.index t 1 * 1 + 1 * 0 = 0; rw [h1]
  | ⟨2, _⟩ => show win0_4.index t 2 * 2048 + 1 * k.val = k.val; rw [h2]; omega

/-! ## The accumulator -/

/-- Expert `e`'s contribution to sample `b`, token `t`, channel `d`. -/
def term (c : Dev nD) (b : Fin 8) (e : Fin 16) (t d : Fin 2048) : EReal :=
  gates m c (ix3 b t (laneOf e)) * ∑ s : Fin 256, hit (places m c (ix3 b t (laneOf e))) s * outs m c (ix3 e (slotOf b s) d)

/-- What point `t` adds at place `(r, d)` of its block. -/
def part (c : Dev nD) (t : ℕ) (j : S512x2048.Idx) : EReal :=
  term m c (sampleOf t) (expertOf t) (tokenOf t (j 0)) (j 1)

theorem pay2_part (c : Dev nD) (t : Fin cfg0.N) (j : S512x2048.Idx) :
    k0_pay2 (F := Ideal) (grid0.coords t) (iblk m c 0 t) (iblk m c 1 t) (iblk m c 2 t) j = part m c t.val j := by
  obtain ⟨r, d, rfl⟩ : ∃ (r : Fin 512) (d : Fin 2048), j = ix2 r d := ⟨j 0, j 1, eq_ix2 j⟩
  rw [pay2_apply (grid0.coords t) (expertOf t.val) (coord2 t)]
  unfold part term
  simp only [blk_p m, blk_g m, blk_y m]
  rfl

/-- The accumulator after point `t`: the sum of the contributions of its run's points so far. -/
theorem scratch_eq (c : Dev nD) (t : Fin cfg0.N) (j : S512x2048.Idx) :
    (outsAt0 m c t.val t.isLt).2 j = ∑ s ∈ Finset.range (t.val % 16 + 1), part m c (16 * (t.val / 16) + s) j := by
  have ht := N_le t
  rw [soutsAt0_0_eq]
  refine (Pipeline.accAt_add_apply _ _ (fun _ => (0 : EReal)) (fun n i => part m c n i) (16 * (t.val / 16)) 15
    ?_ ?_ (t.val % 16) (by omega) _ j).trans (zero_add _)
  · intro h i
    unfold scAt0_0
    rw [dif_pos (by omega), dif_neg (by omega), dif_neg (by omega), scratch_first, zero_add]
    exact pay2_part m c ⟨_, h⟩ i
  · intro n h acc i h1 h2
    unfold scAt0_0
    rw [dif_neg (by omega), dif_pos (by omega)]
    by_cases h15 : n % 16 = 15
    · rw [dif_pos h15, scratch_last]
      exact congrArg (acc i + ·) (pay2_part m c ⟨_, h⟩ i)
    · rw [dif_neg h15, scratch_mid]
      exact congrArg (acc i + ·) (pay2_part m c ⟨_, h⟩ i)

/-- What the last point of a run writes out. -/
theorem out_eq (c : Dev nD) (t : Fin cfg0.N) (h15 : t.val % 16 = 15) (r : Fin 512) (d : Fin 2048) :
    (outsAt0 m c t.val t.isLt).1 (ix3 0 r d) = (stream m c (ix3 (sampleOf t.val) (tokenOf t.val r) d)
      + factor m c (ix3 (sampleOf t.val) 0 d) * (outsAt0 m c t.val t.isLt).2 (ix2 r d) : EReal) := by
  rw [outsAt0_C m c t (by omega) (by omega) h15]
  dsimp only
  rw [out_last, scratch_last, pay1_apply, blk_h m, blk_z m]

/-- The result array after the run. -/
abbrev arr (c : Dev nD) : Vec Ideal S8x2048x2048 .f32 := G5 m c

/-- The result array, element by element. -/
theorem arr_apply (c : Dev nD) (b : Fin 8) (r d : Fin 2048) :
    arr m c (ix3 b r d)
      = (stream m c (ix3 b r d) + factor m c (ix3 b 0 d) * ∑ e : Fin 16, term m c b e r d : EReal) := by
  have hb := b.isLt
  have hr := r.isLt
  have hd := d.isLt
  have hp : pt5Of (ix3 b r d) = 16 * (4 * b.val + r.val / 512) + 15 := by
    show 16 * (4 * (b.val / 1 - 0) + 1 * (r.val / 512 - 0) + 1 * (d.val / 2048 - 0)) + 15 = _
    omega
  have hN : cfg0.N = 512 := N_0
  have hlt : 16 * (4 * b.val + r.val / 512) + 15 < cfg0.N := by omega
  have hl : loc5Of (ix3 b r d) = ix3 0 (⟨r.val % 512, Nat.mod_lt _ (by decide)⟩ : Fin 512) d := by
    funext a; apply Fin.ext
    match a with
    | ⟨0, _⟩ => show b.val % 1 = 0; omega
    | ⟨1, _⟩ => rfl
    | ⟨2, _⟩ => show d.val % 2048 = d.val; omega
  have es : sampleOf (16 * (4 * b.val + r.val / 512) + 15) = b := by
    unfold sampleOf; apply Fin.ext; dsimp only; omega
  have et : tokenOf (16 * (4 * b.val + r.val / 512) + 15) (⟨r.val % 512, Nat.mod_lt _ (by decide)⟩ : Fin 512) = r := by
    unfold tokenOf; apply Fin.ext; dsimp only; omega
  unfold arr G5
  rw [dif_pos (by rw [hp]; exact hlt), hl, fold0_congr m c _ _ _ (by omega) hp, ← outsAt0_sweep m c _ hlt]
  have h15 : (⟨_, hlt⟩ : Fin cfg0.N).val % 16 = 15 := by dsimp only; omega
  rw [out_eq m c ⟨_, hlt⟩ h15, scratch_eq m c ⟨_, hlt⟩, h15]
  dsimp only
  rw [es, et]
  refine congrArg (fun q : EReal => (stream m c (ix3 b r d) + factor m c (ix3 b 0 d) * q : EReal)) ?_
  rw [show 15 + 1 = 16 from rfl, Finset.sum_range]
  refine Finset.sum_congr rfl fun e _ => ?_
  have he := e.isLt
  have e1 : expertOf (16 * ((16 * (4 * b.val + r.val / 512) + 15) / 16) + e.val) = e := by
    unfold expertOf; apply Fin.ext; dsimp only; omega
  have e2 : tokenOf (16 * ((16 * (4 * b.val + r.val / 512) + 15) / 16) + e.val) (⟨r.val % 512, Nat.mod_lt _ (by decide)⟩ : Fin 512) = r := by
    unfold tokenOf; apply Fin.ext; dsimp only; omega
  have e3 : sampleOf (16 * ((16 * (4 * b.val + r.val / 512) + 15) / 16) + e.val) = b := by
    unfold sampleOf; apply Fin.ext; dsimp only; omega
  unfold part
  show term m c (sampleOf _) (expertOf _) (tokenOf _ (⟨r.val % 512, Nat.mod_lt _ (by decide)⟩ : Fin 512)) d = _
  rw [e1, e2, e3]

/-- The program's run, with its result array named and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = arr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  Value.run m ρ

/-- The kernel's array is the reference's value of the same arguments. -/
theorem result_eq (c : Dev Cert.CombIdeal.nD) :
    arr m c = Cert.CombRefIdeal.Read.val_main_v46 (F := Ideal) (places m c) (gates m c) (outs m c) (stream m c) (factor m c) := by
  funext i
  obtain ⟨b, r, k, rfl⟩ : ∃ (b : Fin 8) (r k : Fin 2048), i = ix3 b r k := ⟨i 0, i 1, i 2, eq_ix3 i⟩
  rw [arr_apply m c b r k, ref_apply]
  rfl

end Cert.CombValue

end
-- ==== Proof.lean ====
/-
  The claim. For each call: its printed and its idealised program and its idealised reference end with their semaphores at
  zero and their arguments unchanged (the kernels by their generated frame, the references by their run); idealising
  with no rule changes nothing; and on equal arguments the idealised kernel's array is the idealised reference's, by the
  equation that the call's own module proves.
-/
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FfnJoin
public import proofs.«01_k».proof.Proof.Gen.InZ.Frame
public import proofs.«01_k».proof.Proof.Gen.InZIdeal.Value
public import proofs.«01_k».proof.Proof.Gen.InZRefIdeal.Run
public import proofs.«01_k».proof.Proof.Gen.InZRefIdeal.Read
public import proofs.«01_k».proof.Proof.InZValue
public import proofs.«01_k».proof.Proof.Gen.InXbc.Frame
public import proofs.«01_k».proof.Proof.Gen.InXbcIdeal.Value
public import proofs.«01_k».proof.Proof.Gen.InXbcRefIdeal.Run
public import proofs.«01_k».proof.Proof.Gen.InXbcRefIdeal.Read
public import proofs.«01_k».proof.Proof.InXbcValue
public import proofs.«01_k».proof.Proof.Gen.InDt.Frame
public import proofs.«01_k».proof.Proof.Gen.InDtIdeal.Value
public import proofs.«01_k».proof.Proof.Gen.InDtRefIdeal.Run
public import proofs.«01_k».proof.Proof.Gen.InDtRefIdeal.Read
public import proofs.«01_k».proof.Proof.InDtValue
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.OutValue
public import proofs.«01_k».proof.Proof.Gen.AbIn.Frame
public import proofs.«01_k».proof.Proof.Gen.AbInIdeal.Value
public import proofs.«01_k».proof.Proof.Gen.AbInRefIdeal.Run
public import proofs.«01_k».proof.Proof.Gen.AbInRefIdeal.Read
public import proofs.«01_k».proof.Proof.AbInValue
public import proofs.«01_k».proof.Proof.Gen.AbOut.Frame
public import proofs.«01_k».proof.Proof.Gen.AbOutIdeal.Value
public import proofs.«01_k».proof.Proof.Gen.AbOutRefIdeal.Run
public import proofs.«01_k».proof.Proof.Gen.AbOutRefIdeal.Read
public import proofs.«01_k».proof.Proof.AbOutValue
public import proofs.«01_k».proof.Proof.Gen.GateNorm.Frame
public import proofs.«01_k».proof.Proof.Gen.GateNormIdeal.Value
public import proofs.«01_k».proof.Proof.Gen.GateNormRefIdeal.Run
public import proofs.«01_k».proof.Proof.Gen.GateNormRefIdeal.Read
public import proofs.«01_k».proof.Proof.GateNormValue
public import proofs.«01_k».proof.Proof.Gen.Final.Frame
public import proofs.«01_k».proof.Proof.Gen.FinalIdeal.Value
public import proofs.«01_k».proof.Proof.Gen.FinalRefIdeal.Run
public import proofs.«01_k».proof.Proof.Gen.FinalRefIdeal.Read
public import proofs.«01_k».proof.Proof.FinalValue
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.AdaValue
public import proofs.«01_k».proof.Proof.Gen.Mod.Frame
public import proofs.«01_k».proof.Proof.Gen.ModIdeal.Value
public import proofs.«01_k».proof.Proof.Gen.ModRefIdeal.Run
public import proofs.«01_k».proof.Proof.Gen.ModRefIdeal.Read
public import proofs.«01_k».proof.Proof.ModValue
public import proofs.«01_k».proof.Proof.Gen.Gmlp.Frame
public import proofs.«01_k».proof.Proof.Gen.GmlpIdeal.Value
public import proofs.«01_k».proof.Proof.Gen.GmlpRefIdeal.Run
public import proofs.«01_k».proof.Proof.Gen.GmlpRefIdeal.Read
public import proofs.«01_k».proof.Proof.GmlpValue
public import proofs.«01_k».proof.Proof.Gen.Conv.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.ConvValue
public import proofs.«01_k».proof.Proof.Gen.Comb.Frame
public import proofs.«01_k».proof.Proof.Gen.CombIdeal.Value
public import proofs.«01_k».proof.Proof.Gen.CombRefIdeal.Run
public import proofs.«01_k».proof.Proof.Gen.CombRefIdeal.Read
public import proofs.«01_k».proof.Proof.CombValue
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

theorem algebraic_FfnIdeal_FfnRefIdeal : algebraic_FfnIdeal_FfnRefIdeal := by
  intro m ρ m' ρ' _ hagree
  refine ⟨fun c => Cert.FfnIdeal.Value.G4 m c, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  obtain ⟨e0, e1, e2, e3⟩ := hagree c
  refine (h c).1.trans ((Cert.FfnRefIdeal.Read.val_main_v12_eq _ _ _ _).trans ?_)
  rw [e0, e1, e2, e3]
  exact (Cert.FfnValue.result_eq m c).symm

theorem quiescent_InZRefIdeal : quiescent_InZRefIdeal := fun m ρ _ =>
  (θ_run Cert.InZRefIdeal.defs _ _).mono (fun r h => ⟨fun c => (h c).2, sem_eq_zero_of_no_sems (by decide) r.2⟩)
    (Cert.InZRefIdeal.Value.run (F := Ideal) m ρ)

theorem algebraic_InZIdeal_InZRefIdeal : algebraic_InZIdeal_InZRefIdeal := by
  intro m ρ m' ρ' _ hagree
  refine ⟨fun c => Cert.InZIdeal.Value.G2 m c, Cert.InZIdeal.Value.run (F := Ideal) m ρ, ?_⟩
  refine (θ_run Cert.InZRefIdeal.defs _ _).mono (fun _ h c => ⟨?_, (h c).2⟩) (Cert.InZRefIdeal.Value.run (F := Ideal) m' ρ')
  obtain ⟨e0, e1⟩ := hagree c
  refine (h c).1.trans ((Cert.InZRefIdeal.Read.val_main_v5_eq _ _).trans ?_)
  rw [e0, e1]
  exact (Cert.InZValue.result_eq m c).symm

theorem quiescent_InXbcRefIdeal : quiescent_InXbcRefIdeal := fun m ρ _ =>
  (θ_run Cert.InXbcRefIdeal.defs _ _).mono (fun r h => ⟨fun c => (h c).2, sem_eq_zero_of_no_sems (by decide) r.2⟩)
    (Cert.InXbcRefIdeal.Value.run (F := Ideal) m ρ)

theorem algebraic_InXbcIdeal_InXbcRefIdeal : algebraic_InXbcIdeal_InXbcRefIdeal := by
  intro m ρ m' ρ' _ hagree
  refine ⟨fun c => Cert.InXbcIdeal.Value.G2 m c, Cert.InXbcIdeal.Value.run (F := Ideal) m ρ, ?_⟩
  refine (θ_run Cert.InXbcRefIdeal.defs _ _).mono (fun _ h c => ⟨?_, (h c).2⟩) (Cert.InXbcRefIdeal.Value.run (F := Ideal) m' ρ')
  obtain ⟨e0, e1⟩ := hagree c
  refine (h c).1.trans ((Cert.InXbcRefIdeal.Read.val_main_v5_eq _ _).trans ?_)
  rw [e0, e1]
  exact (Cert.InXbcValue.result_eq m c).symm

theorem quiescent_InDtRefIdeal : quiescent_InDtRefIdeal := fun m ρ _ =>
  (θ_run Cert.InDtRefIdeal.defs _ _).mono (fun r h => ⟨fun c => (h c).2, sem_eq_zero_of_no_sems (by decide) r.2⟩)
    (Cert.InDtRefIdeal.Value.run (F := Ideal) m ρ)

theorem algebraic_InDtIdeal_InDtRefIdeal : algebraic_InDtIdeal_InDtRefIdeal := by
  intro m ρ m' ρ' _ hagree
  refine ⟨fun c => Cert.InDtIdeal.Value.G2 m c, Cert.InDtIdeal.Value.run (F := Ideal) m ρ, ?_⟩
  refine (θ_run Cert.InDtRefIdeal.defs _ _).mono (fun _ h c => ⟨?_, (h c).2⟩) (Cert.InDtRefIdeal.Value.run (F := Ideal) m' ρ')
  obtain ⟨e0, e1⟩ := hagree c
  refine (h c).1.trans ((Cert.InDtRefIdeal.Read.val_main_v4_eq _ _).trans ?_)
  rw [e0, e1]
  exact (Cert.InDtValue.result_eq m c).symm

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem algebraic_OutIdeal_OutRefIdeal : algebraic_OutIdeal_OutRefIdeal := by
  intro m ρ m' ρ' _ hagree
  refine ⟨fun c => Cert.OutIdeal.Value.G4 m c, Cert.OutIdeal.Value.run (F := Ideal) m ρ, ?_⟩
  refine (θ_run Cert.OutRefIdeal.defs _ _).mono (fun _ h c => ⟨?_, (h c).2⟩) (Cert.OutRefIdeal.Value.run (F := Ideal) m' ρ')
  obtain ⟨e0, e1, e2, e3⟩ := hagree c
  refine (h c).1.trans ((Cert.OutRefIdeal.Read.val_main_v7_eq _ _ _ _).trans ?_)
  rw [e0, e1, e2, e3]
  exact (Cert.OutValue.result_eq m c).symm

theorem quiescent_AbInRefIdeal : quiescent_AbInRefIdeal := fun m ρ _ =>
  (θ_run Cert.AbInRefIdeal.defs _ _).mono (fun r h => ⟨fun c => (h c).2, sem_eq_zero_of_no_sems (by decide) r.2⟩)
    (Cert.AbInRefIdeal.Value.run (F := Ideal) m ρ)

theorem algebraic_AbInIdeal_AbInRefIdeal : algebraic_AbInIdeal_AbInRefIdeal := by
  intro m ρ m' ρ' _ hagree
  refine ⟨fun c => Cert.AbInIdeal.Value.G2 m c, Cert.AbInIdeal.Value.run (F := Ideal) m ρ, ?_⟩
  refine (θ_run Cert.AbInRefIdeal.defs _ _).mono (fun _ h c => ⟨?_, (h c).2⟩) (Cert.AbInRefIdeal.Value.run (F := Ideal) m' ρ')
  obtain ⟨e0, e1⟩ := hagree c
  refine (h c).1.trans ((Cert.AbInRefIdeal.Read.val_main_v12_eq _ _).trans ?_)
  rw [e0, e1]
  exact (Cert.AbInValue.result_eq m c).symm

theorem quiescent_AbOutRefIdeal : quiescent_AbOutRefIdeal := fun m ρ _ =>
  (θ_run Cert.AbOutRefIdeal.defs _ _).mono (fun r h => ⟨fun c => (h c).2, sem_eq_zero_of_no_sems (by decide) r.2⟩)
    (Cert.AbOutRefIdeal.Value.run (F := Ideal) m ρ)

theorem algebraic_AbOutIdeal_AbOutRefIdeal : algebraic_AbOutIdeal_AbOutRefIdeal := by
  intro m ρ m' ρ' _ hagree
  refine ⟨fun c => Cert.AbOutIdeal.Value.G5 m c, Cert.AbOutIdeal.Value.run (F := Ideal) m ρ, ?_⟩
  refine (θ_run Cert.AbOutRefIdeal.defs _ _).mono (fun _ h c => ⟨?_, (h c).2⟩) (Cert.AbOutRefIdeal.Value.run (F := Ideal) m' ρ')
  obtain ⟨e0, e1, e2, e3, e4⟩ := hagree c
  refine (h c).1.trans ((Cert.AbOutRefIdeal.Read.val_main_v8_eq _ _ _ _ _).trans ?_)
  rw [e0, e1, e2, e3, e4]
  exact (Cert.AbOutValue.result_eq m c).symm

theorem quiescent_GateNormRefIdeal : quiescent_GateNormRefIdeal := fun m ρ _ =>
  (θ_run Cert.GateNormRefIdeal.defs _ _).mono (fun r h => ⟨fun c => (h c).2, sem_eq_zero_of_no_sems (by decide) r.2⟩)
    (Cert.GateNormRefIdeal.Value.run (F := Ideal) m ρ)

theorem algebraic_GateNormIdeal_GateNormRefIdeal : algebraic_GateNormIdeal_GateNormRefIdeal := by
  intro m ρ m' ρ' _ hagree
  refine ⟨fun c => Cert.GateNormValue.arr m c, Cert.GateNormValue.run m ρ, ?_⟩
  refine (θ_run Cert.GateNormRefIdeal.defs _ _).mono (fun _ h c => ⟨?_, (h c).2⟩) (Cert.GateNormRefIdeal.Value.run (F := Ideal) m' ρ')
  obtain ⟨e0, e1, e2⟩ := hagree c
  refine (h c).1.trans ((Cert.GateNormRefIdeal.Read.val_main_v18_eq _ _ _).trans ?_)
  rw [e0, e1, e2]
  exact (Cert.GateNormValue.result_eq m c).symm

theorem quiescent_FinalRefIdeal : quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem algebraic_FinalIdeal_FinalRefIdeal : algebraic_FinalIdeal_FinalRefIdeal := by
  intro m ρ m' ρ' _ hagree
  refine ⟨fun c => Cert.FinalValue.arr m c, Cert.FinalValue.run m ρ, ?_⟩
  refine (θ_run Cert.FinalRefIdeal.defs _ _).mono (fun _ h c => ⟨?_, (h c).2⟩) (Cert.FinalRefIdeal.Value.run (F := Ideal) m' ρ')
  obtain ⟨e0, e1⟩ := hagree c
  refine (h c).1.trans ((Cert.FinalRefIdeal.Read.val_main_v13_eq _ _).trans ?_)
  rw [e0, e1]
  exact (Cert.FinalValue.result_eq m c).symm

theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

theorem algebraic_AdaIdeal_AdaRefIdeal : algebraic_AdaIdeal_AdaRefIdeal := by
  intro m ρ m' ρ' _ hagree
  refine ⟨fun c => Cert.AdaValue.arr m c, Cert.AdaValue.run m ρ, ?_⟩
  refine (θ_run Cert.AdaRefIdeal.defs _ _).mono (fun _ h c => ⟨?_, (h c).2⟩) (Cert.AdaRefIdeal.Value.run (F := Ideal) m' ρ')
  obtain ⟨e0, e1, e2⟩ := hagree c
  refine (h c).1.trans ((Cert.AdaRefIdeal.Read.val_main_v8_eq _ _ _).trans ?_)
  rw [e0, e1, e2]
  exact (Cert.AdaValue.result_eq m c).symm

theorem quiescent_ModRefIdeal : quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

theorem algebraic_ModIdeal_ModRefIdeal : algebraic_ModIdeal_ModRefIdeal := by
  intro m ρ m' ρ' _ hagree
  refine ⟨fun c => Cert.ModValue.arr m c, Cert.ModValue.run m ρ, ?_⟩
  refine (θ_run Cert.ModRefIdeal.defs _ _).mono (fun _ h c => ⟨?_, (h c).2⟩) (Cert.ModRefIdeal.Value.run (F := Ideal) m' ρ')
  obtain ⟨e0, e1, e2, e3⟩ := hagree c
  refine (h c).1.trans ((Cert.ModRefIdeal.Read.val_main_v19_eq _ _ _ _).trans ?_)
  rw [e0, e1, e2, e3]
  exact (Cert.ModValue.result_eq m c).symm

theorem quiescent_GmlpRefIdeal : quiescent_GmlpRefIdeal := fun m ρ _ =>
  (θ_run Cert.GmlpRefIdeal.defs _ _).mono (fun r h => ⟨fun c => (h c).2, sem_eq_zero_of_no_sems (by decide) r.2⟩)
    (Cert.GmlpRefIdeal.Value.run (F := Ideal) m ρ)

theorem algebraic_GmlpIdeal_GmlpRefIdeal : algebraic_GmlpIdeal_GmlpRefIdeal := by
  intro m ρ m' ρ' _ hagree
  refine ⟨fun c => Cert.GmlpValue.arr m c, Cert.GmlpValue.run m ρ, ?_⟩
  refine (θ_run Cert.GmlpRefIdeal.defs _ _).mono (fun _ h c => ⟨?_, (h c).2⟩) (Cert.GmlpRefIdeal.Value.run (F := Ideal) m' ρ')
  obtain ⟨e0, e1, e2, e3⟩ := hagree c
  refine (h c).1.trans ((Cert.GmlpRefIdeal.Read.val_main_v30_eq _ _ _ _).trans ?_)
  rw [e0, e1, e2, e3]
  exact (Cert.GmlpValue.result_eq m c).symm

theorem quiescent_ConvRefIdeal : quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

theorem algebraic_ConvIdeal_ConvRefIdeal : algebraic_ConvIdeal_ConvRefIdeal := by
  intro m ρ m' ρ' _ hagree
  refine ⟨fun c => Cert.ConvValue.arr m c, Cert.ConvValue.run m ρ, ?_⟩
  refine (θ_run Cert.ConvRefIdeal.defs _ _).mono (fun _ h c => ⟨?_, (h c).2⟩) (Cert.ConvRefIdeal.Value.run (F := Ideal) m' ρ')
  obtain ⟨e0, e1, e2⟩ := hagree c
  refine (h c).1.trans ((Cert.ConvRefIdeal.Read.val_main_v41_eq _ _).trans ?_)
  rw [e0, e1, e2]
  exact (Cert.ConvValue.result_eq m c).symm

theorem quiescent_CombRefIdeal : quiescent_CombRefIdeal := fun m ρ _ =>
  (θ_run Cert.CombRefIdeal.defs _ _).mono (fun r h => ⟨fun c => (h c).2, sem_eq_zero_of_no_sems (by decide) r.2⟩)
    (Cert.CombRefIdeal.Value.run (F := Ideal) m ρ)

theorem algebraic_CombIdeal_CombRefIdeal : algebraic_CombIdeal_CombRefIdeal := by
  intro m ρ m' ρ' _ hagree
  refine ⟨fun c => Cert.CombValue.arr m c, Cert.CombValue.run m ρ, ?_⟩
  refine (θ_run Cert.CombRefIdeal.defs _ _).mono (fun _ h c => ⟨?_, (h c).2⟩) (Cert.CombRefIdeal.Value.run (F := Ideal) m' ρ')
  obtain ⟨e0, e1, e2, e3, e4⟩ := hagree c
  refine (h c).1.trans ((Cert.CombRefIdeal.Read.val_main_v46_eq _ _ _ _ _).trans ?_)
  rw [e0, e1, e2, e3, e4]
  exact (Cert.CombValue.result_eq m c).symm

theorem claim : Cert.Claim := ⟨Cert.Ffn.Gen.facts, Cert.FfnIdeal.Gen.facts, Cert.FfnRefIdeal.Gen.facts,
  Cert.InZ.Gen.facts, Cert.InZIdeal.Gen.facts, Cert.InZRefIdeal.Gen.facts,
  Cert.InXbc.Gen.facts, Cert.InXbcIdeal.Gen.facts, Cert.InXbcRefIdeal.Gen.facts,
  Cert.InDt.Gen.facts, Cert.InDtIdeal.Gen.facts, Cert.InDtRefIdeal.Gen.facts,
  Cert.Out.Gen.facts, Cert.OutIdeal.Gen.facts, Cert.OutRefIdeal.Gen.facts,
  Cert.AbIn.Gen.facts, Cert.AbInIdeal.Gen.facts, Cert.AbInRefIdeal.Gen.facts,
  Cert.AbOut.Gen.facts, Cert.AbOutIdeal.Gen.facts, Cert.AbOutRefIdeal.Gen.facts,
  Cert.GateNorm.Gen.facts, Cert.GateNormIdeal.Gen.facts, Cert.GateNormRefIdeal.Gen.facts,
  Cert.Final.Gen.facts, Cert.FinalIdeal.Gen.facts, Cert.FinalRefIdeal.Gen.facts,
  Cert.Ada.Gen.facts, Cert.AdaIdeal.Gen.facts, Cert.AdaRefIdeal.Gen.facts,
  Cert.Mod.Gen.facts, Cert.ModIdeal.Gen.facts, Cert.ModRefIdeal.Gen.facts,
  Cert.Gmlp.Gen.facts, Cert.GmlpIdeal.Gen.facts, Cert.GmlpRefIdeal.Gen.facts,
  Cert.Conv.Gen.facts, Cert.ConvIdeal.Gen.facts, Cert.ConvRefIdeal.Gen.facts,
  Cert.Comb.Gen.facts, Cert.CombIdeal.Gen.facts, Cert.CombRefIdeal.Gen.facts,
  fun m ρ _ => Cert.Ffn.Gen.frame m ρ, fun m ρ _ => Cert.FfnIdeal.Gen.frame m ρ, quiescent_FfnRefIdeal,
  fun m ρ _ => Cert.InZ.Gen.frame m ρ, fun m ρ _ => Cert.InZIdeal.Gen.frame m ρ, quiescent_InZRefIdeal,
  fun m ρ _ => Cert.InXbc.Gen.frame m ρ, fun m ρ _ => Cert.InXbcIdeal.Gen.frame m ρ, quiescent_InXbcRefIdeal,
  fun m ρ _ => Cert.InDt.Gen.frame m ρ, fun m ρ _ => Cert.InDtIdeal.Gen.frame m ρ, quiescent_InDtRefIdeal,
  fun m ρ _ => Cert.Out.Gen.frame m ρ, fun m ρ _ => Cert.OutIdeal.Gen.frame m ρ, quiescent_OutRefIdeal,
  fun m ρ _ => Cert.AbIn.Gen.frame m ρ, fun m ρ _ => Cert.AbInIdeal.Gen.frame m ρ, quiescent_AbInRefIdeal,
  fun m ρ _ => Cert.AbOut.Gen.frame m ρ, fun m ρ _ => Cert.AbOutIdeal.Gen.frame m ρ, quiescent_AbOutRefIdeal,
  fun m ρ _ => Cert.GateNorm.Gen.frame m ρ, fun m ρ _ => Cert.GateNormIdeal.Gen.frame m ρ, quiescent_GateNormRefIdeal,
  fun m ρ _ => Cert.Final.Gen.frame m ρ, fun m ρ _ => Cert.FinalIdeal.Gen.frame m ρ, quiescent_FinalRefIdeal,
  fun m ρ _ => Cert.Ada.Gen.frame m ρ, fun m ρ _ => Cert.AdaIdeal.Gen.frame m ρ, quiescent_AdaRefIdeal,
  fun m ρ _ => Cert.Mod.Gen.frame m ρ, fun m ρ _ => Cert.ModIdeal.Gen.frame m ρ, quiescent_ModRefIdeal,
  fun m ρ _ => Cert.Gmlp.Gen.frame m ρ, fun m ρ _ => Cert.GmlpIdeal.Gen.frame m ρ, quiescent_GmlpRefIdeal,
  fun m ρ _ => Cert.Conv.Gen.frame m ρ, fun m ρ _ => Cert.ConvIdeal.Gen.frame m ρ, quiescent_ConvRefIdeal,
  fun m ρ _ => Cert.Comb.Gen.frame m ρ, fun m ρ _ => Cert.CombIdeal.Gen.frame m ρ, quiescent_CombRefIdeal,
  (trivial : preserves_Ffn_FfnIdeal), algebraic_FfnIdeal_FfnRefIdeal,
  (trivial : preserves_InZ_InZIdeal), algebraic_InZIdeal_InZRefIdeal,
  (trivial : preserves_InXbc_InXbcIdeal), algebraic_InXbcIdeal_InXbcRefIdeal,
  (trivial : preserves_InDt_InDtIdeal), algebraic_InDtIdeal_InDtRefIdeal,
  (trivial : preserves_Out_OutIdeal), algebraic_OutIdeal_OutRefIdeal,
  (trivial : preserves_AbIn_AbInIdeal), algebraic_AbInIdeal_AbInRefIdeal,
  (trivial : preserves_AbOut_AbOutIdeal), algebraic_AbOutIdeal_AbOutRefIdeal,
  (trivial : preserves_GateNorm_GateNormIdeal), algebraic_GateNormIdeal_GateNormRefIdeal,
  (trivial : preserves_Final_FinalIdeal), algebraic_FinalIdeal_FinalRefIdeal,
  (trivial : preserves_Ada_AdaIdeal), algebraic_AdaIdeal_AdaRefIdeal,
  (trivial : preserves_Mod_ModIdeal), algebraic_ModIdeal_ModRefIdeal,
  (trivial : preserves_Gmlp_GmlpIdeal), algebraic_GmlpIdeal_GmlpRefIdeal,
  (trivial : preserves_Conv_ConvIdeal), algebraic_ConvIdeal_ConvRefIdeal,
  (trivial : preserves_Comb_CombIdeal), algebraic_CombIdeal_CombRefIdeal⟩

end Cert.Proof

end
